-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4x256x1024 : Shape := ⟨3, ![4, 256, 1024]⟩
abbrev S1024x1024 : Shape := ⟨2, ![1024, 1024]⟩
abbrev S1024x8192 : Shape := ⟨2, ![1024, 8192]⟩
abbrev S_ : Shape := ⟨0, ![]⟩

class Facts : Prop where
  bitsLt_bf16_f32 : FTy.bits .bf16 < FTy.bits .f32
  bcast_S_S4x256x1024 : S_.BroadcastsInDim S4x256x1024 (![] : Fin 0 → Fin S4x256x1024.rank)
  bcast_S_S1024x1024 : S_.BroadcastsInDim S1024x1024 (![] : Fin 0 → Fin S1024x1024.rank)
  bcast_S_S1024x8192 : S_.BroadcastsInDim S1024x8192 (![] : Fin 0 → Fin S1024x8192.rank)

variable [Facts]

def fn {F : FTy → Type} [FloatOps F] (main_arg0 : FVec F S4x256x1024 .bf16) (main_arg1 : FVec F S1024x1024 .bf16) (main_arg2 : FVec F S1024x8192 .bf16) (main_arg3 : FVec F S1024x8192 .bf16) (main_arg4 : FVec F S1024x1024 .bf16) : IVec S4x256x1024 1 × IVec S1024x1024 1 × IVec S1024x8192 1 :=
  let main_v0 : FVec F S4x256x1024 .f32 := (extf .f32 · bitsLt_bf16_f32) main_arg0
  let main_v1 : FVec F S4x256x1024 .f32 := Host.absf main_v0
  let main_cst : FVec F S_ .f32 := constant S_ .f32 0x7F800000#32
  let main_v2 : FVec F S4x256x1024 .f32 := broadcastInDim S4x256x1024 ![] bcast_S_S4x256x1024 main_cst
  let main_v3 : IVec S4x256x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S1024x8192 .f32 := (extf .f32 · bitsLt_bf16_f32) main_arg2
  let main_v9 : FVec F S1024x8192 .f32 := Host.absf main_v8
  let main_cst_1 : FVec F S_ .f32 := constant S_ .f32 0x7F800000#32
  let main_v10 : FVec F S1024x8192 .f32 := broadcastInDim S1024x8192 ![] bcast_S_S1024x8192 main_cst_1
  let main_v11 : IVec S1024x8192 1 := cmpf .olt main_v9 main_v10
  (main_v3, main_v7, main_v11)
-- ==== Pre_finite_ReferenceIdeal.lean ====
abbrev S4x256x1024 : Shape := ⟨3, ![4, 256, 1024]⟩
abbrev S1024x32768 : Shape := ⟨2, ![1024, 32768]⟩
abbrev S1024x8192 : Shape := ⟨2, ![1024, 8192]⟩
abbrev S32768x1024 : Shape := ⟨2, ![32768, 1024]⟩
abbrev S_ : Shape := ⟨0, ![]⟩

class Facts : Prop where
  bitsLt_bf16_f32 : FTy.bits .bf16 < FTy.bits .f32
  bcast_S_S4x256x1024 : S_.BroadcastsInDim S4x256x1024 (![] : Fin 0 → Fin S4x256x1024.rank)
  bcast_S_S1024x32768 : S_.BroadcastsInDim S1024x32768 (![] : Fin 0 → Fin S1024x32768.rank)
  bcast_S_S1024x8192 : S_.BroadcastsInDim S1024x8192 (![] : Fin 0 → Fin S1024x8192.rank)

variable [Facts]

def fn {F : FTy → Type} [FloatOps F] (main_arg0 : FVec F S4x256x1024 .bf16) (main_arg1 : FVec F S1024x32768 .bf16) (main_arg2 : FVec F S1024x8192 .bf16) (main_arg3 : FVec F S1024x8192 .bf16) (main_arg4 : FVec F S32768x1024 .bf16) : IVec S4x256x1024 1 × IVec S1024x32768 1 × IVec S1024x8192 1 :=
  let main_v0 : FVec F S4x256x1024 .f32 := (extf .f32 · bitsLt_bf16_f32) main_arg0
  let main_v1 : FVec F S4x256x1024 .f32 := Host.absf main_v0
  let main_cst : FVec F S_ .f32 := constant S_ .f32 0x7F800000#32
  let main_v2 : FVec F S4x256x1024 .f32 := broadcastInDim S4x256x1024 ![] bcast_S_S4x256x1024 main_cst
  let main_v3 : IVec S4x256x1024 1 := cmpf .olt main_v1 main_v2
  let main_v4 : FVec F S1024x32768 .f32 := (extf .f32 · bitsLt_bf16_f32) main_arg1
  let main_v5 : FVec F S1024x32768 .f32 := Host.absf main_v4
  let main_cst_0 : FVec F S_ .f32 := constant S_ .f32 0x7F800000#32
  let main_v6 : FVec F S1024x32768 .f32 := broadcastInDim S1024x32768 ![] bcast_S_S1024x32768 main_cst_0
  let main_v7 : IVec S1024x32768 1 := cmpf .olt main_v5 main_v6
  let main_v8 : FVec F S1024x8192 .f32 := (extf .f32 · bitsLt_bf16_f32) main_arg2
  let main_v9 : FVec F S1024x8192 .f32 := Host.absf main_v8
  let main_cst_1 : FVec F S_ .f32 := constant S_ .f32 0x7F800000#32
  let main_v10 : FVec F S1024x8192 .f32 := broadcastInDim S1024x8192 ![] bcast_S_S1024x8192 main_cst_1
  let main_v11 : IVec S1024x8192 1 := cmpf .olt main_v9 main_v10
  (main_v3, main_v7, main_v11)
-- ==== Kernel.lean ====
abbrev S4x256x1024 : Shape := ⟨3, ![4, 256, 1024]⟩
abbrev S1024x1024 : Shape := ⟨2, ![1024, 1024]⟩
abbrev S1024x8192 : Shape := ⟨2, ![1024, 8192]⟩
abbrev S_ : Shape := ⟨0, ![]⟩
abbrev S4x256x8x128 : Shape := ⟨4, ![4, 256, 8, 128]⟩
abbrev S1024x256 : Shape := ⟨2, ![1024, 256]⟩
abbrev S4x256x2x128 : Shape := ⟨4, ![4, 256, 2, 128]⟩
abbrev S4x256x2x4x128 : Shape := ⟨5, ![4, 256, 2, 4, 128]⟩
abbrev S4x8x256x256 : Shape := ⟨4, ![4, 8, 256, 256]⟩
abbrev S4x8x256 : Shape := ⟨3, ![4, 8, 256]⟩
abbrev S4x8x256x1 : Shape := ⟨4, ![4, 8, 256, 1]⟩
abbrev S4x8x128x256 : Shape := ⟨4, ![4, 8, 128, 256]⟩
abbrev S32x32x1024 : Shape := ⟨3, ![32, 32, 1024]⟩
abbrev S24x32x1024 : Shape := ⟨3, ![24, 32, 1024]⟩
abbrev S7x32x1024 : Shape := ⟨3, ![7, 32, 1024]⟩
abbrev S24 : Shape := ⟨1, ![24]⟩
abbrev S7 : Shape := ⟨1, ![7]⟩
abbrev S256x1024 : Shape := ⟨2, ![256, 1024]⟩
abbrev S8x32x1024 : Shape := ⟨3, ![8, 32, 1024]⟩
abbrev S1 : Shape := ⟨1, ![1]⟩
abbrev S1x32x1024 : Shape := ⟨3, ![1, 32, 1024]⟩
abbrev S32x1024 : Shape := ⟨2, ![32, 1024]⟩

abbrev nBuf : Space → Nat
  | .hbm => 69
  | .vmem => 7
  | .smem => 0
  | _ => 0

abbrev bufTy : (tb : Table) → Fin (tcTables nBuf tb) → BufTy
  | .hbm, ⟨0, _⟩ => ⟨S4x256x1024, .bf16⟩
  | .hbm, ⟨1, _⟩ => ⟨S1024x1024, .bf16⟩
  | .hbm, ⟨2, _⟩ => ⟨S1024x8192, .bf16⟩
  | .hbm, ⟨3, _⟩ => ⟨S1024x8192, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S4x256x8x128, .bf16⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1024x256, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1024x256, .bf16⟩
  | .hbm, ⟨33, _⟩ => ⟨S1024x256, .f32⟩
  | .hbm, ⟨34, _⟩ => ⟨S1024x256, .bf16⟩
  | .hbm, ⟨35, _⟩ => ⟨S4x256x2x128, .bf16⟩
  | .hbm, ⟨36, _⟩ => ⟨S1024x256, .f32⟩
  | .hbm, ⟨37, _⟩ => ⟨S1024x256, .bf16⟩
  | .hbm, ⟨38, _⟩ => ⟨S4x256x2x128, .bf16⟩
  | .hbm, ⟨39, _⟩ => ⟨S4x256x2x4x128, .bf16⟩
  | .hbm, ⟨40, _⟩ => ⟨S4x256x8x128, .bf16⟩
  | .hbm, ⟨41, _⟩ => ⟨S4x256x2x4x128, .bf16⟩
  | .hbm, ⟨42, _⟩ => ⟨S4x256x8x128, .bf16⟩
  | .hbm, ⟨43, _⟩ => ⟨S4x8x256x256, .f32⟩
  | .hbm, ⟨44, _⟩ => ⟨S_, .f32⟩
  | .hbm, ⟨45, _⟩ => ⟨S4x8x256x256, .f32⟩
  | .hbm, ⟨46, _⟩ => ⟨S4x8x256x256, .f32⟩
  | .hbm, ⟨47, _⟩ => ⟨S_, .f32⟩
  | .hbm, ⟨48, _⟩ => ⟨S4x8x256, .f32⟩
  | .hbm, ⟨49, _⟩ => ⟨S_, .f32⟩
  | .hbm, ⟨50, _⟩ => ⟨S4x8x256, .f32⟩
  | .hbm, ⟨51, _⟩ => ⟨S4x8x256, .f32⟩
  | .hbm, ⟨52, _⟩ => ⟨S4x8x256x1, .f32⟩
  | .hbm, ⟨53, _⟩ => ⟨S4x8x256x256, .f32⟩
  | .hbm, ⟨54, _⟩ => ⟨S4x8x256x256, .f32⟩
  | .hbm, ⟨55, _⟩ => ⟨S4x8x256x256, .f32⟩
  | .hbm, ⟨56, _⟩ => ⟨S_, .f32⟩
  | .hbm, ⟨57, _⟩ => ⟨S4x8x256, .f32⟩
  | .hbm, ⟨58, _⟩ => ⟨S4x8x256x1, .f32⟩
  | .hbm, ⟨59, _⟩ => ⟨S4x8x256x256, .f32⟩
  | .hbm, ⟨60, _⟩ => ⟨S4x8x256x256, .f32⟩
  | .hbm, ⟨61, _⟩ => ⟨S4x8x256x256, .bf16⟩
  | .hbm, ⟨62, _⟩ => ⟨S4x8x128x256, .f32⟩
  | .hbm, ⟨63, _⟩ => ⟨S4x256x8x128, .f32⟩
  | .hbm, ⟨64, _⟩ => ⟨S1024x1024, .f32⟩
  | .hbm, ⟨65, _⟩ => ⟨S1024x1024, .bf16⟩
  | .hbm, ⟨66, _⟩ => ⟨S32x32x1024, .bf16⟩
  | .hbm, ⟨67, _⟩ => ⟨S32x32x1024, .f32⟩
  | .hbm, ⟨68, _⟩ => ⟨S4x256x1024, .f32⟩
  | .local _ .vmem, ⟨0, _⟩ => ⟨S1024x1024, .bf16⟩
  | .local _ .vmem, ⟨1, _⟩ => ⟨S1024x1024, .bf16⟩
  | .local _ .vmem, ⟨2, _⟩ => ⟨S32x32x1024, .bf16⟩
  | .local _ .vmem, ⟨3, _⟩ => ⟨S32x32x1024, .bf16⟩
  | .local _ .vmem, ⟨4, _⟩ => ⟨S24x32x1024, .bf16⟩
  | .local _ .vmem, ⟨5, _⟩ => ⟨S24x32x1024, .bf16⟩
  | .local _ .vmem, ⟨6, _⟩ => ⟨S7x32x1024, .bf16⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 127 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | _ => false

abbrev sig : RefSig :=
  (ofTc nBuf bufTy 1 127 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_c_5 : Ref sig .tc := ⟨.hbm, 24, rfl⟩
abbrev main_v14 : Ref sig .tc := ⟨.hbm, 25, rfl⟩
abbrev main_c_6 : Ref sig .tc := ⟨.hbm, 26, rfl⟩
abbrev main_v15 : Ref sig .tc := ⟨.hbm, 27, rfl⟩
abbrev main_c_7 : Ref sig .tc := ⟨.hbm, 28, rfl⟩
abbrev main_v16 : Ref sig .tc := ⟨.hbm, 29, rfl⟩
abbrev main_v17 : Ref sig .tc := ⟨.hbm, 30, rfl⟩
abbrev main_c_8 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c256_i32 : BitVec 32 := 256#32
  let v56 : BitVec 32 := Scalar.muli v29 c256_i32
  let v57 : Index := Scalar.indexCast v56
  let c0 : Index := 0#32
  ![v57.toNat, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_27 : BitVec 32 := 8#32
  let v65 : BitVec 32 := Scalar.muli v29 c8_i32_27
  let v66 : Index := Scalar.indexCast v65
  let c0_28 : Index := 0#32
  let c0_29 : Index := 0#32
  ![v66.toNat, 0, 0]
def k0_dev1 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_36 : BitVec 32 := 1#32
  let v80 : BitVec 32 := Scalar.muli v42 c1_i32_36
  let v81 : BitVec 32 := Scalar.addi c0_i32_37 v80
  v81.toNat
def k0_dev2 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_24 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c3_i32 : BitVec 32 := 3#32
  let v43 : BitVec 32 := Scalar.addi v29 c3_i32
  let c4_i32_18 : BitVec 32 := 4#32
  let c0_i32_19 : BitVec 32 := 0#32
  let v44 : BitVec 1 := Scalar.cmpi .eq c4_i32_18 c0_i32_19
  let c1_i32_20 : BitVec 32 := 1#32
  let v45 : BitVec 32 := Scalar.select v44 c1_i32_20 c4_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let v54 : BitVec 32 := Scalar.muli c8_i32_24 v53
  let v55 : BitVec 32 := Scalar.addi v12 v54
  let c1_i32_39 : BitVec 32 := 1#32
  let v82 : BitVec 32 := Scalar.muli v55 c1_i32_39
  let v83 : BitVec 32 := Scalar.addi c0_i32_40 v82
  v83.toNat
def k0_dev3 (d0 : Dev nD) : Nat :=
  let c0_i32_43 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let v71 : BitVec 32 := Scalar.muli c8_i32_30 v29
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_31 : BitVec 32 := 1#32
  let v72 : BitVec 32 := Scalar.xori v12 c1_i32_31
  let v73 : BitVec 32 := Scalar.addi v71 v72
  let c1_i32_42 : BitVec 32 := 1#32
  let v84 : BitVec 32 := Scalar.muli v73 c1_i32_42
  let v85 : BitVec 32 := Scalar.addi c0_i32_43 v84
  v85.toNat
def k0_dev4 (d0 : Dev nD) : Nat :=
  let c0_i32_46 : BitVec 32 := 0#32
  let c8_i32_32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let v74 : BitVec 32 := Scalar.muli c8_i32_32 v29
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v75 : BitVec 32 := Scalar.xori v12 c2_i32
  let v76 : BitVec 32 := Scalar.addi v74 v75
  let c1_i32_45 : BitVec 32 := 1#32
  let v86 : BitVec 32 := Scalar.muli v76 c1_i32_45
  let v87 : BitVec 32 := Scalar.addi c0_i32_46 v86
  v87.toNat
def k0_dev5 (d0 : Dev nD) : Nat :=
  let c0_i32_49 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let v77 : BitVec 32 := Scalar.muli c8_i32_33 v29
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_34 : BitVec 32 := 4#32
  let v78 : BitVec 32 := Scalar.xori v12 c4_i32_34
  let v79 : BitVec 32 := Scalar.addi v77 v78
  let c1_i32_48 : BitVec 32 := 1#32
  let v88 : BitVec 32 := Scalar.muli v79 c1_i32_48
  let v89 : BitVec 32 := Scalar.addi c0_i32_49 v88
  v89.toNat
def k0_off3 (d0 : Dev nD) (c0_i32_59 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_50 : BitVec 32 := 8#32
  let v90 : BitVec 32 := Scalar.addi v29 c8_i32_50
  let c0_i32_51 : BitVec 32 := 0#32
  let v91 : BitVec 32 := Scalar.subi v90 c0_i32_51
  let c4_i32_52 : BitVec 32 := 4#32
  let c0_i32_53 : BitVec 32 := 0#32
  let v92 : BitVec 1 := Scalar.cmpi .eq c4_i32_52 c0_i32_53
  let c1_i32_54 : BitVec 32 := 1#32
  let v93 : BitVec 32 := Scalar.select v92 c1_i32_54 c4_i32_52
  let v94 : BitVec 32 := Scalar.remsi v91 v93
  let c0_i32_56 : BitVec 32 := 0#32
  let v96 : BitVec 1 := Scalar.cmpi .slt v94 c0_i32_56
  let c0_i32_57 : BitVec 32 := 0#32
  let v97 : BitVec 1 := Scalar.cmpi .slt v93 c0_i32_57
  let v98 : BitVec 1 := Scalar.xori v96 v97
  let c0_i32_55 : BitVec 32 := 0#32
  let v95 : BitVec 1 := Scalar.cmpi .ne v94 c0_i32_55
  let v99 : BitVec 1 := Scalar.andi v98 v95
  let v100 : BitVec 32 := Scalar.addi v94 v93
  let v101 : BitVec 32 := Scalar.select v99 v100 v94
  let c8_i32_58 : BitVec 32 := 8#32
  let v102 : BitVec 32 := Scalar.muli v101 c8_i32_58
  let v103 : BitVec 32 := Scalar.addi v102 c0_i32_59
  let c0_i32_67 : BitVec 32 := 0#32
  let c0_i32_68 : BitVec 32 := 0#32
  ![v103.toNat, 0, 0]
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_63 : BitVec 32 := 1#32
  let v104 : BitVec 32 := Scalar.muli v42 c1_i32_63
  let v105 : BitVec 32 := Scalar.addi c0_i32_64 v104
  v105.toNat
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_82 : BitVec 32 := 1#32
  let v128 : BitVec 32 := Scalar.muli v42 c1_i32_82
  let v129 : BitVec 32 := Scalar.addi c0_i32_83 v128
  v129.toNat
def k0_dev8 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_101 : BitVec 32 := 1#32
  let v152 : BitVec 32 := Scalar.muli v42 c1_i32_101
  let v153 : BitVec 32 := Scalar.addi c0_i32_102 v152
  v153.toNat
def k0_dev9 (d0 : Dev nD) : Nat :=
  let c0_i32_121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_120 : BitVec 32 := 1#32
  let v176 : BitVec 32 := Scalar.muli v42 c1_i32_120
  let v177 : BitVec 32 := Scalar.addi c0_i32_121 v176
  v177.toNat
def k0_dev10 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_139 : BitVec 32 := 1#32
  let v200 : BitVec 32 := Scalar.muli v42 c1_i32_139
  let v201 : BitVec 32 := Scalar.addi c0_i32_140 v200
  v201.toNat
def k0_dev11 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_158 : BitVec 32 := 1#32
  let v224 : BitVec 32 := Scalar.muli v42 c1_i32_158
  let v225 : BitVec 32 := Scalar.addi c0_i32_159 v224
  v225.toNat
def k0_dev12 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_176 : BitVec 32 := 1#32
  let v248 : BitVec 32 := Scalar.muli v42 c1_i32_176
  let v249 : BitVec 32 := Scalar.addi c0_i32_177 v248
  v249.toNat
def k0_dev13 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_194 : BitVec 32 := 1#32
  let v272 : BitVec 32 := Scalar.muli v42 c1_i32_194
  let v273 : BitVec 32 := Scalar.addi c0_i32_195 v272
  v273.toNat
def k0_off4 (d0 : Dev nD) (c0_i32_201 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_200 : BitVec 32 := 8#32
  let v282 : BitVec 32 := Scalar.addi v29 c8_i32_200
  let v283 : BitVec 32 := Scalar.subi v282 c0_i32_201
  let c1_i32_202 : BitVec 32 := 1#32
  let v284 : BitVec 32 := Scalar.subi v283 c1_i32_202
  let c4_i32_203 : BitVec 32 := 4#32
  let c0_i32_204 : BitVec 32 := 0#32
  let v285 : BitVec 1 := Scalar.cmpi .eq c4_i32_203 c0_i32_204
  let c1_i32_205 : BitVec 32 := 1#32
  let v286 : BitVec 32 := Scalar.select v285 c1_i32_205 c4_i32_203
  let v287 : BitVec 32 := Scalar.remsi v284 v286
  let c0_i32_207 : BitVec 32 := 0#32
  let v289 : BitVec 1 := Scalar.cmpi .slt v287 c0_i32_207
  let c0_i32_208 : BitVec 32 := 0#32
  let v290 : BitVec 1 := Scalar.cmpi .slt v286 c0_i32_208
  let v291 : BitVec 1 := Scalar.xori v289 v290
  let c0_i32_206 : BitVec 32 := 0#32
  let v288 : BitVec 1 := Scalar.cmpi .ne v287 c0_i32_206
  let v292 : BitVec 1 := Scalar.andi v291 v288
  let v293 : BitVec 32 := Scalar.addi v287 v286
  let v294 : BitVec 32 := Scalar.select v292 v293 v287
  let c256_i32_209 : BitVec 32 := 256#32
  let v295 : BitVec 32 := Scalar.muli v294 c256_i32_209
  let v296 : Index := Scalar.indexCast v295
  let c0_210 : Index := 0#32
  ![v296.toNat, 0]
def k0_off5 (d0 : Dev nD) (c0_i32_201 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_200 : BitVec 32 := 8#32
  let v282 : BitVec 32 := Scalar.addi v29 c8_i32_200
  let v283 : BitVec 32 := Scalar.subi v282 c0_i32_201
  let c1_i32_202 : BitVec 32 := 1#32
  let v284 : BitVec 32 := Scalar.subi v283 c1_i32_202
  let c4_i32_203 : BitVec 32 := 4#32
  let c0_i32_204 : BitVec 32 := 0#32
  let v285 : BitVec 1 := Scalar.cmpi .eq c4_i32_203 c0_i32_204
  let c1_i32_205 : BitVec 32 := 1#32
  let v286 : BitVec 32 := Scalar.select v285 c1_i32_205 c4_i32_203
  let v287 : BitVec 32 := Scalar.remsi v284 v286
  let c0_i32_207 : BitVec 32 := 0#32
  let v289 : BitVec 1 := Scalar.cmpi .slt v287 c0_i32_207
  let c0_i32_208 : BitVec 32 := 0#32
  let v290 : BitVec 1 := Scalar.cmpi .slt v286 c0_i32_208
  let v291 : BitVec 1 := Scalar.xori v289 v290
  let c0_i32_206 : BitVec 32 := 0#32
  let v288 : BitVec 1 := Scalar.cmpi .ne v287 c0_i32_206
  let v292 : BitVec 1 := Scalar.andi v291 v288
  let v293 : BitVec 32 := Scalar.addi v287 v286
  let v294 : BitVec 32 := Scalar.select v292 v293 v287
  let c8_i32_214 : BitVec 32 := 8#32
  let v304 : BitVec 32 := Scalar.muli v294 c8_i32_214
  let v305 : Index := Scalar.indexCast v304
  let c0_215 : Index := 0#32
  let c0_216 : Index := 0#32
  ![v305.toNat, 0, 0]
def k0_off6 (d0 : Dev nD) (c0_i32_201 : BitVec 32) (c0_i32_240 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_200 : BitVec 32 := 8#32
  let v282 : BitVec 32 := Scalar.addi v29 c8_i32_200
  let v283 : BitVec 32 := Scalar.subi v282 c0_i32_201
  let c1_i32_202 : BitVec 32 := 1#32
  let v284 : BitVec 32 := Scalar.subi v283 c1_i32_202
  let c4_i32_203 : BitVec 32 := 4#32
  let c0_i32_204 : BitVec 32 := 0#32
  let v285 : BitVec 1 := Scalar.cmpi .eq c4_i32_203 c0_i32_204
  let c1_i32_205 : BitVec 32 := 1#32
  let v286 : BitVec 32 := Scalar.select v285 c1_i32_205 c4_i32_203
  let v287 : BitVec 32 := Scalar.remsi v284 v286
  let c0_i32_207 : BitVec 32 := 0#32
  let v289 : BitVec 1 := Scalar.cmpi .slt v287 c0_i32_207
  let c0_i32_208 : BitVec 32 := 0#32
  let v290 : BitVec 1 := Scalar.cmpi .slt v286 c0_i32_208
  let v291 : BitVec 1 := Scalar.xori v289 v290
  let c0_i32_206 : BitVec 32 := 0#32
  let v288 : BitVec 1 := Scalar.cmpi .ne v287 c0_i32_206
  let v292 : BitVec 1 := Scalar.andi v291 v288
  let v293 : BitVec 32 := Scalar.addi v287 v286
  let v294 : BitVec 32 := Scalar.select v292 v293 v287
  let c8_i32_239 : BitVec 32 := 8#32
  let v333 : BitVec 32 := Scalar.muli v294 c8_i32_239
  let v334 : BitVec 32 := Scalar.addi v333 c0_i32_240
  let v335 : Index := Scalar.indexCast v334
  let c0_241 : Index := 0#32
  let c0_242 : Index := 0#32
  ![v335.toNat, 0, 0]
def k0_dev14 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_250 : BitVec 32 := 1#32
  let v342 : BitVec 32 := Scalar.muli v42 c1_i32_250
  let v343 : BitVec 32 := Scalar.addi c0_i32_251 v342
  v343.toNat
def k0_dev15 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_287 : BitVec 32 := 1#32
  let v385 : BitVec 32 := Scalar.muli v42 c1_i32_287
  let v386 : BitVec 32 := Scalar.addi c0_i32_288 v385
  v386.toNat
def k0_dev16 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_324 : BitVec 32 := 1#32
  let v428 : BitVec 32 := Scalar.muli v42 c1_i32_324
  let v429 : BitVec 32 := Scalar.addi c0_i32_325 v428
  v429.toNat
def k0_dev17 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_361 : BitVec 32 := 1#32
  let v471 : BitVec 32 := Scalar.muli v42 c1_i32_361
  let v472 : BitVec 32 := Scalar.addi c0_i32_362 v471
  v472.toNat
def k0_dev18 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_398 : BitVec 32 := 1#32
  let v514 : BitVec 32 := Scalar.muli v42 c1_i32_398
  let v515 : BitVec 32 := Scalar.addi c0_i32_399 v514
  v515.toNat
def k0_dev19 (d0 : Dev nD) : Nat :=
  let c0_i32_436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_435 : BitVec 32 := 1#32
  let v557 : BitVec 32 := Scalar.muli v42 c1_i32_435
  let v558 : BitVec 32 := Scalar.addi c0_i32_436 v557
  v558.toNat
def k0_dev20 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_472 : BitVec 32 := 1#32
  let v600 : BitVec 32 := Scalar.muli v42 c1_i32_472
  let v601 : BitVec 32 := Scalar.addi c0_i32_473 v600
  v601.toNat
def k0_dev21 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_509 : BitVec 32 := 1#32
  let v643 : BitVec 32 := Scalar.muli v42 c1_i32_509
  let v644 : BitVec 32 := Scalar.addi c0_i32_510 v643
  v644.toNat
def k0_dev22 (d0 : Dev nD) : Nat :=
  let c0_i32_555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_554 : BitVec 32 := 1#32
  let v699 : BitVec 32 := Scalar.muli v42 c1_i32_554
  let v700 : BitVec 32 := Scalar.addi c0_i32_555 v699
  v700.toNat
def k0_dev23 (d0 : Dev nD) : Nat :=
  let c0_i32_583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_582 : BitVec 32 := 1#32
  let v728 : BitVec 32 := Scalar.muli v42 c1_i32_582
  let v729 : BitVec 32 := Scalar.addi c0_i32_583 v728
  v729.toNat
def k0_dev24 (d0 : Dev nD) : Nat :=
  let c0_i32_611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_610 : BitVec 32 := 1#32
  let v757 : BitVec 32 := Scalar.muli v42 c1_i32_610
  let v758 : BitVec 32 := Scalar.addi c0_i32_611 v757
  v758.toNat
def k0_dev25 (d0 : Dev nD) : Nat :=
  let c0_i32_639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_638 : BitVec 32 := 1#32
  let v786 : BitVec 32 := Scalar.muli v42 c1_i32_638
  let v787 : BitVec 32 := Scalar.addi c0_i32_639 v786
  v787.toNat
def k0_dev26 (d0 : Dev nD) : Nat :=
  let c0_i32_667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_666 : BitVec 32 := 1#32
  let v815 : BitVec 32 := Scalar.muli v42 c1_i32_666
  let v816 : BitVec 32 := Scalar.addi c0_i32_667 v815
  v816.toNat
def k0_dev27 (d0 : Dev nD) : Nat :=
  let c0_i32_695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_694 : BitVec 32 := 1#32
  let v844 : BitVec 32 := Scalar.muli v42 c1_i32_694
  let v845 : BitVec 32 := Scalar.addi c0_i32_695 v844
  v845.toNat
def k0_dev28 (d0 : Dev nD) : Nat :=
  let c0_i32_723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_722 : BitVec 32 := 1#32
  let v873 : BitVec 32 := Scalar.muli v42 c1_i32_722
  let v874 : BitVec 32 := Scalar.addi c0_i32_723 v873
  v874.toNat
def k0_dev29 (d0 : Dev nD) : Nat :=
  let c0_i32_751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_750 : BitVec 32 := 1#32
  let v902 : BitVec 32 := Scalar.muli v42 c1_i32_750
  let v903 : BitVec 32 := Scalar.addi c0_i32_751 v902
  v903.toNat
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_1213 : BitVec 32 := 1#32
  let v1347 : BitVec 32 := Scalar.addi v29 c1_i32_1213
  let c4_i32_1214 : BitVec 32 := 4#32
  let c0_i32_1215 : BitVec 32 := 0#32
  let v1348 : BitVec 1 := Scalar.cmpi .eq c4_i32_1214 c0_i32_1215
  let c1_i32_1216 : BitVec 32 := 1#32
  let v1349 : BitVec 32 := Scalar.select v1348 c1_i32_1216 c4_i32_1214
  let v1350 : BitVec 32 := Scalar.remsi v1347 v1349
  let c0_i32_1218 : BitVec 32 := 0#32
  let v1352 : BitVec 1 := Scalar.cmpi .slt v1350 c0_i32_1218
  let c0_i32_1219 : BitVec 32 := 0#32
  let v1353 : BitVec 1 := Scalar.cmpi .slt v1349 c0_i32_1219
  let v1354 : BitVec 1 := Scalar.xori v1352 v1353
  let c0_i32_1217 : BitVec 32 := 0#32
  let v1351 : BitVec 1 := Scalar.cmpi .ne v1350 c0_i32_1217
  let v1355 : BitVec 1 := Scalar.andi v1354 v1351
  let v1356 : BitVec 32 := Scalar.addi v1350 v1349
  let v1357 : BitVec 32 := Scalar.select v1355 v1356 v1350
  let c8_i32_1220 : BitVec 32 := 8#32
  let v1358 : BitVec 32 := Scalar.muli v1357 c8_i32_1220
  let v1360 : Index := Scalar.indexCast v1358
  let c0_1224 : Index := 0#32
  let c0_1225 : Index := 0#32
  ![v1360.toNat, 0, 0]
def k0_off8 (d0 : Dev nD) (c1_i32_1228 : BitVec 32) (c2_i32_1229 : BitVec 32) (c0_i32_1241 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_1213 : BitVec 32 := 1#32
  let v1347 : BitVec 32 := Scalar.addi v29 c1_i32_1213
  let c4_i32_1214 : BitVec 32 := 4#32
  let c0_i32_1215 : BitVec 32 := 0#32
  let v1348 : BitVec 1 := Scalar.cmpi .eq c4_i32_1214 c0_i32_1215
  let c1_i32_1216 : BitVec 32 := 1#32
  let v1349 : BitVec 32 := Scalar.select v1348 c1_i32_1216 c4_i32_1214
  let v1350 : BitVec 32 := Scalar.remsi v1347 v1349
  let c0_i32_1218 : BitVec 32 := 0#32
  let v1352 : BitVec 1 := Scalar.cmpi .slt v1350 c0_i32_1218
  let c0_i32_1219 : BitVec 32 := 0#32
  let v1353 : BitVec 1 := Scalar.cmpi .slt v1349 c0_i32_1219
  let v1354 : BitVec 1 := Scalar.xori v1352 v1353
  let c0_i32_1217 : BitVec 32 := 0#32
  let v1351 : BitVec 1 := Scalar.cmpi .ne v1350 c0_i32_1217
  let v1355 : BitVec 1 := Scalar.andi v1354 v1351
  let v1356 : BitVec 32 := Scalar.addi v1350 v1349
  let v1357 : BitVec 32 := Scalar.select v1355 v1356 v1350
  let c8_i32_1220 : BitVec 32 := 8#32
  let v1358 : BitVec 32 := Scalar.muli v1357 c8_i32_1220
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1365 : BitVec 32 := Scalar.xori v12 c1_i32_1228
  let c0_i32_1230 : BitVec 32 := 0#32
  let v1366 : BitVec 1 := Scalar.cmpi .eq c2_i32_1229 c0_i32_1230
  let c1_i32_1231 : BitVec 32 := 1#32
  let v1367 : BitVec 32 := Scalar.select v1366 c1_i32_1231 c2_i32_1229
  let v1368 : BitVec 32 := Scalar.remsi v1365 v1367
  let c0_i32_1233 : BitVec 32 := 0#32
  let v1370 : BitVec 1 := Scalar.cmpi .slt v1368 c0_i32_1233
  let c0_i32_1234 : BitVec 32 := 0#32
  let v1371 : BitVec 1 := Scalar.cmpi .slt v1367 c0_i32_1234
  let v1372 : BitVec 1 := Scalar.xori v1370 v1371
  let c0_i32_1232 : BitVec 32 := 0#32
  let v1369 : BitVec 1 := Scalar.cmpi .ne v1368 c0_i32_1232
  let v1373 : BitVec 1 := Scalar.andi v1372 v1369
  let v1374 : BitVec 32 := Scalar.addi v1368 v1367
  let v1375 : BitVec 32 := Scalar.select v1373 v1374 v1368
  let v1386 : BitVec 32 := Scalar.addi v1358 v1375
  let v1387 : BitVec 32 := Scalar.addi v1386 c0_i32_1241
  let c0_i32_1249 : BitVec 32 := 0#32
  let c0_i32_1250 : BitVec 32 := 0#32
  ![v1387.toNat, 0, 0]
def k0_off8_at (r : Fin 7) : BitVec 32 × BitVec 32 × BitVec 32 :=
  if r.val < 3 then
    if r.val < 1 then
      (1#32, 2#32, 0#32)
    else
      if r.val < 2 then
        (1#32, 2#32, 2#32)
      else
        (1#32, 2#32, 4#32)
  else
    if r.val < 5 then
      if r.val < 4 then
        (1#32, 2#32, 6#32)
      else
        (2#32, 4#32, 0#32)
    else
      if r.val < 6 then
        (2#32, 4#32, 4#32)
      else
        (4#32, 8#32, 0#32)
def k0_dev30 (d0 : Dev nD) : Nat :=
  let c0_i32_1246 : BitVec 32 := 0#32
  let c8_i32_1226 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let v1362 : BitVec 32 := Scalar.muli c8_i32_1226 v29
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1227 : BitVec 32 := 1#32
  let v1363 : BitVec 32 := Scalar.xori v12 c1_i32_1227
  let v1364 : BitVec 32 := Scalar.addi v1362 v1363
  let c1_i32_1245 : BitVec 32 := 1#32
  let v1388 : BitVec 32 := Scalar.muli v1364 c1_i32_1245
  let v1389 : BitVec 32 := Scalar.addi c0_i32_1246 v1388
  v1389.toNat
def k0_dev31 (d0 : Dev nD) : Nat :=
  let c0_i32_1256 : BitVec 32 := 0#32
  let c8_i32_1226 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let v1362 : BitVec 32 := Scalar.muli c8_i32_1226 v29
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1227 : BitVec 32 := 1#32
  let v1363 : BitVec 32 := Scalar.xori v12 c1_i32_1227
  let v1364 : BitVec 32 := Scalar.addi v1362 v1363
  let c1_i32_1255 : BitVec 32 := 1#32
  let v1400 : BitVec 32 := Scalar.muli v1364 c1_i32_1255
  let v1401 : BitVec 32 := Scalar.addi c0_i32_1256 v1400
  v1401.toNat
def k0_dev32 (d0 : Dev nD) : Nat :=
  let c0_i32_1266 : BitVec 32 := 0#32
  let c8_i32_1226 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let v1362 : BitVec 32 := Scalar.muli c8_i32_1226 v29
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1227 : BitVec 32 := 1#32
  let v1363 : BitVec 32 := Scalar.xori v12 c1_i32_1227
  let v1364 : BitVec 32 := Scalar.addi v1362 v1363
  let c1_i32_1265 : BitVec 32 := 1#32
  let v1412 : BitVec 32 := Scalar.muli v1364 c1_i32_1265
  let v1413 : BitVec 32 := Scalar.addi c0_i32_1266 v1412
  v1413.toNat
def k0_dev33 (d0 : Dev nD) : Nat :=
  let c0_i32_1276 : BitVec 32 := 0#32
  let c8_i32_1226 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let v1362 : BitVec 32 := Scalar.muli c8_i32_1226 v29
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1227 : BitVec 32 := 1#32
  let v1363 : BitVec 32 := Scalar.xori v12 c1_i32_1227
  let v1364 : BitVec 32 := Scalar.addi v1362 v1363
  let c1_i32_1275 : BitVec 32 := 1#32
  let v1424 : BitVec 32 := Scalar.muli v1364 c1_i32_1275
  let v1425 : BitVec 32 := Scalar.addi c0_i32_1276 v1424
  v1425.toNat
def k0_off9 (d0 : Dev nD) (c2_i32_1235 : BitVec 32) (c0_i32_1298 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_1213 : BitVec 32 := 1#32
  let v1347 : BitVec 32 := Scalar.addi v29 c1_i32_1213
  let c4_i32_1214 : BitVec 32 := 4#32
  let c0_i32_1215 : BitVec 32 := 0#32
  let v1348 : BitVec 1 := Scalar.cmpi .eq c4_i32_1214 c0_i32_1215
  let c1_i32_1216 : BitVec 32 := 1#32
  let v1349 : BitVec 32 := Scalar.select v1348 c1_i32_1216 c4_i32_1214
  let v1350 : BitVec 32 := Scalar.remsi v1347 v1349
  let c0_i32_1218 : BitVec 32 := 0#32
  let v1352 : BitVec 1 := Scalar.cmpi .slt v1350 c0_i32_1218
  let c0_i32_1219 : BitVec 32 := 0#32
  let v1353 : BitVec 1 := Scalar.cmpi .slt v1349 c0_i32_1219
  let v1354 : BitVec 1 := Scalar.xori v1352 v1353
  let c0_i32_1217 : BitVec 32 := 0#32
  let v1351 : BitVec 1 := Scalar.cmpi .ne v1350 c0_i32_1217
  let v1355 : BitVec 1 := Scalar.andi v1354 v1351
  let v1356 : BitVec 32 := Scalar.addi v1350 v1349
  let v1357 : BitVec 32 := Scalar.select v1355 v1356 v1350
  let c8_i32_1220 : BitVec 32 := 8#32
  let v1358 : BitVec 32 := Scalar.muli v1357 c8_i32_1220
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_1236 : BitVec 32 := 0#32
  let v1376 : BitVec 1 := Scalar.cmpi .eq c2_i32_1235 c0_i32_1236
  let c1_i32_1237 : BitVec 32 := 1#32
  let v1377 : BitVec 32 := Scalar.select v1376 c1_i32_1237 c2_i32_1235
  let v1378 : BitVec 32 := Scalar.remsi v12 v1377
  let c0_i32_1239 : BitVec 32 := 0#32
  let v1380 : BitVec 1 := Scalar.cmpi .slt v1378 c0_i32_1239
  let c0_i32_1240 : BitVec 32 := 0#32
  let v1381 : BitVec 1 := Scalar.cmpi .slt v1377 c0_i32_1240
  let v1382 : BitVec 1 := Scalar.xori v1380 v1381
  let c0_i32_1238 : BitVec 32 := 0#32
  let v1379 : BitVec 1 := Scalar.cmpi .ne v1378 c0_i32_1238
  let v1383 : BitVec 1 := Scalar.andi v1382 v1379
  let v1384 : BitVec 32 := Scalar.addi v1378 v1377
  let v1385 : BitVec 32 := Scalar.select v1383 v1384 v1378
  let v1448 : BitVec 32 := Scalar.addi v1358 v1385
  let v1449 : BitVec 32 := Scalar.addi v1448 c0_i32_1298
  let v1450 : Index := Scalar.indexCast v1449
  let c0_1299 : Index := 0#32
  let c0_1300 : Index := 0#32
  ![v1450.toNat, 0, 0]
def k0_off9_at (r : Fin 7) : BitVec 32 × BitVec 32 :=
  if r.val < 3 then
    if r.val < 1 then
      (2#32, 0#32)
    else
      if r.val < 2 then
        (2#32, 2#32)
      else
        (2#32, 4#32)
  else
    if r.val < 5 then
      if r.val < 4 then
        (2#32, 6#32)
      else
        (4#32, 0#32)
    else
      if r.val < 6 then
        (4#32, 4#32)
      else
        (8#32, 0#32)
def k0_dev34 (d0 : Dev nD) : Nat :=
  let c0_i32_1401 : BitVec 32 := 0#32
  let c8_i32_1381 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let v1538 : BitVec 32 := Scalar.muli c8_i32_1381 v29
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_1382 : BitVec 32 := 2#32
  let v1539 : BitVec 32 := Scalar.xori v12 c2_i32_1382
  let v1540 : BitVec 32 := Scalar.addi v1538 v1539
  let c1_i32_1400 : BitVec 32 := 1#32
  let v1564 : BitVec 32 := Scalar.muli v1540 c1_i32_1400
  let v1565 : BitVec 32 := Scalar.addi c0_i32_1401 v1564
  v1565.toNat
def k0_dev35 (d0 : Dev nD) : Nat :=
  let c0_i32_1411 : BitVec 32 := 0#32
  let c8_i32_1381 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let v1538 : BitVec 32 := Scalar.muli c8_i32_1381 v29
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_1382 : BitVec 32 := 2#32
  let v1539 : BitVec 32 := Scalar.xori v12 c2_i32_1382
  let v1540 : BitVec 32 := Scalar.addi v1538 v1539
  let c1_i32_1410 : BitVec 32 := 1#32
  let v1576 : BitVec 32 := Scalar.muli v1540 c1_i32_1410
  let v1577 : BitVec 32 := Scalar.addi c0_i32_1411 v1576
  v1577.toNat
def k0_dev36 (d0 : Dev nD) : Nat :=
  let c0_i32_1486 : BitVec 32 := 0#32
  let c8_i32_1466 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let v1638 : BitVec 32 := Scalar.muli c8_i32_1466 v29
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_1467 : BitVec 32 := 4#32
  let v1639 : BitVec 32 := Scalar.xori v12 c4_i32_1467
  let v1640 : BitVec 32 := Scalar.addi v1638 v1639
  let c1_i32_1485 : BitVec 32 := 1#32
  let v1664 : BitVec 32 := Scalar.muli v1640 c1_i32_1485
  let v1665 : BitVec 32 := Scalar.addi c0_i32_1486 v1664
  v1665.toNat
def k0_off10 (d0 : Dev nD) (c0_i32_1517 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c9_i32_1516 : BitVec 32 := 9#32
  let v1700 : BitVec 32 := Scalar.addi v29 c9_i32_1516
  let v1701 : BitVec 32 := Scalar.subi v1700 c0_i32_1517
  let c4_i32_1518 : BitVec 32 := 4#32
  let c0_i32_1519 : BitVec 32 := 0#32
  let v1702 : BitVec 1 := Scalar.cmpi .eq c4_i32_1518 c0_i32_1519
  let c1_i32_1520 : BitVec 32 := 1#32
  let v1703 : BitVec 32 := Scalar.select v1702 c1_i32_1520 c4_i32_1518
  let v1704 : BitVec 32 := Scalar.remsi v1701 v1703
  let c0_i32_1522 : BitVec 32 := 0#32
  let v1706 : BitVec 1 := Scalar.cmpi .slt v1704 c0_i32_1522
  let c0_i32_1523 : BitVec 32 := 0#32
  let v1707 : BitVec 1 := Scalar.cmpi .slt v1703 c0_i32_1523
  let v1708 : BitVec 1 := Scalar.xori v1706 v1707
  let c0_i32_1521 : BitVec 32 := 0#32
  let v1705 : BitVec 1 := Scalar.cmpi .ne v1704 c0_i32_1521
  let v1709 : BitVec 1 := Scalar.andi v1708 v1705
  let v1710 : BitVec 32 := Scalar.addi v1704 v1703
  let v1711 : BitVec 32 := Scalar.select v1709 v1710 v1704
  let c8_i32_1524 : BitVec 32 := 8#32
  let v1712 : BitVec 32 := Scalar.muli v1711 c8_i32_1524
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1713 : BitVec 32 := Scalar.addi v1712 v12
  let c0_i32_1529 : BitVec 32 := 0#32
  let c0_i32_1530 : BitVec 32 := 0#32
  ![v1713.toNat, 0, 0]
def k0_dev37 (d0 : Dev nD) : Nat :=
  let c0_i32_1528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_1527 : BitVec 32 := 1#32
  let v1714 : BitVec 32 := Scalar.muli v42 c1_i32_1527
  let v1715 : BitVec 32 := Scalar.addi c0_i32_1528 v1714
  v1715.toNat
def k0_off11 (d0 : Dev nD) (c8_i32_1535 : BitVec 32) (c0_i32_1542 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_1213 : BitVec 32 := 1#32
  let v1347 : BitVec 32 := Scalar.addi v29 c1_i32_1213
  let c4_i32_1214 : BitVec 32 := 4#32
  let c0_i32_1215 : BitVec 32 := 0#32
  let v1348 : BitVec 1 := Scalar.cmpi .eq c4_i32_1214 c0_i32_1215
  let c1_i32_1216 : BitVec 32 := 1#32
  let v1349 : BitVec 32 := Scalar.select v1348 c1_i32_1216 c4_i32_1214
  let v1350 : BitVec 32 := Scalar.remsi v1347 v1349
  let c0_i32_1218 : BitVec 32 := 0#32
  let v1352 : BitVec 1 := Scalar.cmpi .slt v1350 c0_i32_1218
  let c0_i32_1219 : BitVec 32 := 0#32
  let v1353 : BitVec 1 := Scalar.cmpi .slt v1349 c0_i32_1219
  let v1354 : BitVec 1 := Scalar.xori v1352 v1353
  let c0_i32_1217 : BitVec 32 := 0#32
  let v1351 : BitVec 1 := Scalar.cmpi .ne v1350 c0_i32_1217
  let v1355 : BitVec 1 := Scalar.andi v1354 v1351
  let v1356 : BitVec 32 := Scalar.addi v1350 v1349
  let v1357 : BitVec 32 := Scalar.select v1355 v1356 v1350
  let c8_i32_1220 : BitVec 32 := 8#32
  let v1358 : BitVec 32 := Scalar.muli v1357 c8_i32_1220
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_1536 : BitVec 32 := 0#32
  let v1727 : BitVec 1 := Scalar.cmpi .eq c8_i32_1535 c0_i32_1536
  let c1_i32_1537 : BitVec 32 := 1#32
  let v1728 : BitVec 32 := Scalar.select v1727 c1_i32_1537 c8_i32_1535
  let v1729 : BitVec 32 := Scalar.remsi v12 v1728
  let c0_i32_1539 : BitVec 32 := 0#32
  let v1731 : BitVec 1 := Scalar.cmpi .slt v1729 c0_i32_1539
  let c0_i32_1540 : BitVec 32 := 0#32
  let v1732 : BitVec 1 := Scalar.cmpi .slt v1728 c0_i32_1540
  let v1733 : BitVec 1 := Scalar.xori v1731 v1732
  let c0_i32_1538 : BitVec 32 := 0#32
  let v1730 : BitVec 1 := Scalar.cmpi .ne v1729 c0_i32_1538
  let v1734 : BitVec 1 := Scalar.andi v1733 v1730
  let v1735 : BitVec 32 := Scalar.addi v1729 v1728
  let v1736 : BitVec 32 := Scalar.select v1734 v1735 v1729
  let v1739 : BitVec 32 := Scalar.addi v1358 v1736
  let v1740 : BitVec 32 := Scalar.addi v1739 c0_i32_1542
  let c0_i32_1547 : BitVec 32 := 0#32
  let c0_i32_1548 : BitVec 32 := 0#32
  ![v1740.toNat, 0, 0]
def k0_off11_at (r : Fin 7) : BitVec 32 × BitVec 32 :=
  if r.val < 3 then
    if r.val < 1 then
      (8#32, 0#32)
    else
      if r.val < 2 then
        (4#32, 0#32)
      else
        (4#32, 4#32)
  else
    if r.val < 5 then
      if r.val < 4 then
        (2#32, 0#32)
      else
        (2#32, 2#32)
    else
      if r.val < 6 then
        (2#32, 4#32)
      else
        (2#32, 6#32)
def k0_dev38 (d0 : Dev nD) : Nat :=
  let c0_i32_1546 : BitVec 32 := 0#32
  let c8_i32_1533 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let v1724 : BitVec 32 := Scalar.muli c8_i32_1533 v29
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_1534 : BitVec 32 := 4#32
  let v1725 : BitVec 32 := Scalar.xori v12 c4_i32_1534
  let v1726 : BitVec 32 := Scalar.addi v1724 v1725
  let c1_i32_1545 : BitVec 32 := 1#32
  let v1741 : BitVec 32 := Scalar.muli v1726 c1_i32_1545
  let v1742 : BitVec 32 := Scalar.addi c0_i32_1546 v1741
  v1742.toNat
def k0_off12 (d0 : Dev nD) (c0_i32_1567 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c9_i32_1566 : BitVec 32 := 9#32
  let v1765 : BitVec 32 := Scalar.addi v29 c9_i32_1566
  let v1766 : BitVec 32 := Scalar.subi v1765 c0_i32_1567
  let c4_i32_1568 : BitVec 32 := 4#32
  let c0_i32_1569 : BitVec 32 := 0#32
  let v1767 : BitVec 1 := Scalar.cmpi .eq c4_i32_1568 c0_i32_1569
  let c1_i32_1570 : BitVec 32 := 1#32
  let v1768 : BitVec 32 := Scalar.select v1767 c1_i32_1570 c4_i32_1568
  let v1769 : BitVec 32 := Scalar.remsi v1766 v1768
  let c0_i32_1572 : BitVec 32 := 0#32
  let v1771 : BitVec 1 := Scalar.cmpi .slt v1769 c0_i32_1572
  let c0_i32_1573 : BitVec 32 := 0#32
  let v1772 : BitVec 1 := Scalar.cmpi .slt v1768 c0_i32_1573
  let v1773 : BitVec 1 := Scalar.xori v1771 v1772
  let c0_i32_1571 : BitVec 32 := 0#32
  let v1770 : BitVec 1 := Scalar.cmpi .ne v1769 c0_i32_1571
  let v1774 : BitVec 1 := Scalar.andi v1773 v1770
  let v1775 : BitVec 32 := Scalar.addi v1769 v1768
  let v1776 : BitVec 32 := Scalar.select v1774 v1775 v1769
  let c8_i32_1574 : BitVec 32 := 8#32
  let v1777 : BitVec 32 := Scalar.muli v1776 c8_i32_1574
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_1575 : BitVec 32 := 4#32
  let v1778 : BitVec 32 := Scalar.xori v12 c4_i32_1575
  let v1779 : BitVec 32 := Scalar.addi v1777 v1778
  let c0_i32_1580 : BitVec 32 := 0#32
  let c0_i32_1581 : BitVec 32 := 0#32
  ![v1779.toNat, 0, 0]
def k0_dev39 (d0 : Dev nD) : Nat :=
  let c0_i32_1579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_1578 : BitVec 32 := 1#32
  let v1780 : BitVec 32 := Scalar.muli v42 c1_i32_1578
  let v1781 : BitVec 32 := Scalar.addi c0_i32_1579 v1780
  v1781.toNat
def k0_dev40 (d0 : Dev nD) : Nat :=
  let c0_i32_1597 : BitVec 32 := 0#32
  let c8_i32_1584 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let v1790 : BitVec 32 := Scalar.muli c8_i32_1584 v29
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_1585 : BitVec 32 := 2#32
  let v1791 : BitVec 32 := Scalar.xori v12 c2_i32_1585
  let v1792 : BitVec 32 := Scalar.addi v1790 v1791
  let c1_i32_1596 : BitVec 32 := 1#32
  let v1807 : BitVec 32 := Scalar.muli v1792 c1_i32_1596
  let v1808 : BitVec 32 := Scalar.addi c0_i32_1597 v1807
  v1808.toNat
def k0_dev41 (d0 : Dev nD) : Nat :=
  let c0_i32_1607 : BitVec 32 := 0#32
  let c8_i32_1584 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let v1790 : BitVec 32 := Scalar.muli c8_i32_1584 v29
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_1585 : BitVec 32 := 2#32
  let v1791 : BitVec 32 := Scalar.xori v12 c2_i32_1585
  let v1792 : BitVec 32 := Scalar.addi v1790 v1791
  let c1_i32_1606 : BitVec 32 := 1#32
  let v1821 : BitVec 32 := Scalar.muli v1792 c1_i32_1606
  let v1822 : BitVec 32 := Scalar.addi c0_i32_1607 v1821
  v1822.toNat
def k0_off13 (d0 : Dev nD) (c0_i32_1628 : BitVec 32) (c2_i32_1636 : BitVec 32) (c4_i32_1637 : BitVec 32) (c0_i32_1643 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c9_i32_1627 : BitVec 32 := 9#32
  let v1845 : BitVec 32 := Scalar.addi v29 c9_i32_1627
  let v1846 : BitVec 32 := Scalar.subi v1845 c0_i32_1628
  let c4_i32_1629 : BitVec 32 := 4#32
  let c0_i32_1630 : BitVec 32 := 0#32
  let v1847 : BitVec 1 := Scalar.cmpi .eq c4_i32_1629 c0_i32_1630
  let c1_i32_1631 : BitVec 32 := 1#32
  let v1848 : BitVec 32 := Scalar.select v1847 c1_i32_1631 c4_i32_1629
  let v1849 : BitVec 32 := Scalar.remsi v1846 v1848
  let c0_i32_1633 : BitVec 32 := 0#32
  let v1851 : BitVec 1 := Scalar.cmpi .slt v1849 c0_i32_1633
  let c0_i32_1634 : BitVec 32 := 0#32
  let v1852 : BitVec 1 := Scalar.cmpi .slt v1848 c0_i32_1634
  let v1853 : BitVec 1 := Scalar.xori v1851 v1852
  let c0_i32_1632 : BitVec 32 := 0#32
  let v1850 : BitVec 1 := Scalar.cmpi .ne v1849 c0_i32_1632
  let v1854 : BitVec 1 := Scalar.andi v1853 v1850
  let v1855 : BitVec 32 := Scalar.addi v1849 v1848
  let v1856 : BitVec 32 := Scalar.select v1854 v1855 v1849
  let c8_i32_1635 : BitVec 32 := 8#32
  let v1857 : BitVec 32 := Scalar.muli v1856 c8_i32_1635
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1858 : BitVec 32 := Scalar.xori v12 c2_i32_1636
  let c0_i32_1638 : BitVec 32 := 0#32
  let v1859 : BitVec 1 := Scalar.cmpi .eq c4_i32_1637 c0_i32_1638
  let c1_i32_1639 : BitVec 32 := 1#32
  let v1860 : BitVec 32 := Scalar.select v1859 c1_i32_1639 c4_i32_1637
  let v1861 : BitVec 32 := Scalar.remsi v1858 v1860
  let c0_i32_1641 : BitVec 32 := 0#32
  let v1863 : BitVec 1 := Scalar.cmpi .slt v1861 c0_i32_1641
  let c0_i32_1642 : BitVec 32 := 0#32
  let v1864 : BitVec 1 := Scalar.cmpi .slt v1860 c0_i32_1642
  let v1865 : BitVec 1 := Scalar.xori v1863 v1864
  let c0_i32_1640 : BitVec 32 := 0#32
  let v1862 : BitVec 1 := Scalar.cmpi .ne v1861 c0_i32_1640
  let v1866 : BitVec 1 := Scalar.andi v1865 v1862
  let v1867 : BitVec 32 := Scalar.addi v1861 v1860
  let v1868 : BitVec 32 := Scalar.select v1866 v1867 v1861
  let v1869 : BitVec 32 := Scalar.addi v1868 c0_i32_1643
  let v1870 : BitVec 32 := Scalar.addi v1857 v1869
  let c0_i32_1648 : BitVec 32 := 0#32
  let c0_i32_1649 : BitVec 32 := 0#32
  ![v1870.toNat, 0, 0]
def k0_off13_at (r : Fin 18) : BitVec 32 × BitVec 32 × BitVec 32 × BitVec 32 :=
  if r.val < 9 then
    if r.val < 4 then
      if r.val < 2 then
        if r.val < 1 then
          (0#32, 2#32, 4#32, 0#32)
        else
          (0#32, 2#32, 4#32, 4#32)
      else
        if r.val < 3 then
          (0#32, 1#32, 2#32, 0#32)
        else
          (0#32, 1#32, 2#32, 2#32)
    else
      if r.val < 6 then
        if r.val < 5 then
          (0#32, 1#32, 2#32, 4#32)
        else
          (0#32, 1#32, 2#32, 6#32)
      else
        if r.val < 7 then
          (1#32, 2#32, 4#32, 0#32)
        else
          if r.val < 8 then
            (1#32, 2#32, 4#32, 4#32)
          else
            (1#32, 1#32, 2#32, 0#32)
  else
    if r.val < 13 then
      if r.val < 11 then
        if r.val < 10 then
          (1#32, 1#32, 2#32, 2#32)
        else
          (1#32, 1#32, 2#32, 4#32)
      else
        if r.val < 12 then
          (1#32, 1#32, 2#32, 6#32)
        else
          (2#32, 2#32, 4#32, 0#32)
    else
      if r.val < 15 then
        if r.val < 14 then
          (2#32, 2#32, 4#32, 4#32)
        else
          (2#32, 1#32, 2#32, 0#32)
      else
        if r.val < 16 then
          (2#32, 1#32, 2#32, 2#32)
        else
          if r.val < 17 then
            (2#32, 1#32, 2#32, 4#32)
          else
            (2#32, 1#32, 2#32, 6#32)
def k0_dev42 (d0 : Dev nD) : Nat :=
  let c0_i32_1647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_1646 : BitVec 32 := 1#32
  let v1871 : BitVec 32 := Scalar.muli v42 c1_i32_1646
  let v1872 : BitVec 32 := Scalar.addi c0_i32_1647 v1871
  v1872.toNat
def k0_dev43 (d0 : Dev nD) : Nat :=
  let c0_i32_1687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_1686 : BitVec 32 := 1#32
  let v1921 : BitVec 32 := Scalar.muli v42 c1_i32_1686
  let v1922 : BitVec 32 := Scalar.addi c0_i32_1687 v1921
  v1922.toNat
def k0_dev44 (d0 : Dev nD) : Nat :=
  let c0_i32_1705 : BitVec 32 := 0#32
  let c8_i32_1692 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let v1931 : BitVec 32 := Scalar.muli c8_i32_1692 v29
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1693 : BitVec 32 := 1#32
  let v1932 : BitVec 32 := Scalar.xori v12 c1_i32_1693
  let v1933 : BitVec 32 := Scalar.addi v1931 v1932
  let c1_i32_1704 : BitVec 32 := 1#32
  let v1948 : BitVec 32 := Scalar.muli v1933 c1_i32_1704
  let v1949 : BitVec 32 := Scalar.addi c0_i32_1705 v1948
  v1949.toNat
def k0_dev45 (d0 : Dev nD) : Nat :=
  let c0_i32_1715 : BitVec 32 := 0#32
  let c8_i32_1692 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let v1931 : BitVec 32 := Scalar.muli c8_i32_1692 v29
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1693 : BitVec 32 := 1#32
  let v1932 : BitVec 32 := Scalar.xori v12 c1_i32_1693
  let v1933 : BitVec 32 := Scalar.addi v1931 v1932
  let c1_i32_1714 : BitVec 32 := 1#32
  let v1962 : BitVec 32 := Scalar.muli v1933 c1_i32_1714
  let v1963 : BitVec 32 := Scalar.addi c0_i32_1715 v1962
  v1963.toNat
def k0_dev46 (d0 : Dev nD) : Nat :=
  let c0_i32_1725 : BitVec 32 := 0#32
  let c8_i32_1692 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let v1931 : BitVec 32 := Scalar.muli c8_i32_1692 v29
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1693 : BitVec 32 := 1#32
  let v1932 : BitVec 32 := Scalar.xori v12 c1_i32_1693
  let v1933 : BitVec 32 := Scalar.addi v1931 v1932
  let c1_i32_1724 : BitVec 32 := 1#32
  let v1976 : BitVec 32 := Scalar.muli v1933 c1_i32_1724
  let v1977 : BitVec 32 := Scalar.addi c0_i32_1725 v1976
  v1977.toNat
def k0_dev47 (d0 : Dev nD) : Nat :=
  let c0_i32_1735 : BitVec 32 := 0#32
  let c8_i32_1692 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let v1931 : BitVec 32 := Scalar.muli c8_i32_1692 v29
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1693 : BitVec 32 := 1#32
  let v1932 : BitVec 32 := Scalar.xori v12 c1_i32_1693
  let v1933 : BitVec 32 := Scalar.addi v1931 v1932
  let c1_i32_1734 : BitVec 32 := 1#32
  let v1990 : BitVec 32 := Scalar.muli v1933 c1_i32_1734
  let v1991 : BitVec 32 := Scalar.addi c0_i32_1735 v1990
  v1991.toNat
def k0_dev48 (d0 : Dev nD) : Nat :=
  let c0_i32_1775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_1774 : BitVec 32 := 1#32
  let v2040 : BitVec 32 := Scalar.muli v42 c1_i32_1774
  let v2041 : BitVec 32 := Scalar.addi c0_i32_1775 v2040
  v2041.toNat
def k0_dev49 (d0 : Dev nD) : Nat :=
  let c0_i32_1815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_1814 : BitVec 32 := 1#32
  let v2090 : BitVec 32 := Scalar.muli v42 c1_i32_1814
  let v2091 : BitVec 32 := Scalar.addi c0_i32_1815 v2090
  v2091.toNat
def k0_dev50 (d0 : Dev nD) : Nat :=
  let c0_i32_1855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_1854 : BitVec 32 := 1#32
  let v2140 : BitVec 32 := Scalar.muli v42 c1_i32_1854
  let v2141 : BitVec 32 := Scalar.addi c0_i32_1855 v2140
  v2141.toNat
def k0_dev51 (d0 : Dev nD) : Nat :=
  let c0_i32_1895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_1894 : BitVec 32 := 1#32
  let v2190 : BitVec 32 := Scalar.muli v42 c1_i32_1894
  let v2191 : BitVec 32 := Scalar.addi c0_i32_1895 v2190
  v2191.toNat
def k0_dev52 (d0 : Dev nD) : Nat :=
  let c0_i32_1929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_1928 : BitVec 32 := 1#32
  let v2236 : BitVec 32 := Scalar.muli v42 c1_i32_1928
  let v2237 : BitVec 32 := Scalar.addi c0_i32_1929 v2236
  v2237.toNat
def k0_dev53 (d0 : Dev nD) : Nat :=
  let c0_i32_1965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_1964 : BitVec 32 := 1#32
  let v2284 : BitVec 32 := Scalar.muli v42 c1_i32_1964
  let v2285 : BitVec 32 := Scalar.addi c0_i32_1965 v2284
  v2285.toNat
def k0_dev54 (d0 : Dev nD) : Nat :=
  let c0_i32_2015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_2014 : BitVec 32 := 1#32
  let v2354 : BitVec 32 := Scalar.muli v42 c1_i32_2014
  let v2355 : BitVec 32 := Scalar.addi c0_i32_2015 v2354
  v2355.toNat
def k0_dev55 (d0 : Dev nD) : Nat :=
  let c0_i32_2065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_2064 : BitVec 32 := 1#32
  let v2424 : BitVec 32 := Scalar.muli v42 c1_i32_2064
  let v2425 : BitVec 32 := Scalar.addi c0_i32_2065 v2424
  v2425.toNat
def k0_dev56 (d0 : Dev nD) : Nat :=
  let c0_i32_2115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_2114 : BitVec 32 := 1#32
  let v2494 : BitVec 32 := Scalar.muli v42 c1_i32_2114
  let v2495 : BitVec 32 := Scalar.addi c0_i32_2115 v2494
  v2495.toNat
def k0_dev57 (d0 : Dev nD) : Nat :=
  let c0_i32_2165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_2164 : BitVec 32 := 1#32
  let v2564 : BitVec 32 := Scalar.muli v42 c1_i32_2164
  let v2565 : BitVec 32 := Scalar.addi c0_i32_2165 v2564
  v2565.toNat
def k0_dev58 (d0 : Dev nD) : Nat :=
  let c0_i32_2215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_2214 : BitVec 32 := 1#32
  let v2634 : BitVec 32 := Scalar.muli v42 c1_i32_2214
  let v2635 : BitVec 32 := Scalar.addi c0_i32_2215 v2634
  v2635.toNat
def k0_dev59 (d0 : Dev nD) : Nat :=
  let c0_i32_2265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_2264 : BitVec 32 := 1#32
  let v2704 : BitVec 32 := Scalar.muli v42 c1_i32_2264
  let v2705 : BitVec 32 := Scalar.addi c0_i32_2265 v2704
  v2705.toNat
def k0_dev60 (d0 : Dev nD) : Nat :=
  let c0_i32_2299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_2298 : BitVec 32 := 1#32
  let v2750 : BitVec 32 := Scalar.muli v42 c1_i32_2298
  let v2751 : BitVec 32 := Scalar.addi c0_i32_2299 v2750
  v2751.toNat
def k0_dev61 (d0 : Dev nD) : Nat :=
  let c0_i32_2335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_2334 : BitVec 32 := 1#32
  let v2798 : BitVec 32 := Scalar.muli v42 c1_i32_2334
  let v2799 : BitVec 32 := Scalar.addi c0_i32_2335 v2798
  v2799.toNat
def k0_dev62 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_2384 : BitVec 32 := 1#32
  let v2868 : BitVec 32 := Scalar.muli v42 c1_i32_2384
  let v2869 : BitVec 32 := Scalar.addi c0_i32_2385 v2868
  v2869.toNat
def k0_dev63 (d0 : Dev nD) : Nat :=
  let c0_i32_2435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_2434 : BitVec 32 := 1#32
  let v2938 : BitVec 32 := Scalar.muli v42 c1_i32_2434
  let v2939 : BitVec 32 := Scalar.addi c0_i32_2435 v2938
  v2939.toNat
def k0_dev64 (d0 : Dev nD) : Nat :=
  let c0_i32_2485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_2484 : BitVec 32 := 1#32
  let v3008 : BitVec 32 := Scalar.muli v42 c1_i32_2484
  let v3009 : BitVec 32 := Scalar.addi c0_i32_2485 v3008
  v3009.toNat
def k0_dev65 (d0 : Dev nD) : Nat :=
  let c0_i32_2535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_2534 : BitVec 32 := 1#32
  let v3078 : BitVec 32 := Scalar.muli v42 c1_i32_2534
  let v3079 : BitVec 32 := Scalar.addi c0_i32_2535 v3078
  v3079.toNat
def k0_dev66 (d0 : Dev nD) : Nat :=
  let c0_i32_2585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_2584 : BitVec 32 := 1#32
  let v3148 : BitVec 32 := Scalar.muli v42 c1_i32_2584
  let v3149 : BitVec 32 := Scalar.addi c0_i32_2585 v3148
  v3149.toNat
def k0_dev67 (d0 : Dev nD) : Nat :=
  let c0_i32_2635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c8_i32_17 : BitVec 32 := 8#32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c1_i32_11 : BitVec 32 := 1#32
  let v30 : BitVec 32 := Scalar.addi v29 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.muli c8_i32_17 v40
  let v42 : BitVec 32 := Scalar.addi v12 v41
  let c1_i32_2634 : BitVec 32 := 1#32
  let v3218 : BitVec 32 := Scalar.muli v42 c1_i32_2634
  let v3219 : BitVec 32 := Scalar.addi c0_i32_2635 v3218
  v3219.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x256x1024 : Shape := ⟨3, ![4, 256, 1024]⟩
abbrev S1024x32768 : Shape := ⟨2, ![1024, 32768]⟩
abbrev S1024x8192 : Shape := ⟨2, ![1024, 8192]⟩
abbrev S32768x1024 : Shape := ⟨2, ![32768, 1024]⟩
abbrev S4x256x32768 : Shape := ⟨3, ![4, 256, 32768]⟩
abbrev S4x256x256x128 : Shape := ⟨4, ![4, 256, 256, 128]⟩
abbrev S4x256x8192 : Shape := ⟨3, ![4, 256, 8192]⟩
abbrev S4x256x64x128 : Shape := ⟨4, ![4, 256, 64, 128]⟩
abbrev S4x256x64x4x128 : Shape := ⟨5, ![4, 256, 64, 4, 128]⟩
abbrev S4x256x256x256 : Shape := ⟨4, ![4, 256, 256, 256]⟩
abbrev S_ : Shape := ⟨0, ![]⟩
abbrev S4x256x256 : Shape := ⟨3, ![4, 256, 256]⟩
abbrev S4x256x256x1 : Shape := ⟨4, ![4, 256, 256, 1]⟩
abbrev S4x256x128x256 : Shape := ⟨4, ![4, 256, 128, 256]⟩

abbrev nBuf : Space → Nat
  | .hbm => 42
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S1024x32768, .bf16⟩
  | .hbm, ⟨2, _⟩ => ⟨S1024x8192, .bf16⟩
  | .hbm, ⟨3, _⟩ => ⟨S1024x8192, .bf16⟩
  | .hbm, ⟨4, _⟩ => ⟨S32768x1024, .bf16⟩
  | .hbm, ⟨5, _⟩ => ⟨S4x256x1024, .f32⟩
  | .hbm, ⟨6, _⟩ => ⟨S1024x32768, .f32⟩
  | .hbm, ⟨7, _⟩ => ⟨S4x256x32768, .f32⟩
  | .hbm, ⟨8, _⟩ => ⟨S4x256x256x128, .f32⟩
  | .hbm, ⟨9, _⟩ => ⟨S4x256x1024, .f32⟩
  | .hbm, ⟨10, _⟩ => ⟨S1024x8192, .f32⟩
  | .hbm, ⟨11, _⟩ => ⟨S4x256x8192, .f32⟩
  | .hbm, ⟨12, _⟩ => ⟨S4x256x64x128, .f32⟩
  | .hbm, ⟨13, _⟩ => ⟨S4x256x1024, .f32⟩
  | .hbm, ⟨14, _⟩ => ⟨S1024x8192, .f32⟩
  | .hbm, ⟨15, _⟩ => ⟨S4x256x8192, .f32⟩
  | .hbm, ⟨16, _⟩ => ⟨S4x256x64x128, .f32⟩
  | .hbm, ⟨17, _⟩ => ⟨S4x256x64x4x128, .f32⟩
  | .hbm, ⟨18, _⟩ => ⟨S4x256x256x128, .f32⟩
  | .hbm, ⟨19, _⟩ => ⟨S4x256x64x4x128, .f32⟩
  | .hbm, ⟨20, _⟩ => ⟨S4x256x256x128, .f32⟩
  | .hbm, ⟨21, _⟩ => ⟨S4x256x256x256, .f32⟩
  | .hbm, ⟨22, _⟩ => ⟨S_, .f32⟩
  | .hbm, ⟨23, _⟩ => ⟨S4x256x256x256, .f32⟩
  | .hbm, ⟨24, _⟩ => ⟨S4x256x256x256, .f32⟩
  | .hbm, ⟨25, _⟩ => ⟨S_, .f32⟩
  | .hbm, ⟨26, _⟩ => ⟨S4x256x256, .f32⟩
  | .hbm, ⟨27, _⟩ => ⟨S4x256x256x1, .f32⟩
  | .hbm, ⟨28, _⟩ => ⟨S4x256x256x256, .f32⟩
  | .hbm, ⟨29, _⟩ => ⟨S4x256x256x256, .f32⟩
  | .hbm, ⟨30, _⟩ => ⟨S4x256x256x256, .f32⟩
  | .hbm, ⟨31, _⟩ => ⟨S_, .f32⟩
  | .hbm, ⟨32, _⟩ => ⟨S4x256x256, .f32⟩
  | .hbm, ⟨33, _⟩ => ⟨S4x256x256x1, .f32⟩
  | .hbm, ⟨34, _⟩ => ⟨S4x256x128x256, .f32⟩
  | .hbm, ⟨35, _⟩ => ⟨S4x256x256x128, .f32⟩
  | .hbm, ⟨36, _⟩ => ⟨S4x256x256x1, .f32⟩
  | .hbm, ⟨37, _⟩ => ⟨S4x256x256x128, .f32⟩
  | .hbm, ⟨38, _⟩ => ⟨S4x256x256x128, .f32⟩
  | .hbm, ⟨39, _⟩ => ⟨S4x256x32768, .f32⟩
  | .hbm, ⟨40, _⟩ => ⟨S32768x1024, .f32⟩
  | .hbm, ⟨41, _⟩ => ⟨S4x256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Proof.Clean.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Tactic

@[expose] public section

noncomputable section

namespace Cert.AR

open Idealize.ShloMosaic Idealize.ShloMosaic.TcCoe
open Idealize.SL Idealize.SL.Sem
open Cert.KernelIdeal Cert.KernelIdeal.Gen

variable {F : FTy → Type} [FloatOps F]

/-! ## The body as a sequence of named steps

Each step takes the rest of the program as its last argument. -/

/-- The programs the body is made of. -/
abbrev Pg (F : FTy → Type) [FloatOps F] : Type 1 := Prog (TpuEff nD τ sig (Elt F) Λ₀ .tc) PUnit

/-- The partial product, by groups of eight chunks. -/
abbrev mP : Memref sig .tc .vmem S32x32x1024 .bf16 := Memref.whole cc0_scratch0
/-- Chunks arriving around the column. -/
abbrev mC : Memref sig .tc .vmem S24x32x1024 .bf16 := Memref.whole cc0_scratch1
/-- Running sums around the column. -/
abbrev mA : Memref sig .tc .vmem S24x32x1024 .bf16 := Memref.whole cc0_scratch2
/-- Chunks arriving in the halving exchange. -/
abbrev mB : Memref sig .tc .vmem S7x32x1024 .bf16 := Memref.whole cc0_scratch3
/-- The result. -/
abbrev mO : Memref sig .tc .vmem S32x32x1024 .bf16 := Memref.whole cc0_stg2_0
/-- The left operand. -/
abbrev mX : Memref sig .tc .vmem S1024x1024 .bf16 := Memref.whole cc0_stg0_0
/-- The right operand. -/
abbrev mW : Memref sig .tc .vmem S1024x1024 .bf16 := Memref.whole cc0_stg1_0

/-- Copy `src` to `dst` of device `p`. -/
def send (src dst : Memref sig .tc .vmem S32x1024 .bf16) (hs : src.view.WordExact) (hd : dst.view.WordExact)
    (p : Dev nD) (sS sR : DmaSem sig) (k : Pg F) : Pg F :=
  .op (.enqueueDma src (.remote (Dev.tc p) dst (.dma sS)) (.dma sR) hs hd ⟨⟨rfl, Or.inl rfl⟩, trivial⟩) fun _ => k

/-- Wait for a copy. -/
def await (sm : DmaSem sig) (src dst : Memref sig .tc .vmem S32x1024 .bf16) (hs : src.view.WordExact)
    (hd : dst.view.WordExact) (k : Pg F) : Pg F :=
  .op (.waitDma2 sm src dst hs hd) fun _ => k

/-- Raise the barrier semaphore of device `p` by one. -/
def signal (p : Dev nD) (k : Pg F) : Pg F :=
  .op (.semSignal (Dev.tc p) barrier0 (1#32 : BitVec 32).toInt) fun _ => k

/-- Wait for five units of the own barrier semaphore. -/
def awaitBar (k : Pg F) : Pg F :=
  .op (.semWait barrier0 (5#32 : BitVec 32).toInt) fun _ => k

/-- A group's rows of the product, stored. -/
def mulStep (oi : Fin 2 → Nat) (hi : ∀ a, oi a + S256x1024.size a ≤ S1024x1024.size a) (oo : Fin 3 → Nat)
    (ho : ∀ a, oo a + S8x32x1024.size a ≤ S32x32x1024.size a)
    (hp : (Rect.unit (s := S32x32x1024) oo S8x32x1024.size ho).PackedRows (EltTy.packing .bf16)) (k : Pg F) : Pg F :=
  .op (.load mX (Rect.unit (s := S1024x1024) oi S256x1024.size hi).toLoadRect (View.loadsAt_vmem h_S256x1024)) fun x =>
  .op (.load mW (Rect.unit (s := S1024x1024) ![0, 0] S1024x1024.size inb_S1024x1024_S1024x1024_0_0).toLoadRect (View.loadsAt_vmem h_S1024x1024)) fun w =>
  .op (.load mP (Rect.unit (s := S32x32x1024) oo S8x32x1024.size ho).toLoadRect (View.loadsAt_vmem h_S8x32x1024)) fun _ =>
  .op (.store mP (Rect.unit (s := S32x32x1024) oo S8x32x1024.size ho) (k0_pay1 x w) Finset.univ
    (View.stores_vmem h_S8x32x1024 ((Memref.isWhole_whole _).storeExact_slice rfl _ hp) (fun _ => rfl)) (.inl rfl)) fun _ => k

/-- One chunk sum of the column phase: arrival `i` plus the own chunk at `oo`. -/
def addA (i : Fin 3 → Nat) (hi : ∀ a, i a + S1x32x1024.size a ≤ S24x32x1024.size a)
    (hp : (Rect.unit (s := S24x32x1024) i S1x32x1024.size hi).PackedRows (EltTy.packing .bf16)) (oo : Fin 3 → Nat)
    (ho : ∀ a, oo a + S1x32x1024.size a ≤ S32x32x1024.size a) (k : Pg F) : Pg F :=
  .op (.load mC (Rect.unit (s := S24x32x1024) i S1x32x1024.size hi).toLoadRect (View.loadsAt_vmem h_S1x32x1024)) fun x =>
  .op (.load mP (Rect.unit (s := S32x32x1024) oo S1x32x1024.size ho).toLoadRect (View.loadsAt_vmem h_S1x32x1024)) fun y =>
  .op (.load mA (Rect.unit (s := S24x32x1024) i S1x32x1024.size hi).toLoadRect (View.loadsAt_vmem h_S1x32x1024)) fun _ =>
  .op (.store mA (Rect.unit (s := S24x32x1024) i S1x32x1024.size hi) (k0_pay4 x y) Finset.univ
    (View.stores_vmem h_S1x32x1024 ((Memref.isWhole_whole _).storeExact_slice rfl _ hp) (fun _ => rfl)) (.inl rfl)) fun _ => k

/-- One chunk sum of the halving phase: the own chunk at `oo` plus arrival `i`. -/
def addR (oo : Fin 3 → Nat) (ho : ∀ a, oo a + S1x32x1024.size a ≤ S32x32x1024.size a)
    (hp : (Rect.unit (s := S32x32x1024) oo S1x32x1024.size ho).PackedRows (EltTy.packing .bf16)) (i : Fin 3 → Nat)
    (hi : ∀ a, i a + S1x32x1024.size a ≤ S7x32x1024.size a) (k : Pg F) : Pg F :=
  .op (.load mO (Rect.unit (s := S32x32x1024) oo S1x32x1024.size ho).toLoadRect (View.loadsAt_vmem h_S1x32x1024)) fun x =>
  .op (.load mB (Rect.unit (s := S7x32x1024) i S1x32x1024.size hi).toLoadRect (View.loadsAt_vmem h_S1x32x1024)) fun y =>
  .op (.load mO (Rect.unit (s := S32x32x1024) oo S1x32x1024.size ho).toLoadRect (View.loadsAt_vmem h_S1x32x1024)) fun _ =>
  .op (.store mO (Rect.unit (s := S32x32x1024) oo S1x32x1024.size ho) (k0_pay43 x y) Finset.univ
    (View.stores_vmem h_S1x32x1024 ((Memref.isWhole_whole _).storeExact_slice rfl _ hp) (fun _ => rfl)) (.inl rfl)) fun _ => k

/-- The column sums, copied to the result. -/
def carry (oo : Fin 3 → Nat) (ho : ∀ a, oo a + S8x32x1024.size a ≤ S32x32x1024.size a)
    (hp : (Rect.unit (s := S32x32x1024) oo S8x32x1024.size ho).PackedRows (EltTy.packing .bf16)) (k : Pg F) : Pg F :=
  .op (.load mA (Rect.unit (s := S24x32x1024) ![16, 0, 0] S8x32x1024.size inb_S24x32x1024_S8x32x1024_16_0_0).toLoadRect (View.loadsAt_vmem h_S8x32x1024)) fun x =>
  .op (.load mO (Rect.unit (s := S32x32x1024) oo S8x32x1024.size ho).toLoadRect (View.loadsAt_vmem h_S8x32x1024)) fun _ =>
  .op (.store mO (Rect.unit (s := S32x32x1024) oo S8x32x1024.size ho) x Finset.univ
    (View.stores_vmem h_S8x32x1024 ((Memref.isWhole_whole _).storeExact_slice rfl _ hp) (fun _ => rfl)) (.inl rfl)) fun _ => k

/-- Run a step at each element of a list, then the rest. -/
def loop {α : Type} (l : List α) (f : α → Pg F → Pg F) (k : Pg F) : Pg F := l.foldr f k

/-- Chunk `o` of a 32-chunk buffer, as a matrix. -/
abbrev sl32 (m : Memref sig .tc .vmem S32x32x1024 .bf16) (o : Fin 3 → Nat)
    (h : ∀ a, o a + S1x32x1024.size a ≤ S32x32x1024.size a) : Memref sig .tc .vmem S32x1024 .bf16 :=
  (m.slice (Rect.unit (s := S32x32x1024) o S1x32x1024.size h) (fun _ => rfl)).squeeze S32x1024 squeezes_S1x32x1024_S32x1024

theorem inb24 : ∀ i : Fin 24, ∀ a, (![i.val, 0, 0] : Fin 3 → Nat) a + S1x32x1024.size a ≤ S24x32x1024.size a := by decide +kernel
theorem inb7 : ∀ i : Fin 7, ∀ a, (![i.val, 0, 0] : Fin 3 → Nat) a + S1x32x1024.size a ≤ S7x32x1024.size a := by decide +kernel
theorem inb32 : ∀ i : Fin 32, ∀ a, (![i.val, 0, 0] : Fin 3 → Nat) a + S1x32x1024.size a ≤ S32x32x1024.size a := by decide +kernel
theorem inb8 : ∀ r : Fin 4, ∀ a, (![8 * r.val, 0, 0] : Fin 3 → Nat) a + S8x32x1024.size a ≤ S32x32x1024.size a := by decide +kernel
theorem inbX : ∀ r : Fin 4, ∀ a, (![256 * r.val, 0] : Fin 2 → Nat) a + S256x1024.size a ≤ S1024x1024.size a := by decide +kernel

theorem words24 : ∀ i : Fin 24, (Rect.unit (s := S24x32x1024) ![i.val, 0, 0] S1x32x1024.size (inb24 i)).WholeWords (EltTy.packing .bf16) := by decide +kernel
theorem words7 : ∀ i : Fin 7, (Rect.unit (s := S7x32x1024) ![i.val, 0, 0] S1x32x1024.size (inb7 i)).WholeWords (EltTy.packing .bf16) := by decide +kernel
theorem words32 : ∀ i : Fin 32, (Rect.unit (s := S32x32x1024) ![i.val, 0, 0] S1x32x1024.size (inb32 i)).WholeWords (EltTy.packing .bf16) := by decide +kernel
theorem packed24 : ∀ i : Fin 24, (Rect.unit (s := S24x32x1024) ![i.val, 0, 0] S1x32x1024.size (inb24 i)).PackedRows (EltTy.packing .bf16) := by decide +kernel
theorem packed32 : ∀ i : Fin 32, (Rect.unit (s := S32x32x1024) ![i.val, 0, 0] S1x32x1024.size (inb32 i)).PackedRows (EltTy.packing .bf16) := by decide +kernel
theorem packed8 : ∀ i : Fin 4, (Rect.unit (s := S32x32x1024) ![8 * i.val, 0, 0] S8x32x1024.size (inb8 i)).PackedRows (EltTy.packing .bf16) := by decide +kernel

theorem inbS24 : ∀ i : Fin 24, ∀ a, (![i.val] : Fin 1 → Nat) a + S1.size a ≤ S24.size a := by decide +kernel
theorem inbS7 : ∀ i : Fin 7, ∀ a, (![i.val] : Fin 1 → Nat) a + S1.size a ≤ S7.size a := by decide +kernel

/-- Semaphore `i` of an array of 24. -/
abbrev sem24 (a : DmaSems sig S24) (i : Fin 24) : DmaSem sig :=
  ((a.slice (Rect.unit (s := S24) ![i.val] S1.size (inbS24 i))).squeeze S_ squeezes_S1_S_).sem
/-- Semaphore `i` of an array of 7. -/
abbrev sem7 (a : DmaSems sig S7) (i : Fin 7) : DmaSem sig :=
  ((a.slice (Rect.unit (s := S7) ![i.val] S1.size (inbS7 i))).squeeze S_ squeezes_S1_S_).sem

/-- Chunk `i` of a 24-chunk buffer, as a matrix. -/
abbrev c24 (m : Memref sig .tc .vmem S24x32x1024 .bf16) (i : Fin 24) : Memref sig .tc .vmem S32x1024 .bf16 :=
  (m.slice (Rect.unit (s := S24x32x1024) ![i.val, 0, 0] S1x32x1024.size (inb24 i)) (fun _ => rfl)).squeeze S32x1024 squeezes_S1x32x1024_S32x1024
/-- Chunk `i` of the 7-chunk buffer, as a matrix. -/
abbrev c7 (i : Fin 7) : Memref sig .tc .vmem S32x1024 .bf16 :=
  (mB.slice (Rect.unit (s := S7x32x1024) ![i.val, 0, 0] S1x32x1024.size (inb7 i)) (fun _ => rfl)).squeeze S32x1024 squeezes_S1x32x1024_S32x1024
/-- Chunk `i` of a 32-chunk buffer, as a matrix. -/
abbrev c32 (m : Memref sig .tc .vmem S32x32x1024 .bf16) (i : Fin 32) : Memref sig .tc .vmem S32x1024 .bf16 :=
  sl32 m ![i.val, 0, 0] (inb32 i)

/-! ## Where each device's copies come from and go to -/

/-- The next device of the column. -/
def zn (d : Dev nD) : Dev nD := ⟨(d.val + 8) % 32, Nat.mod_lt _ (by decide)⟩
/-- The previous device of the column. -/
def zp (d : Dev nD) : Dev nD := ⟨(d.val + 24) % 32, Nat.mod_lt _ (by decide)⟩
/-- The bit of the partner's number exchanged with in halving copy `i`. -/
def bit (i : Fin 7) : Nat := if i.val < 4 then 1 else if i.val < 6 then 2 else 4
/-- The partner of halving copy `i`. -/
def pr (d : Dev nD) (i : Fin 7) : Dev nD := ⟨(d.val ^^^ bit i) % 32, Nat.mod_lt _ (by decide)⟩
/-- Chunk `c` of group `r`. -/
def row (r : Fin 4) (c : Fin 8) : Fin 32 := ⟨8 * r.val + c.val, by omega⟩
/-- The group the device owns after the column phase. -/
def own (d : Dev nD) : Fin 4 := ⟨(d.val / 8 + 1) % 4, Nat.mod_lt _ (by decide)⟩
/-- The group added in column step `s`. -/
def grpA (d : Dev nD) (s : Fin 3) : Fin 4 := ⟨(d.val / 8 + 3 - s.val) % 4, Nat.mod_lt _ (by decide)⟩
/-- The group multiplied first. -/
def grp0 (d : Dev nD) : Fin 4 := ⟨(d.val / 8) % 4, Nat.mod_lt _ (by decide)⟩
/-- The column of the chunk kept in halving copy `i`. -/
def kCol (d : Dev nD) (i : Fin 7) : Fin 8 :=
  ⟨(if i.val < 4 then d.val % 2 + 2 * i.val else if i.val < 6 then d.val % 4 + 4 * (i.val - 4) else d.val % 8) % 8, Nat.mod_lt _ (by decide)⟩
/-- The column of the chunk given away in halving copy `i`. -/
def sCol (d : Dev nD) (i : Fin 7) : Fin 8 := kCol (pr d i) i
/-- The halving copy undone by doubling copy `i`. -/
def inv (i : Fin 7) : Fin 7 := match i with | 0 => 6 | 1 => 4 | 2 => 5 | 3 => 0 | 4 => 1 | 5 => 2 | 6 => 3
/-- The column passed round in place `j` of the last phase. -/
def cCol (d : Dev nD) (j : Fin 8) : Fin 8 := match j with
  | 0 => kCol d 6 | 1 => sCol d 6 | 2 => sCol d 4 | 3 => sCol d 5 | 4 => sCol d 0 | 5 => sCol d 1 | 6 => sCol d 2 | 7 => sCol d 3
/-- The group passed on in hop `h` of the last phase. -/
def grpC (d : Dev nD) (h : Fin 3) : Fin 4 := ⟨(d.val / 8 + 5 - h.val) % 4, Nat.mod_lt _ (by decide)⟩
/-- The hop of copy `n`. -/
def hop (n : Fin 24) : Fin 3 := ⟨n.val / 8, by omega⟩
/-- The place of copy `n` in its hop. -/
def plc (n : Fin 24) : Fin 8 := ⟨n.val % 8, by omega⟩
/-- The chunk sent by copy `n` of the last phase. -/
def rowC (d : Dev nD) (n : Fin 24) : Fin 32 := row (grpC d (hop n)) (cCol d (plc n))

/-! ### The printed offsets and targets, by copy -/

/-- The printed value, by copy. -/
def offC (d : Dev nD) (i : Fin 24) : Fin 3 → Nat := match i.val with
  | 0 => k0_off10 d 0#32
  | 1 => k0_off12 d 0#32
  | 2 => k0_off13 d 0#32 2#32 4#32 0#32
  | 3 => k0_off13 d 0#32 2#32 4#32 4#32
  | 4 => k0_off13 d 0#32 1#32 2#32 0#32
  | 5 => k0_off13 d 0#32 1#32 2#32 2#32
  | 6 => k0_off13 d 0#32 1#32 2#32 4#32
  | 7 => k0_off13 d 0#32 1#32 2#32 6#32
  | 8 => k0_off10 d 1#32
  | 9 => k0_off12 d 1#32
  | 10 => k0_off13 d 1#32 2#32 4#32 0#32
  | 11 => k0_off13 d 1#32 2#32 4#32 4#32
  | 12 => k0_off13 d 1#32 1#32 2#32 0#32
  | 13 => k0_off13 d 1#32 1#32 2#32 2#32
  | 14 => k0_off13 d 1#32 1#32 2#32 4#32
  | 15 => k0_off13 d 1#32 1#32 2#32 6#32
  | 16 => k0_off10 d 2#32
  | 17 => k0_off12 d 2#32
  | 18 => k0_off13 d 2#32 2#32 4#32 0#32
  | 19 => k0_off13 d 2#32 2#32 4#32 4#32
  | 20 => k0_off13 d 2#32 1#32 2#32 0#32
  | 21 => k0_off13 d 2#32 1#32 2#32 2#32
  | 22 => k0_off13 d 2#32 1#32 2#32 4#32
  | _ => k0_off13 d 2#32 1#32 2#32 6#32

/-- The printed value, by copy. -/
def offS (d : Dev nD) (i : Fin 7) : Fin 3 → Nat := match i with
  | 0 => k0_off8 d 1#32 2#32 0#32
  | 1 => k0_off8 d 1#32 2#32 2#32
  | 2 => k0_off8 d 1#32 2#32 4#32
  | 3 => k0_off8 d 1#32 2#32 6#32
  | 4 => k0_off8 d 2#32 4#32 0#32
  | 5 => k0_off8 d 2#32 4#32 4#32
  | 6 => k0_off8 d 4#32 8#32 0#32

/-- The printed value, by copy. -/
def offK (d : Dev nD) (i : Fin 7) : Fin 3 → Nat := match i with
  | 0 => k0_off9 d 2#32 0#32
  | 1 => k0_off9 d 2#32 2#32
  | 2 => k0_off9 d 2#32 4#32
  | 3 => k0_off9 d 2#32 6#32
  | 4 => k0_off9 d 4#32 0#32
  | 5 => k0_off9 d 4#32 4#32
  | 6 => k0_off9 d 8#32 0#32

/-- The printed value, by copy. -/
def offG (d : Dev nD) (i : Fin 7) : Fin 3 → Nat := match i with
  | 0 => k0_off11 d 8#32 0#32
  | 1 => k0_off11 d 4#32 0#32
  | 2 => k0_off11 d 4#32 4#32
  | 3 => k0_off11 d 2#32 0#32
  | 4 => k0_off11 d 2#32 2#32
  | 5 => k0_off11 d 2#32 4#32
  | 6 => k0_off11 d 2#32 6#32

/-- The printed value, by copy. -/
def devA (d : Dev nD) (i : Fin 24) : Nat := match i.val with
  | 0 => k0_dev6 d
  | 1 => k0_dev7 d
  | 2 => k0_dev8 d
  | 3 => k0_dev9 d
  | 4 => k0_dev10 d
  | 5 => k0_dev11 d
  | 6 => k0_dev12 d
  | 7 => k0_dev13 d
  | 8 => k0_dev14 d
  | 9 => k0_dev15 d
  | 10 => k0_dev16 d
  | 11 => k0_dev17 d
  | 12 => k0_dev18 d
  | 13 => k0_dev19 d
  | 14 => k0_dev20 d
  | 15 => k0_dev21 d
  | 16 => k0_dev22 d
  | 17 => k0_dev23 d
  | 18 => k0_dev24 d
  | 19 => k0_dev25 d
  | 20 => k0_dev26 d
  | 21 => k0_dev27 d
  | 22 => k0_dev28 d
  | _ => k0_dev29 d

/-- The printed value, by copy. -/
def devR (d : Dev nD) (i : Fin 7) : Nat := match i with
  | 0 => k0_dev30 d
  | 1 => k0_dev31 d
  | 2 => k0_dev32 d
  | 3 => k0_dev33 d
  | 4 => k0_dev34 d
  | 5 => k0_dev35 d
  | 6 => k0_dev36 d

/-- The printed value, by copy. -/
def devG (d : Dev nD) (i : Fin 7) : Nat := match i with
  | 0 => k0_dev38 d
  | 1 => k0_dev40 d
  | 2 => k0_dev41 d
  | 3 => k0_dev44 d
  | 4 => k0_dev45 d
  | 5 => k0_dev46 d
  | 6 => k0_dev47 d

/-- The printed value, by copy. -/
def devC (d : Dev nD) (i : Fin 24) : Nat := match i.val with
  | 0 => k0_dev37 d
  | 1 => k0_dev39 d
  | 2 => k0_dev42 d
  | 3 => k0_dev43 d
  | 4 => k0_dev48 d
  | 5 => k0_dev49 d
  | 6 => k0_dev50 d
  | 7 => k0_dev51 d
  | 8 => k0_dev52 d
  | 9 => k0_dev53 d
  | 10 => k0_dev54 d
  | 11 => k0_dev55 d
  | 12 => k0_dev56 d
  | 13 => k0_dev57 d
  | 14 => k0_dev58 d
  | 15 => k0_dev59 d
  | 16 => k0_dev60 d
  | 17 => k0_dev61 d
  | 18 => k0_dev62 d
  | 19 => k0_dev63 d
  | 20 => k0_dev64 d
  | 21 => k0_dev65 d
  | 22 => k0_dev66 d
  | _ => k0_dev67 d

/-- The printed value, by copy. -/
def devB (d : Dev nD) (i : Fin 5) : Nat := match i with
  | 0 => k0_dev1 d
  | 1 => k0_dev2 d
  | 2 => k0_dev3 d
  | 3 => k0_dev4 d
  | 4 => k0_dev5 d

/-- The device signalled by barrier signal `i`. -/
def tgtB (d : Dev nD) (i : Fin 5) : Dev nD := match i with | 0 => zn d | 1 => zp d | 2 => pr d 0 | 3 => pr d 4 | 4 => pr d 6

theorem off1_eq : ∀ d : Dev nD, k0_off1 d = ![256 * (grp0 d).val, 0] := by decide +kernel
theorem off2_eq : ∀ d : Dev nD, k0_off2 d = ![8 * (grp0 d).val, 0, 0] := by decide +kernel
theorem off3_eq : ∀ (d : Dev nD) (c : Fin 8), k0_off3 d (BitVec.ofNat 32 c.val) = ![(row (grp0 d) c).val, 0, 0] := by decide +kernel
theorem off4_eq : ∀ (d : Dev nD) (s : Fin 3), k0_off4 d (BitVec.ofNat 32 s.val) = ![256 * (grpA d s).val, 0] := by decide +kernel
theorem off5_eq : ∀ (d : Dev nD) (s : Fin 3), k0_off5 d (BitVec.ofNat 32 s.val) = ![8 * (grpA d s).val, 0, 0] := by decide +kernel
theorem off6_eq : ∀ (d : Dev nD) (n : Fin 24), k0_off6 d (BitVec.ofNat 32 (hop n).val) (BitVec.ofNat 32 (plc n).val) = ![(row (grpA d (hop n)) (plc n)).val, 0, 0] := by decide +kernel
theorem off7_eq : ∀ d : Dev nD, k0_off7 d = ![8 * (own d).val, 0, 0] := by decide +kernel
theorem offS_eq : ∀ (d : Dev nD) (i : Fin 7), offS d i = ![(row (own d) (sCol d i)).val, 0, 0] := by decide +kernel
theorem offK_eq : ∀ (d : Dev nD) (i : Fin 7), offK d i = ![(row (own d) (kCol d i)).val, 0, 0] := by decide +kernel
theorem offG_eq : ∀ (d : Dev nD) (i : Fin 7), offG d i = ![(row (own d) (kCol d (inv i))).val, 0, 0] := by decide +kernel
theorem offC_eq : ∀ (d : Dev nD) (i : Fin 24), offC d i = ![(rowC d i).val, 0, 0] := by decide +kernel
theorem devA_eq : ∀ (d : Dev nD) (i : Fin 24), devA d i = (zn d).val := by decide +kernel
theorem devR_eq : ∀ (d : Dev nD) (i : Fin 7), devR d i = (pr d i).val := by decide +kernel
theorem devG_eq : ∀ (d : Dev nD) (i : Fin 7), devG d i = (pr d (inv i)).val := by decide +kernel
theorem devC_eq : ∀ (d : Dev nD) (i : Fin 24), devC d i = (zn d).val := by decide +kernel
theorem devB_eq : ∀ (d : Dev nD) (i : Fin 5), devB d i = (tgtB d i).val := by decide +kernel

theorem inb_of {o : Fin 3 → Nat} {i : Fin 32} (e : o = ![i.val, 0, 0]) : ∀ a, o a + S1x32x1024.size a ≤ S32x32x1024.size a := by
  subst e; exact inb32 i
theorem inb8_of {o : Fin 3 → Nat} {i : Fin 4} (e : o = ![8 * i.val, 0, 0]) : ∀ a, o a + S8x32x1024.size a ≤ S32x32x1024.size a := by
  subst e; exact inb8 i
theorem inbX_of {o : Fin 2 → Nat} {i : Fin 4} (e : o = ![256 * i.val, 0]) : ∀ a, o a + S256x1024.size a ≤ S1024x1024.size a := by
  subst e; exact inbX i
theorem packed_of {o : Fin 3 → Nat} {i : Fin 32} (e : o = ![i.val, 0, 0]) :
    (Rect.unit (s := S32x32x1024) o S1x32x1024.size (inb_of e)).PackedRows (EltTy.packing .bf16) := by
  subst e; exact packed32 i
theorem packed8_of {o : Fin 3 → Nat} {i : Fin 4} (e : o = ![8 * i.val, 0, 0]) :
    (Rect.unit (s := S32x32x1024) o S8x32x1024.size (inb8_of e)).PackedRows (EltTy.packing .bf16) := by
  subst e; exact packed8 i
theorem lt_of {o : Nat} {i : Dev nD} (e : o = i.val) : o < nD := e ▸ i.isLt

theorem we24 (m : Memref sig .tc .vmem S24x32x1024 .bf16) (hm : m.IsWhole) (i : Fin 24) : (c24 m i).view.WordExact :=
  (hm.wordExact_slice rfl _ (words24 i)).reshape _ _
theorem we7 (i : Fin 7) : (c7 i).view.WordExact :=
  ((Memref.isWhole_whole _).wordExact_slice rfl _ (words7 i)).reshape _ _
theorem we_of (m : Memref sig .tc .vmem S32x32x1024 .bf16) (hm : m.IsWhole) {o : Fin 3 → Nat} {i : Fin 32} (e : o = ![i.val, 0, 0]) :
    (sl32 m o (inb_of e)).view.WordExact := by
  subst e; exact (hm.wordExact_slice rfl _ (words32 i)).reshape _ _
theorem we32 (m : Memref sig .tc .vmem S32x32x1024 .bf16) (hm : m.IsWhole) (i : Fin 32) : (c32 m i).view.WordExact :=
  we_of m hm rfl

/-! ## The body, step by step -/

/-- The source of column copy `n`. -/
abbrev srcA (d : Dev nD) (n : Fin 24) : Memref sig .tc .vmem S32x1024 .bf16 :=
  if h : n.val < 8 then sl32 mP (k0_off3 d (BitVec.ofNat 32 n.val)) (inb_of (off3_eq d ⟨n.val, h⟩)) else c24 mA ⟨n.val - 8, by omega⟩

theorem we_srcA (d : Dev nD) (n : Fin 24) : (srcA d n).view.WordExact := by
  unfold srcA; split
  · exact we_of mP (Memref.isWhole_whole _) (off3_eq d ⟨n.val, by assumption⟩)
  · exact we24 mA (Memref.isWhole_whole _) _

/-- Column copy `n`. -/
def sendA (d : Dev nD) (n : Fin 24) : Pg F → Pg F :=
  send (srcA d n) (c24 mC n) (we_srcA d n) (we24 mC (Memref.isWhole_whole _) n) ⟨devA d n, lt_of (devA_eq d n)⟩
    (sem24 cc0_scratch4 n) (sem24 cc0_scratch5 n)
/-- The arrival of column copy `n`. -/
def recvA (d : Dev nD) (n : Fin 24) : Pg F → Pg F :=
  await (sem24 cc0_scratch5 n) (srcA d n) (c24 mC n) (we_srcA d n) (we24 mC (Memref.isWhole_whole _) n)
/-- The completion of column copy `n`. -/
def doneA (d : Dev nD) (n : Fin 24) : Pg F → Pg F :=
  await (sem24 cc0_scratch4 n) (c24 mC n) (srcA d n) (we24 mC (Memref.isWhole_whole _) n) (we_srcA d n)
/-- The sum over arrival `n`. -/
def sumA (d : Dev nD) (n : Fin 24) : Pg F → Pg F :=
  addA ![n.val, 0, 0] (inb24 n) (packed24 n) (k0_off6 d (BitVec.ofNat 32 (hop n).val) (BitVec.ofNat 32 (plc n).val)) (inb_of (off6_eq d n))
/-- The first product. -/
def mul0 (d : Dev nD) : Pg F → Pg F :=
  mulStep (k0_off1 d) (inbX_of (off1_eq d)) (k0_off2 d) (inb8_of (off2_eq d)) (packed8_of (off2_eq d))
/-- The product of column step `s`. -/
def mulA (d : Dev nD) (s : Fin 3) : Pg F → Pg F :=
  mulStep (k0_off4 d (BitVec.ofNat 32 s.val)) (inbX_of (off4_eq d s)) (k0_off5 d (BitVec.ofNat 32 s.val)) (inb8_of (off5_eq d s)) (packed8_of (off5_eq d s))
/-- The column sums, copied to the result. -/
def carryO (d : Dev nD) : Pg F → Pg F := carry (k0_off7 d) (inb8_of (off7_eq d)) (packed8_of (off7_eq d))
/-- The chunk given away in halving copy `i`. -/
abbrev srcR (d : Dev nD) (i : Fin 7) : Memref sig .tc .vmem S32x1024 .bf16 := sl32 mO (offS d i) (inb_of (offS_eq d i))
theorem we_srcR (d : Dev nD) (i : Fin 7) : (srcR d i).view.WordExact := we_of mO (Memref.isWhole_whole _) (offS_eq d i)
/-- Halving copy `i`. -/
def sendR (d : Dev nD) (i : Fin 7) : Pg F → Pg F :=
  send (srcR d i) (c7 i) (we_srcR d i) (we7 i) ⟨devR d i, lt_of (devR_eq d i)⟩ (sem7 cc0_scratch6 i) (sem7 cc0_scratch7 i)
/-- Both ends of halving copy `i`, and its sum. -/
def stepR (d : Dev nD) (i : Fin 7) (k : Pg F) : Pg F :=
  await (sem7 cc0_scratch6 i) (c7 i) (srcR d i) (we7 i) (we_srcR d i) <|
  await (sem7 cc0_scratch7 i) (srcR d i) (c7 i) (we_srcR d i) (we7 i) <|
  addR (offK d i) (inb_of (offK_eq d i)) (packed_of (offK_eq d i)) ![i.val, 0, 0] (inb7 i) k
/-- The chunk of doubling copy `i`. -/
abbrev srcG (d : Dev nD) (i : Fin 7) : Memref sig .tc .vmem S32x1024 .bf16 := sl32 mO (offG d i) (inb_of (offG_eq d i))
theorem we_srcG (d : Dev nD) (i : Fin 7) : (srcG d i).view.WordExact := we_of mO (Memref.isWhole_whole _) (offG_eq d i)
/-- Doubling copy `i`. -/
def sendG (d : Dev nD) (i : Fin 7) : Pg F → Pg F :=
  send (srcG d i) (srcG d i) (we_srcG d i) (we_srcG d i) ⟨devG d i, lt_of (devG_eq d i)⟩ (sem7 cc0_scratch8 i) (sem7 cc0_scratch9 i)
/-- Both ends of doubling copy `i`. -/
def stepG (d : Dev nD) (i : Fin 7) (k : Pg F) : Pg F :=
  await (sem7 cc0_scratch8 i) (srcG d i) (srcG d i) (we_srcG d i) (we_srcG d i) <|
  await (sem7 cc0_scratch9 i) (srcG d i) (srcG d i) (we_srcG d i) (we_srcG d i) k
/-- The chunk of last-phase copy `n`. -/
abbrev srcC (d : Dev nD) (n : Fin 24) : Memref sig .tc .vmem S32x1024 .bf16 := sl32 mO (offC d n) (inb_of (offC_eq d n))
theorem we_srcC (d : Dev nD) (n : Fin 24) : (srcC d n).view.WordExact := we_of mO (Memref.isWhole_whole _) (offC_eq d n)
/-- Last-phase copy `n`. -/
def sendC (d : Dev nD) (n : Fin 24) : Pg F → Pg F :=
  send (srcC d n) (srcC d n) (we_srcC d n) (we_srcC d n) ⟨devC d n, lt_of (devC_eq d n)⟩ (sem24 cc0_scratch10 n) (sem24 cc0_scratch11 n)
/-- The arrival of last-phase copy `n`. -/
def recvC (d : Dev nD) (n : Fin 24) : Pg F → Pg F :=
  await (sem24 cc0_scratch11 n) (srcC d n) (srcC d n) (we_srcC d n) (we_srcC d n)
/-- The completion of last-phase copy `n`. -/
def doneC (d : Dev nD) (n : Fin 24) : Pg F → Pg F :=
  await (sem24 cc0_scratch10 n) (srcC d n) (srcC d n) (we_srcC d n) (we_srcC d n)

/-- The first eight copies of an array of 24; -/
abbrev l0 : List (Fin 24) := [0, 1, 2, 3, 4, 5, 6, 7]
/-- the next eight; -/
abbrev l1 : List (Fin 24) := [8, 9, 10, 11, 12, 13, 14, 15]
/-- the last eight; -/
abbrev l2 : List (Fin 24) := [16, 17, 18, 19, 20, 21, 22, 23]
/-- and all of them. -/
abbrev l24 : List (Fin 24) := [0, 1, 2, 3, 4, 5, 6, 7, 8, 9, 10, 11, 12, 13, 14, 15, 16, 17, 18, 19, 20, 21, 22, 23]

/-- The copy eight after `n`. -/
def nxt (n : Fin 24) : Fin 24 := ⟨(n.val + 8) % 24, Nat.mod_lt _ (by decide)⟩

/-- The column phase. -/
def phaseA (d : Dev nD) (k : Pg F) : Pg F :=
  loop l0 (sendA d) <|
  mulA d 0 <| loop l0 (fun n k => recvA d n <| sumA d n <| sendA d (nxt n) k) <|
  mulA d 1 <| loop l1 (fun n k => recvA d n <| sumA d n <| sendA d (nxt n) k) <|
  mulA d 2 <| loop l2 (fun n k => recvA d n <| sumA d n k) <|
  loop l24 (doneA d) k

/-- The halving phase. -/
def phaseR (d : Dev nD) (k : Pg F) : Pg F :=
  loop [0, 1, 2, 3] (sendR d) <| loop [0, 1, 2, 3] (stepR d) <|
  loop [4, 5] (sendR d) <| loop [4, 5] (stepR d) <|
  loop [6] (sendR d) <| loop [6] (stepR d) k

/-- The doubling phase, with the first copies of the last. -/
def phaseG (d : Dev nD) (k : Pg F) : Pg F :=
  sendC d 0 <| sendG d 0 <| stepG d 0 <| sendC d 1 <|
  sendG d 1 <| sendG d 2 <| stepG d 1 <| sendC d 2 <| stepG d 2 <| sendC d 3 <|
  sendG d 3 <| sendG d 4 <| sendG d 5 <| sendG d 6 <|
  stepG d 3 <| sendC d 4 <| stepG d 4 <| sendC d 5 <| stepG d 5 <| sendC d 6 <| stepG d 6 <| sendC d 7 k

/-- The last phase. -/
def phaseC (d : Dev nD) (k : Pg F) : Pg F :=
  loop (l0 ++ l1) (fun n k => recvC d n <| sendC d (nxt n) k) <| loop l2 (recvC d) <| loop l24 (doneC d) k

/-- The body on device `d`. -/
def bodyOn (d : Dev nD) : Pg F :=
  mul0 d <| loop [0, 1, 2, 3, 4] (fun i => signal ⟨devB d i, lt_of (devB_eq d i)⟩) <| awaitBar <|
  phaseA d <| carryO d <| phaseR d <| phaseG d <| phaseC d <| .ret ⟨⟩

/-- The body. -/
def body : Pg F := .op .deviceId fun d => bodyOn d

theorem body_eq (h0 h1 h2 h3 h4 h5 h6) :
    cc0_body (F := F) mX h0 mW h1 mO h2 mP h3 mC h4 mA h5 mB h6 cc0_scratch4 cc0_scratch5 cc0_scratch6 cc0_scratch7
      cc0_scratch8 cc0_scratch9 cc0_scratch10 cc0_scratch11 = body := by
  rw [cc0_body_eq_skeleton]
  sl_kernel_rfl

end Cert.AR
-- ==== Proof.Chunk.lean ====
module

public import proofs.«01_k».proof.Proof.Clean
public import Idealize.ShloMosaic.Lib.Pipeline.Kit
public import Idealize.ShloMosaic.Lib.Pipeline.BigSepL
public import Idealize.ShloMosaic.Lib.Pipeline.TalkSched
public import Idealize.ShloMosaic.Lib.Rounds

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The protocol's algebra: the pipeline's copies beside the exchange's rounds. -/
abbrev UU : Type := UR sig nD τ × URounds (GSem nD τ sig) (Fin 5)

local notation "𝕄" => MT nD τ sig ℕ (Elt F) ℕ UU ℕ

/-! ## Rows of a buffer of `n` chunks -/

/-- A buffer of `n` chunks of 32 by 1024. -/
abbrev Sn (n : ℕ) : Shape := ⟨3, ![n, 32, 1024]⟩

/-- `k` consecutive chunks from chunk `o`. -/
abbrev Rw (n k : ℕ) (o : ℕ) (h : ∀ a, (![o, 0, 0] : Fin 3 → ℕ) a + (Sn k).size a ≤ (Sn n).size a) : Rect (Sn n) :=
  Rect.unit (s := Sn n) ![o, 0, 0] (Sn k).size h

theorem mem_Rw {n k o : ℕ} {h} {x : (Sn n).Idx} : x ∈ (Rw n k o h).set ↔ o ≤ (x 0).val ∧ (x 0).val < o + k := by
  refine Rect.mem_set_unit.trans ⟨fun H => H 0, fun H a => ?_⟩
  fin_cases a
  · exact H
  · exact ⟨Nat.zero_le _, by have := (x 1).isLt; simpa using this⟩
  · exact ⟨Nat.zero_le _, by have := (x 2).isLt; simpa using this⟩

theorem inRw {n k o : ℕ} (h : ∀ a, (![o, 0, 0] : Fin 3 → ℕ) a + (Sn k).size a ≤ (Sn n).size a) (c : Fin k) :
    ∀ a, (![o + c.val, 0, 0] : Fin 3 → ℕ) a + (Sn 1).size a ≤ (Sn n).size a := by
  have h0 : o + k ≤ n := h 0
  have hc := c.isLt
  intro a; fin_cases a
  · show o + c.val + 1 ≤ n; omega
  · show 0 + 32 ≤ 32; omega
  · show 0 + 1024 ≤ 1024; omega

theorem set_Rw {n k o : ℕ} (h) : (Rw n k o h).set = Finset.univ.biUnion fun c : Fin k => (Rw n 1 (o + c.val) (inRw h c)).set := by
  ext x
  rw [Finset.mem_biUnion, mem_Rw]
  constructor
  · rintro ⟨h1, h2⟩
    exact ⟨⟨(x 0).val - o, by omega⟩, Finset.mem_univ _, mem_Rw.mpr (by dsimp only; omega)⟩
  · rintro ⟨c, -, hc⟩
    have := mem_Rw.mp hc; have := c.isLt; omega

section View
variable {n k o : ℕ} (A : View sig .tc .vmem (Sn n) .bf16)

theorem set_rows (h) : (A.slice (Rw n k o h)).set
    = Finset.univ.biUnion fun c : Fin k => (A.slice (Rw n 1 (o + c.val) (inRw h c))).set := by
  rw [View.set_slice, set_Rw h]
  ext y
  simp only [Finset.mem_map, Finset.mem_biUnion, View.set_slice, Finset.mem_univ, true_and]
  constructor
  · rintro ⟨x, ⟨c, hc⟩, e⟩; exact ⟨c, x, hc, e⟩
  · rintro ⟨c, x, hc, e⟩; exact ⟨x, ⟨c, hc⟩, e⟩

theorem disj_rows (h) : ∀ c ∈ (Finset.univ : Finset (Fin k)), ∀ c' ∈ (Finset.univ : Finset (Fin k)), c ≠ c' →
    Disjoint (A.slice (Rw n 1 (o + c.val) (inRw h c))).set (A.slice (Rw n 1 (o + c'.val) (inRw h c'))).set := by
  intro c _ c' _ hne
  rw [View.set_slice, View.set_slice, Finset.disjoint_map, Finset.disjoint_left]
  intro x hx hx'
  have h1 := mem_Rw.mp hx; have h2 := mem_Rw.mp hx'
  exact hne (Fin.ext (by omega))

theorem set_all (h) : (A.slice (Rw n n 0 h)).set = A.set := by
  rw [View.set_slice, show (Rw n n 0 h).set = Finset.univ from ?_]
  · rfl
  · ext x; simp only [Finset.mem_univ, iff_true]; exact mem_Rw.mpr ⟨Nat.zero_le _, by have := (x 0).isLt; simpa using this⟩

/-- The index of a stack at chunk `c`, row `x`, column `y`. -/
def ix {k : ℕ} (c : Fin k) (x : Fin 32) (y : Fin 1024) : (Sn k).Idx
  | ⟨0, _⟩ => c
  | ⟨1, _⟩ => x
  | ⟨2, _⟩ => y

/-- One chunk of a stack. -/
def pick {X : Type} {k : ℕ} (v : (Sn k).Idx → X) (c : Fin k) : (Sn 1).Idx → X := fun j => v (ix c (j 1) (j 2))
/-- A stack of chunks. -/
def stack {X : Type} {k : ℕ} (vs : Fin k → (Sn 1).Idx → X) : (Sn k).Idx → X := fun j => vs (j 0) (ix 0 (j 1) (j 2))

theorem idx_one (j : (Sn 1).Idx) : ix (0 : Fin 1) (j 1) (j 2) = j := by
  funext a; fin_cases a
  · exact Subsingleton.elim (α := Fin 1) _ _
  · rfl
  · rfl
theorem idx_eta {k : ℕ} (j : (Sn k).Idx) : ix (k := k) (j 0) (j 1) (j 2) = j := by
  funext a; fin_cases a <;> rfl
theorem pick_stack {X : Type} {k : ℕ} (vs : Fin k → (Sn 1).Idx → X) (c : Fin k) : pick (stack vs) c = vs c := by
  funext j; show vs c (ix 0 (j 1) (j 2)) = vs c j; rw [idx_one]
theorem stack_of_pick {X : Type} {k : ℕ} (v : (Sn k).Idx → X) (vs : Fin k → (Sn 1).Idx → X) (h : ∀ c, pick v c = vs c) : v = stack vs := by
  funext j
  exact (congrArg v (idx_eta j)).symm.trans (congrFun (h (j 0)) (ix 0 (j 1) (j 2)))

theorem emb_rows (h) (c : Fin k) (j : (Sn 1).Idx) :
    (Rw n 1 (o + c.val) (inRw h c)).emb j = (Rw n k o h).emb (ix c (j 1) (j 2)) := by
  funext a; apply Fin.ext; rw [Rect.emb_apply, Rect.emb_apply]
  fin_cases a
  · have h0 : (j 0).val = 0 := by have : (j 0).val < 1 := (j 0).isLt; omega
    show (o + c.val) + 1 * (j 0).val = o + 1 * c.val; omega
  · rfl
  · rfl

theorem read_rows (h) (f : A.ty.Contents (Elt F)) (c : Fin k) :
    (A.slice (Rw n 1 (o + c.val) (inRw h c))).read (Elt F) f = pick ((A.slice (Rw n k o h)).read (Elt F) f) c := by
  funext j
  show _root_.cast _ (f (A.emb ((Rw n 1 (o + c.val) (inRw h c)).emb j))) = _root_.cast _ (f (A.emb ((Rw n k o h).emb _)))
  rw [emb_rows]

end View

/-! ## Holding a view at a value -/

/-- Device `d` holds the view `A` at share `q`, with value `v`. -/
def ch (d : Dev nD) {s : Shape} (A : View sig .tc .vmem s .bf16) (q : PosShare TreeShare) (v : s.Idx → Elt F .bf16) : sProp 𝕄 :=
  iprop(∃ f : Buf (Elt F) (A.loc (d : Thread nD τ)), ⌜A.read (Elt F) f = v⌝ ∗ (A.loc (d : Thread nD τ) ↦[A.set]{q} f))

/-- Device `d` holds the view `A`, at any value. -/
def chAny (d : Dev nD) {s : Shape} (A : View sig .tc .vmem s .bf16) : sProp 𝕄 :=
  iprop(∃ f : Buf (Elt F) (A.loc (d : Thread nD τ)), (A.loc (d : Thread nD τ) ↦[A.set]{fullShare} f))

variable {d : Dev nD} {s : Shape}

theorem ch_any (A : View sig .tc .vmem s .bf16) (v : s.Idx → Elt F .bf16) : (ch d A fullShare v : sProp 𝕄) ⊢ chAny d A := by
  unfold ch chAny
  iintro ⟨%f, -, H⟩; iexists f; iexact H

/-- The left half of everything. -/
abbrev qL : PosShare TreeShare := fullShare.left
/-- The right half. -/
abbrev qR : PosShare TreeShare := fullShare.right

theorem ch_split (A : View sig .tc .vmem s .bf16) (v : s.Idx → Elt F .bf16) :
    (ch d A fullShare v : sProp 𝕄) ⊢ iprop(ch d A qL v ∗ ch d A qR v) := by
  unfold ch
  iintro ⟨%f, %h, H⟩
  ihave H' := (pointsTo_share (q := fullShare) (q₁ := qL) (q₂ := qR)
    (by rw [PosShare.left_op_right]; exact Part.mem_some _)).1 $$ H
  icases H' with ⟨H1, H2⟩
  isplitl [H1]
  · iexists f; isplitr; · ipureintro; exact h
    iexact H1
  · iexists f; isplitr; · ipureintro; exact h
    iexact H2

theorem ch_join (A : View sig .tc .vmem s .bf16) (v v' : s.Idx → Elt F .bf16) :
    iprop(ch d A qL v ∗ ch d A qR v') ⊢ (ch d A fullShare v : sProp 𝕄) := by
  unfold ch
  iintro ⟨⟨%f, %h, H⟩, ⟨%f', -, H'⟩⟩
  ihave %ha := pointsTo_agree $$ [H H']
  · isplitl [H] <;> iassumption
  ihave H2 := (Entails.of_eq (pointsTo_congr (g := f) fun i hi => (ha i (Finset.mem_inter.mpr ⟨hi, hi⟩)).1.symm)) $$ H'
  iexists f
  isplitr; · ipureintro; exact h
  iapply (pointsTo_share (q := fullShare) (q₁ := qL) (q₂ := qR)
    (by rw [PosShare.left_op_right]; exact Part.mem_some _)).2
  isplitl [H] <;> iassumption

section Rows
variable {n k o : ℕ} (A : View sig .tc .vmem (Sn n) .bf16)

/-- A stack of chunks held is each chunk held. -/
theorem ch_rows (h) (q : PosShare TreeShare) (v : (Sn k).Idx → Elt F .bf16) :
    (ch d (A.slice (Rw n k o h)) q v : sProp 𝕄)
      ⊢ bigSepL (List.finRange k) fun c => ch d (A.slice (Rw n 1 (o + c.val) (inRw h c))) q (pick v c) := by
  rw [← bigSep_univ_eq_bigSepL (List.finRange k) (by ext; simp) (List.nodup_finRange k)]
  have e1 (f : Buf (Elt F) (A.loc (d : Thread nD τ))) (hv : (A.slice (Rw n k o h)).read (Elt F) f = v) (c : Fin k) (_ : c ∈ Finset.univ) :
      (A.loc (d : Thread nD τ) ↦[(A.slice (Rw n 1 (o + c.val) (inRw h c))).set]{q} f : sProp 𝕄)
        ⊢ ch d (A.slice (Rw n 1 (o + c.val) (inRw h c))) q (pick v c) := by
    unfold ch
    iintro H
    iexists f
    isplitr
    · ipureintro; rw [read_rows A h, hv]
    · iexact H
  have e2 (f : Buf (Elt F) (A.loc (d : Thread nD τ))) :
      (A.loc (d : Thread nD τ) ↦[(A.slice (Rw n k o h)).set]{q} f : sProp 𝕄)
        ⊢ bigSep Finset.univ fun c : Fin k => (A.loc (d : Thread nD τ) ↦[(A.slice (Rw n 1 (o + c.val) (inRw h c))).set]{q} f) := by
    rw [set_rows A h]
    exact Entails.of_eq (pointsTo_biUnion _ _ (disj_rows A h))
  rw [show ch d (A.slice (Rw n k o h)) q v = (iprop(∃ f : Buf (Elt F) (A.loc (d : Thread nD τ)),
    ⌜(A.slice (Rw n k o h)).read (Elt F) f = v⌝ ∗ (A.loc (d : Thread nD τ) ↦[(A.slice (Rw n k o h)).set]{q} f)) : sProp 𝕄) from rfl]
  iintro ⟨%f, %hv, H⟩
  iapply ((e2 f).trans (bigSep_mono (e1 f hv))); iexact H

theorem chAny_ex (A : View sig .tc .vmem s .bf16) : (chAny d A : sProp 𝕄) ⊢ iprop(∃ v, ch d A fullShare v) := by
  unfold chAny ch
  iintro ⟨%f, H⟩
  iexists (A.read (Elt F) f); iexists f
  isplitr; · ipureintro; rfl
  iexact H

/-- A stack of chunks held, at any value, is each chunk held, at any value. -/
theorem chAny_rows (h) :
    (chAny d (A.slice (Rw n k o h)) : sProp 𝕄)
      ⊢ bigSepL (List.finRange k) fun c => chAny d (A.slice (Rw n 1 (o + c.val) (inRw h c))) := by
  iintro H
  ihave H' := (chAny_ex _) $$ H
  icases H' with ⟨%v, H⟩
  iapply ((ch_rows A h fullShare v).trans (bigSepL_mono fun c _ => ch_any _ _)); iexact H

/-- The value of a view held, spelt as a write. -/
theorem ch_fix {s : Shape} (A : View sig .tc .vmem s .bf16) (q : PosShare TreeShare) (v : s.Idx → Elt F .bf16) (f₀ : Buf (Elt F) (A.loc (d : Thread nD τ))) :
    (ch d A q v : sProp 𝕄) ⊢ (A.loc (d : Thread nD τ) ↦[A.set]{q} (A.write (Elt F) f₀ v Finset.univ)) := by
  unfold ch
  iintro ⟨%f, %h, H⟩
  subst h
  iapply (Entails.of_eq (pointsTo_congr fun i hi => ?_)) $$ H
  obtain ⟨x, -, rfl⟩ := Finset.mem_map.mp hi
  rw [View.write_emb_of_mem _ _ (Finset.mem_univ x), View.read_apply]
  exact (cast_cast _ _ _).symm ▸ rfl

/-- Each chunk held is the stack held. -/
theorem ch_unrows (h) (q : PosShare TreeShare) (vs : Fin k → (Sn 1).Idx → Elt F .bf16) :
    (bigSepL (List.finRange k) fun c => ch d (A.slice (Rw n 1 (o + c.val) (inRw h c))) q (vs c) : sProp 𝕄)
      ⊢ ch d (A.slice (Rw n k o h)) q (stack vs) := by
  rw [← bigSep_univ_eq_bigSepL (List.finRange k) (by ext; simp) (List.nodup_finRange k)]
  let f₀ : Buf (Elt F) (A.loc (d : Thread nD τ)) := fun _ => default
  refine (bigSep_mono fun c _ => ch_fix (A.slice (Rw n 1 (o + c.val) (inRw h c))) q (vs c) f₀).trans ?_
  refine (pointsTo_biUnion_join (ℓ := A.loc (d : Thread nD τ)) Finset.univ (fun c : Fin k => (A.slice (Rw n 1 (o + c.val) (inRw h c))).set) _ f₀ (disj_rows A h)).trans ?_
  rw [← set_rows A h]
  unfold ch
  iintro ⟨%g, %hg, H⟩
  iexists g
  isplitr
  · ipureintro
    refine stack_of_pick _ _ fun c => ?_
    rw [← read_rows A h, View.read_congr (hg c (Finset.mem_univ c)), View.read_write_univ]
  · iexact H

/-- Each chunk held, at any value, is the stack held, at any value. -/
theorem chAny_unrows (h) :
    (bigSepL (List.finRange k) fun c => chAny d (A.slice (Rw n 1 (o + c.val) (inRw h c))) : sProp 𝕄)
      ⊢ chAny d (A.slice (Rw n k o h)) := by
  rw [← bigSep_univ_eq_bigSepL (List.finRange k) (by ext; simp) (List.nodup_finRange k)]
  refine (bigSep_mono fun c _ => chAny_ex _).trans ?_
  haveI hne : ∀ _ : Fin k, Nonempty ((Sn 1).Idx → Elt F .bf16) := fun _ => ⟨fun _ => (Elt.inhabited F _).default⟩
  refine (@bigSep_exists_pi _ _ _ _ (fun _ : Fin k => (Sn 1).Idx → Elt F .bf16) hne Finset.univ
    fun (c : Fin k) v => (ch d (A.slice (Rw n 1 (o + c.val) (inRw h c))) fullShare v : sProp 𝕄)).trans ?_
  rw [show (fun vs : Fin k → (Sn 1).Idx → Elt F .bf16 => bigSep Finset.univ fun c => (ch d (A.slice (Rw n 1 (o + c.val) (inRw h c))) fullShare (vs c) : sProp 𝕄))
    = fun vs => bigSepL (List.finRange k) fun c => ch d (A.slice (Rw n 1 (o + c.val) (inRw h c))) fullShare (vs c) from
      funext fun vs => bigSep_univ_eq_bigSepL (List.finRange k) (by ext; simp) (List.nodup_finRange k) _]
  iintro ⟨%vs, H⟩
  iapply ((ch_unrows A h fullShare vs).trans (ch_any _ _)); iexact H

end Rows

/-- The same view, as a matrix. -/
def sq {X : Type} (v : (Sn 1).Idx → X) : S32x1024.Idx → X := fun j => v (Shape.reshapeEquiv (s := Sn 1) (s' := S32x1024) (by rfl) j)

theorem sq_inj {X : Type} {v v' : (Sn 1).Idx → X} (h : sq v = sq v') : v = v' := by
  funext j
  have := congrFun h ((Shape.reshapeEquiv (s := Sn 1) (s' := S32x1024) (by rfl)).symm j)
  simpa only [sq, Equiv.apply_symm_apply] using this

end Cert.AR
-- ==== Proof.Copies.lean ====
module

public import proofs.«01_k».proof.Proof.Chunk

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The copies -/

/-- A device's copies: 24 round the column, 7 halving, 7 doubling, 24 of the last phase. -/
inductive Cp where
  | a (n : Fin 24) | r (i : Fin 7) | g (i : Fin 7) | c (n : Fin 24)
deriving DecidableEq

/-- Seven copies. -/
abbrev l7 : List (Fin 7) := [0, 1, 2, 3, 4, 5, 6]
/-- All the copies. -/
abbrev allCp : List Cp := l24.map .a ++ (l7.map .r ++ (l7.map .g ++ l24.map .c))

theorem mem_l24 : ∀ n : Fin 24, n ∈ l24 := by decide
theorem mem_l7 : ∀ n : Fin 7, n ∈ l7 := by decide
theorem allCp_nodup : allCp.Nodup := by decide +kernel
theorem mem_allCp (x : Cp) : x ∈ allCp := by
  simp only [allCp, List.mem_append, List.mem_map]
  cases x with
  | a n => exact .inl ⟨n, mem_l24 n, rfl⟩
  | r i => exact .inr (.inl ⟨i, mem_l7 i, rfl⟩)
  | g i => exact .inr (.inr (.inl ⟨i, mem_l7 i, rfl⟩))
  | c n => exact .inr (.inr (.inr ⟨n, mem_l24 n, rfl⟩))

instance : Fintype Cp := ⟨⟨↑allCp, allCp_nodup⟩, fun x => mem_allCp x⟩

/-- The value of one chunk. -/
abbrev V (F : FTy → Type) : Type := (Sn 1).Idx → Elt F .bf16

/-- Where a copy goes. -/
def tgt (d : Dev nD) : Cp → Dev nD
  | .a _ => zn d | .r i => pr d i | .g i => pr d (inv i) | .c _ => zn d
/-- Where a copy comes from. -/
def frm (d : Dev nD) : Cp → Dev nD
  | .a _ => zp d | .r i => pr d i | .g i => pr d (inv i) | .c _ => zp d

theorem zn_zp : ∀ d : Dev nD, zn (zp d) = d := by decide
theorem zp_zn : ∀ d : Dev nD, zp (zn d) = d := by decide
theorem pr_pr : ∀ (d : Dev nD) (i : Fin 7), pr (pr d i) i = d := by decide
theorem tgt_frm (d : Dev nD) (x : Cp) : tgt (frm d x) x = d := by
  cases x
  · exact zn_zp d
  · exact pr_pr d _
  · exact pr_pr d _
  · exact zn_zp d
theorem frm_tgt (d : Dev nD) (x : Cp) : frm (tgt d x) x = d := by
  cases x
  · exact zp_zn d
  · exact pr_pr d _
  · exact pr_pr d _
  · exact zp_zn d

/-- The devices, each sent to its target. -/
def tgtE (x : Cp) : Dev nD ≃ Dev nD := ⟨fun d => tgt d x, fun d => frm d x, fun d => frm_tgt d x, fun d => tgt_frm d x⟩

/-- The chunk a copy reads. -/
def src (d : Dev nD) : Cp → Memref sig .tc .vmem S32x1024 .bf16
  | .a n => if h : n.val < 8 then c32 mP (row (grp0 d) ⟨n.val, h⟩) else c24 mA ⟨n.val - 8, by omega⟩
  | .r i => c32 mO (row (own d) (sCol d i))
  | .g i => c32 mO (row (own d) (kCol d (inv i)))
  | .c n => c32 mO (rowC d n)
/-- The chunk a copy writes, on its target. -/
def dst (d : Dev nD) : Cp → Memref sig .tc .vmem S32x1024 .bf16
  | .a n => c24 mC n
  | .r i => c7 i
  | .g i => c32 mO (row (own d) (kCol d (inv i)))
  | .c n => c32 mO (rowC d n)

theorem we_src (d : Dev nD) (x : Cp) : (src d x).view.WordExact := by
  cases x with
  | a n =>
    unfold src; dsimp only; split
    · exact we32 mP (Memref.isWhole_whole _) _
    · exact we24 mA (Memref.isWhole_whole _) _
  | r i => exact we32 mO (Memref.isWhole_whole _) _
  | g i => exact we32 mO (Memref.isWhole_whole _) _
  | c i => exact we32 mO (Memref.isWhole_whole _) _
theorem we_dst (d : Dev nD) (x : Cp) : (dst d x).view.WordExact := by
  cases x with
  | a n => exact we24 mC (Memref.isWhole_whole _) _
  | r i => exact we7 i
  | g i => exact we32 mO (Memref.isWhole_whole _) _
  | c i => exact we32 mO (Memref.isWhole_whole _) _

/-- The semaphore that counts a copy's completion at its source. -/
def sS : Cp → DmaSem sig
  | .a n => sem24 cc0_scratch4 n | .r i => sem7 cc0_scratch6 i | .g i => sem7 cc0_scratch8 i | .c n => sem24 cc0_scratch10 n
/-- The semaphore that counts its arrival. -/
def sR : Cp → DmaSem sig
  | .a n => sem24 cc0_scratch5 n | .r i => sem7 cc0_scratch7 i | .g i => sem7 cc0_scratch9 i | .c n => sem24 cc0_scratch11 n

/-- The semaphore of one end of a copy: its completion or its arrival. -/
def sem (p : Bool × Cp) : DmaSem sig := if p.1 then sR p.2 else sS p.2

/-- Which end of which copy a semaphore counts. -/
def role (s : DmaSem sig) : Option (Bool × Cp) :=
  (allCp.map (Prod.mk false) ++ allCp.map (Prod.mk true)).find? fun p => decide (sem p = s)

theorem role_sS : ∀ x ∈ allCp, role (sS x) = some (false, x) := by decide +kernel
theorem role_sR : ∀ x ∈ allCp, role (sR x) = some (true, x) := by decide +kernel
theorem role_sem (p : Bool × Cp) : role (sem p) = some p := by
  obtain ⟨b, x⟩ := p
  cases b
  · exact role_sS x (mem_allCp x)
  · exact role_sR x (mem_allCp x)
theorem sem_inj : Function.Injective sem := fun p q h => by
  have := (role_sem p).symm.trans ((congrArg role h).trans (role_sem q)); exact Option.some.inj this

/-- The credit of one chunk. -/
abbrev N : ℕ := (c32 mO 0).view.dmaCredit
theorem N_pos : 0 < N := View.dmaCredit_pos _ (by decide)

theorem credit_src (d : Dev nD) (x : Cp) : (src d x).view.dmaCredit = N := by
  cases x with
  | a n => unfold src; dsimp only
  | r i => rfl
  | g i => rfl
  | c i => rfl
theorem credit_dst (d : Dev nD) (x : Cp) : (dst d x).view.dmaCredit = N := by
  cases x <;> rfl

/-! ### The body, copy by copy -/

/-- Send a copy. -/
def sendX (d : Dev nD) (x : Cp) : Pg F → Pg F := send (src d x) (dst d x) (we_src d x) (we_dst d x) (tgt d x) (sS x) (sR x)
/-- Wait for a copy's arrival. -/
def recvX (d : Dev nD) (x : Cp) : Pg F → Pg F := await (sR x) (src d x) (dst d x) (we_src d x) (we_dst d x)
/-- Wait for a copy's completion. -/
def doneX (d : Dev nD) (x : Cp) : Pg F → Pg F := await (sS x) (dst d x) (src d x) (we_dst d x) (we_src d x)

theorem sl32_eq (m : Memref sig .tc .vmem S32x32x1024 .bf16) {o : Fin 3 → Nat} {i : Fin 32} (e : o = ![i.val, 0, 0]) :
    sl32 m o (inb_of e) = c32 m i := by subst e; rfl

theorem srcA_eq (d : Dev nD) (n : Fin 24) : srcA d n = src d (.a n) := by
  unfold srcA src; dsimp only; split
  · exact sl32_eq mP (off3_eq d ⟨n.val, by assumption⟩)
  · rfl
theorem srcR_eq (d : Dev nD) (i : Fin 7) : srcR d i = src d (.r i) := sl32_eq mO (offS_eq d i)
theorem srcG_eq (d : Dev nD) (i : Fin 7) : srcG d i = src d (.g i) := sl32_eq mO (offG_eq d i)
theorem srcC_eq (d : Dev nD) (i : Fin 24) : srcC d i = src d (.c i) := sl32_eq mO (offC_eq d i)

theorem send_congr {s s' t t' : Memref sig .tc .vmem S32x1024 .bf16} {hs ht hs' ht'} {p p' : Dev nD} (h1 : s = s') (h2 : t = t')
    (h3 : p = p') (a b : DmaSem sig) : (send s t hs ht p a b : Pg F → Pg F) = send s' t' hs' ht' p' a b := by
  subst h1 h2 h3; rfl
theorem await_congr {s s' t t' : Memref sig .tc .vmem S32x1024 .bf16} {hs ht hs' ht'} (h1 : s = s') (h2 : t = t')
    (a : DmaSem sig) : (await a s t hs ht : Pg F → Pg F) = await a s' t' hs' ht' := by
  subst h1 h2; rfl

theorem sendA_eq (d : Dev nD) (n : Fin 24) : (sendA d n : Pg F → Pg F) = sendX d (.a n) :=
  send_congr (srcA_eq d n) rfl (Fin.ext (devA_eq d n)) _ _
theorem sendR_eq (d : Dev nD) (n : Fin 7) : (sendR d n : Pg F → Pg F) = sendX d (.r n) :=
  send_congr (srcR_eq d n) rfl (Fin.ext (devR_eq d n)) _ _
theorem sendG_eq (d : Dev nD) (n : Fin 7) : (sendG d n : Pg F → Pg F) = sendX d (.g n) :=
  send_congr (srcG_eq d n) (srcG_eq d n) (Fin.ext (devG_eq d n)) _ _
theorem sendC_eq (d : Dev nD) (n : Fin 24) : (sendC d n : Pg F → Pg F) = sendX d (.c n) :=
  send_congr (srcC_eq d n) (srcC_eq d n) (Fin.ext (devC_eq d n)) _ _
theorem recvA_eq (d : Dev nD) (n : Fin 24) : (recvA d n : Pg F → Pg F) = recvX d (.a n) := await_congr (srcA_eq d n) rfl _
theorem doneA_eq (d : Dev nD) (n : Fin 24) : (doneA d n : Pg F → Pg F) = doneX d (.a n) := await_congr rfl (srcA_eq d n) _
theorem recvC_eq (d : Dev nD) (n : Fin 24) : (recvC d n : Pg F → Pg F) = recvX d (.c n) := await_congr (srcC_eq d n) (srcC_eq d n) _
theorem doneC_eq (d : Dev nD) (n : Fin 24) : (doneC d n : Pg F → Pg F) = doneX d (.c n) := await_congr (srcC_eq d n) (srcC_eq d n) _
theorem stepG_eq (d : Dev nD) (i : Fin 7) (k : Pg F) : stepG d i k = doneX d (.g i) (recvX d (.g i) k) := by
  show await _ _ _ _ _ (await _ _ _ _ _ k) = _
  rw [await_congr (hs' := we_dst d (.g i)) (ht' := we_src d (.g i)) (srcG_eq d i) (srcG_eq d i),
    await_congr (hs' := we_src d (.g i)) (ht' := we_dst d (.g i)) (srcG_eq d i) (srcG_eq d i)]
  rfl
/-- The sum of halving copy `i`. -/
def sumR (d : Dev nD) (i : Fin 7) : Pg F → Pg F :=
  addR ![(row (own d) (kCol d i)).val, 0, 0] (inb32 _) (packed32 _) ![i.val, 0, 0] (inb7 i)
theorem addR_congr {o o' : Fin 3 → Nat} {ho hp ho' hp'} (h : o = o') (i hi) :
    (addR o ho hp i hi : Pg F → Pg F) = addR o' ho' hp' i hi := by subst h; rfl
theorem stepR_eq (d : Dev nD) (i : Fin 7) (k : Pg F) : stepR d i k = doneX d (.r i) (recvX d (.r i) (sumR d i k)) := by
  show await _ _ _ _ _ (await _ _ _ _ _ (addR _ _ _ _ _ k)) = _
  rw [await_congr (s := c7 i) (s' := dst d (.r i)) (hs' := we_dst d (.r i)) (ht' := we_src d (.r i)) rfl (srcR_eq d i),
    await_congr (t := c7 i) (t' := dst d (.r i)) (hs' := we_src d (.r i)) (ht' := we_dst d (.r i)) (srcR_eq d i) rfl,
    addR_congr (ho' := inb32 _) (hp' := packed32 _) (offK_eq d i)]
  rfl

/-- The sum over arrival `n`, by chunk. -/
def sumX (d : Dev nD) (n : Fin 24) : Pg F → Pg F :=
  addA ![n.val, 0, 0] (inb24 n) (packed24 n) ![(row (grpA d (hop n)) (plc n)).val, 0, 0] (inb32 _)
theorem addA_congr {o o' : Fin 3 → Nat} {ho ho'} (h : o = o') (i hi hp) :
    (addA i hi hp o ho : Pg F → Pg F) = addA i hi hp o' ho' := by subst h; rfl
theorem sumA_eq (d : Dev nD) (n : Fin 24) : (sumA d n : Pg F → Pg F) = sumX d n := addA_congr (off6_eq d n) _ _ _

/-- The product of group `r`. -/
def mulX (r : Fin 4) : Pg F → Pg F :=
  mulStep ![256 * r.val, 0] (inbX r) ![8 * r.val, 0, 0] (inb8 r) (packed8 r)
theorem mul_congr {oi oi' : Fin 2 → Nat} {oo oo' : Fin 3 → Nat} {hi hi' ho ho' hp hp'} (h1 : oi = oi') (h2 : oo = oo') :
    (mulStep oi hi oo ho hp : Pg F → Pg F) = mulStep oi' hi' oo' ho' hp' := by subst h1 h2; rfl
theorem mul0_eq (d : Dev nD) : (mul0 d : Pg F → Pg F) = mulX (grp0 d) := mul_congr (off1_eq d) (off2_eq d)
theorem mulA_eq (d : Dev nD) (s : Fin 3) : (mulA d s : Pg F → Pg F) = mulX (grpA d s) := mul_congr (off4_eq d s) (off5_eq d s)
/-- The column sums of group `r`, copied to the result. -/
def carryX (r : Fin 4) : Pg F → Pg F := carry ![8 * r.val, 0, 0] (inb8 r) (packed8 r)
theorem carry_congr {oo oo' : Fin 3 → Nat} {ho ho' hp hp'} (h2 : oo = oo') :
    (carry oo ho hp : Pg F → Pg F) = carry oo' ho' hp' := by subst h2; rfl
theorem carryO_eq (d : Dev nD) : (carryO d : Pg F → Pg F) = carryX (own d) := carry_congr (off7_eq d)
/-- Barrier signal `i`. -/
def sigX (d : Dev nD) (i : Fin 5) : Pg F → Pg F := signal (tgtB d i)
theorem sig_eq (d : Dev nD) (i : Fin 5) (h) : (signal ⟨devB d i, h⟩ : Pg F → Pg F) = sigX d i := by
  unfold sigX; rw [show (⟨devB d i, h⟩ : Dev nD) = tgtB d i from Fin.ext (devB_eq d i)]

/-- The copies round the column. -/
def runA (d : Dev nD) (k : Pg F) : Pg F :=
  loop l0 (fun n => sendX d (.a n)) <|
  mulX (grpA d 0) <| loop l0 (fun n k => recvX d (.a n) <| sumX d n <| sendX d (.a (nxt n)) k) <|
  mulX (grpA d 1) <| loop l1 (fun n k => recvX d (.a n) <| sumX d n <| sendX d (.a (nxt n)) k) <|
  mulX (grpA d 2) <| loop l2 (fun n k => recvX d (.a n) <| sumX d n k) <|
  loop l24 (fun n => doneX d (.a n)) k
/-- One halving exchange. -/
def runR1 (d : Dev nD) (l : List (Fin 7)) (k : Pg F) : Pg F :=
  loop l (fun i => sendX d (.r i)) <| loop l (fun i k => doneX d (.r i) <| recvX d (.r i) <| sumR d i k) k
/-- Wait for both ends of a doubling copy. -/
def bothG (d : Dev nD) (i : Fin 7) (k : Pg F) : Pg F := doneX d (.g i) <| recvX d (.g i) k
/-- The doubling phase. -/
def runG (d : Dev nD) (k : Pg F) : Pg F :=
  sendX d (.c 0) <| sendX d (.g 0) <| bothG d 0 <| sendX d (.c 1) <|
  sendX d (.g 1) <| sendX d (.g 2) <| bothG d 1 <| sendX d (.c 2) <| bothG d 2 <| sendX d (.c 3) <|
  sendX d (.g 3) <| sendX d (.g 4) <| sendX d (.g 5) <| sendX d (.g 6) <|
  bothG d 3 <| sendX d (.c 4) <| bothG d 4 <| sendX d (.c 5) <| bothG d 5 <| sendX d (.c 6) <| bothG d 6 <| sendX d (.c 7) k
/-- The last phase. -/
def runC (d : Dev nD) (k : Pg F) : Pg F :=
  loop (l0 ++ l1) (fun n k => recvX d (.c n) <| sendX d (.c (nxt n)) k) <| loop l2 (fun n => recvX d (.c n)) <|
  loop l24 (fun n => doneX d (.c n)) k
/-- The whole body. -/
def runX (d : Dev nD) : Pg F :=
  mulX (grp0 d) <| loop [0, 1, 2, 3, 4] (sigX d) <| awaitBar <|
  runA d <| carryX (own d) <| runR1 d [0, 1, 2, 3] <| runR1 d [4, 5] <| runR1 d [6] <| runG d <| runC d <| .ret ⟨⟩

theorem bodyOn_eq (d : Dev nD) : (bodyOn d : Pg F) = runX d := by
  have h1 : (fun i : Fin 5 => (signal ⟨devB d i, lt_of (devB_eq d i)⟩ : Pg F → Pg F)) = sigX d := funext fun i => sig_eq d i _
  unfold bodyOn phaseA phaseR phaseG phaseC
  rw [h1]
  simp only [mul0_eq, mulA_eq, sendA_eq, recvA_eq, doneA_eq, sumA_eq, sendR_eq, stepR_eq, sendG_eq, stepG_eq, sendC_eq, recvC_eq, doneC_eq, carryO_eq]
  rw [show (sendA d : Fin 24 → Pg F → Pg F) = fun n => sendX d (.a n) from funext fun n => sendA_eq d n,
    show (doneA d : Fin 24 → Pg F → Pg F) = fun n => doneX d (.a n) from funext fun n => doneA_eq d n,
    show (sendR d : Fin 7 → Pg F → Pg F) = fun n => sendX d (.r n) from funext fun n => sendR_eq d n,
    show (stepR d : Fin 7 → Pg F → Pg F) = fun i k => doneX d (.r i) (recvX d (.r i) (sumR d i k)) from funext fun n => funext fun k => stepR_eq d n k,
    show (recvC d : Fin 24 → Pg F → Pg F) = fun n => recvX d (.c n) from funext fun n => recvC_eq d n,
    show (doneC d : Fin 24 → Pg F → Pg F) = fun n => doneX d (.c n) from funext fun n => doneC_eq d n]
  rfl

end Cert.AR
-- ==== Proof.Proto.lean ====
module

public import proofs.«01_k».proof.Proof.Copies
public import Idealize.ShloMosaic.Lib.Pipeline.TalkSites

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Cert.KernelIdeal Cert.KernelIdeal.Gen

variable {F : FTy → Type} [FloatOps F]

local notation "𝕄" => MT nD τ sig ℕ (Elt F) ℕ UU ℕ

/-- The pipeline's component. -/
abbrev EP : Emb (UR sig nD τ) (MT nD τ sig ℕ (Elt F) ℕ UU ℕ) := embL
/-- The exchange's component. -/
abbrev ER : Emb (URounds (GSem nD τ sig) (Fin 5)) (MT nD τ sig ℕ (Elt F) ℕ UU ℕ) := embR

/-! ## What every chunk holds -/

section Values

variable (xb wb : Dev nD → S1024x1024.Idx → Elt F .bf16)

/-- The rows of the left operand that make group `r`. -/
def rowsX (r : Fin 4) (x : S1024x1024.Idx → Elt F .bf16) : Vec F S256x1024 .bf16 :=
  fun j => x ((Rect.unit (s := S1024x1024) ![256 * r.val, 0] S256x1024.size (inbX r)).emb j)
/-- The right operand as loaded. -/
def allW (w : S1024x1024.Idx → Elt F .bf16) : Vec F S1024x1024 .bf16 :=
  fun j => w ((Rect.unit (s := S1024x1024) ![0, 0] S1024x1024.size inb_S1024x1024_S1024x1024_0_0).emb j)
/-- Group `r` of device `d`'s partial product. -/
def pG (d : Dev nD) (r : Fin 4) : (Sn 8).Idx → Elt F .bf16 := k0_pay1 (rowsX r (xb d)) (allW (wb d))
/-- Its chunk `c`. -/
def pch (d : Dev nD) (r : Fin 4) (c : Fin 8) : V F := pick (pG xb wb d r) c
/-- The group added in column step `s`, at any number. -/
def grpN (d : Dev nD) (s : ℕ) : Fin 4 := ⟨(d.val / 8 + 3 - s) % 4, Nat.mod_lt _ (by decide)⟩
/-- The running column sum after `s` steps. -/
def aS : ℕ → Dev nD → Fin 8 → V F
  | 0, d, c => pch xb wb d (grp0 d) c
  | s + 1, d, c => k0_pay4 (aS s (zp d) c) (pch xb wb d (grpN d s) c)
/-- The device whose number differs from `d`'s in the bits `b`. -/
def px (d : Dev nD) (b : ℕ) : Dev nD := ⟨(d.val ^^^ b) % 32, Nat.mod_lt _ (by decide)⟩
/-- The running sum after `k` halving exchanges. -/
def oL : ℕ → Dev nD → Fin 8 → V F
  | 0, d, c => aS xb wb 3 d c
  | k + 1, d, c => k0_pay43 (oL k d c) (oL k (px d (2 ^ k)) c)
/-- The device that finishes chunk `i`. -/
def dv (i : Fin 32) : Dev nD := ⟨8 * ((i.val / 8 + 3) % 4) + i.val % 8, by show _ < 32; omega⟩
/-- The column of chunk `i`. -/
def cl (i : Fin 32) : Fin 8 := ⟨i.val % 8, by omega⟩
/-- The result's chunk `i`. -/
def resV (i : Fin 32) : V F := oL xb wb 3 (dv i) (cl i)

/-- The number of exchanges done before halving copy `i`. -/
def lvR (i : Fin 7) : ℕ := if i.val < 4 then 0 else if i.val < 6 then 1 else 2

/-- What a copy carries. -/
def val (d : Dev nD) : Cp → V F
  | .a n => aS xb wb (hop n).val d (plc n)
  | .r i => oL xb wb (lvR i) d (sCol d i)
  | .g i => resV xb wb (row (own d) (kCol d (inv i)))
  | .c n => resV xb wb (rowC d n)

end Values

/-- The share of its source a copy holds. -/
def shr : Cp → PosShare TreeShare
  | .g _ => qR
  | .c n => if n.val < 8 then qL else fullShare
  | _ => fullShare

/-- Device `d` holds chunk `m` at share `q`, with value `v`. -/
def Ck (d : Dev nD) (m : Memref sig .tc .vmem S32x1024 .bf16) (q : PosShare TreeShare) (v : V F) : sProp 𝕄 := ch d m.view q (sq v)

/-- Whether a copy gives its source away. -/
def isR : Cp → Bool
  | .r _ => true
  | _ => false

/-- The cell of a copy's completion. -/
abbrev sendCell (d : Dev nD) (x : Cp) : GSem nD τ sig := ((d : Thread nD τ), .dma (sS x))
/-- The cell of its arrival. -/
abbrev recvCell (d : Dev nD) (x : Cp) : GSem nD τ sig := ((d : Thread nD τ), .dma (sR x))
/-- The barrier cell. -/
abbrev barCell (d : Dev nD) : GSem nD τ sig := ((d : Thread nD τ), .reg barrier0)

/-- The chunk that device `d`'s copy `x` will write, held by whoever may write it. -/
def Any (d : Dev nD) (x : Cp) : sProp 𝕄 := chAny (tgt d x) (dst d x).view

/-- The copies whose landing places come with barrier signal `i`. -/
def gl : Fin 5 → List Cp
  | 0 => [] | 1 => l24.map .a ++ l24.map .c | 2 => [.r 0, .r 1, .r 2, .r 3] | 3 => [.r 4, .r 5] | 4 => [.r 6]
/-- The device that pays barrier signal `i` to `d`. -/
def srcB (d : Dev nD) : Fin 5 → Dev nD
  | 0 => zp d | 1 => zn d | 2 => pr d 0 | 3 => pr d 4 | 4 => pr d 6

theorem tgtB_srcB : ∀ (d : Dev nD) (i : Fin 5), tgtB (srcB d i) i = d := by decide
theorem srcB_tgtB : ∀ (d : Dev nD) (i : Fin 5), srcB (tgtB d i) i = d := by decide
/-- The devices, each sent to the one it signals. -/
def tgtBE (i : Fin 5) : Dev nD ≃ Dev nD := ⟨fun d => tgtB d i, fun d => srcB d i, fun d => srcB_tgtB d i, fun d => tgtB_srcB d i⟩

/-- Every arrival cell of `e` is in its first round. -/
def RA (e : Dev nD) : sProp 𝕄 := bigSepL allCp fun x => reached ER (recvCell e x) 0

/-- What barrier signal `i` brings to `d`. -/
def barPay (d : Dev nD) (i : Fin 5) : sProp 𝕄 := iprop(bigSepL (gl i) (Any d) ∗ RA (srcB d i))

section Pay

variable (xb wb : Dev nD → S1024x1024.Idx → Elt F .bf16)

/-- What a copy's completion gives back. -/
def Snt (d : Dev nD) (x : Cp) : sProp 𝕄 := bif isR x then iprop(emp) else Ck d (src d x) (shr x) (val xb wb d x)
/-- What a copy's arrival brings. -/
def Rcv (d : Dev nD) (x : Cp) : sProp 𝕄 :=
  iprop(Ck d (dst (frm d x) x) fullShare (val xb wb (frm d x) x)
    ∗ (bif isR x then chAny (frm d x) (src (frm d x) x).view else iprop(emp)))

/-- What the cells pay out. -/
def dmaPay (d : Dev nD) : Option (Bool × Cp) → sProp 𝕄
  | none => iprop(emp) | some (false, x) => Snt xb wb d x | some (true, x) => Rcv xb wb d x

/-- One round on every cell. -/
def Rd : Rounds.Schedule (GSem nD τ sig) (Fin 5) 𝕄 where
  duties g r := if r = 0 then (match g.2 with | .reg _ => Finset.univ | .dma _ => {0}) else ∅
  unitless _ := False
  amount g _ _ := match g.2 with | .reg _ => 1 | .dma _ => N
  payload g _ i := match g.2 with | .reg _ => barPay g.1.1 i | .dma s => dmaPay xb wb g.1.1 (role s)
  amount_pos g _ _ _ := by cases g.2 <;> [exact Nat.one_pos; exact N_pos]

instance ch_storable {s : Shape} (d : Dev nD) (A : View sig .tc .vmem s .bf16) (q : PosShare TreeShare) (v : s.Idx → Elt F .bf16) :
    BI.Storable (upEmb : UEmb _ 𝕄) (ch d A q v) := by unfold ch; infer_instance
instance chAny_storable {s : Shape} (d : Dev nD) (A : View sig .tc .vmem s .bf16) :
    BI.Storable (upEmb : UEmb _ 𝕄) (chAny d A : sProp 𝕄) := by unfold chAny; infer_instance
theorem bigSepL_storable {I : Type} (l : List I) (Φ : I → sProp 𝕄) (h : ∀ i, BI.Storable (upEmb : UEmb _ 𝕄) (Φ i)) :
    BI.Storable (upEmb : UEmb _ 𝕄) (bigSepL l Φ) := by
  induction l with
  | nil => show BI.Storable _ iprop(emp); infer_instance
  | cons i l ih => rw [bigSepL_cons']; haveI := h i; infer_instance

instance barPay_storable (d : Dev nD) (i : Fin 5) : BI.Storable (upEmb : UEmb _ 𝕄) (barPay (F := F) d i) := by
  unfold barPay RA Any
  haveI := bigSepL_storable (gl i) (fun x => (chAny (tgt d x) (dst d x).view : sProp 𝕄)) fun x => inferInstance
  haveI := bigSepL_storable allCp (fun x => (reached ER (recvCell (srcB d i) x) 0 : sProp 𝕄)) fun x => inferInstance
  infer_instance
instance Snt_storable (d : Dev nD) (x : Cp) : BI.Storable (upEmb : UEmb _ 𝕄) (Snt xb wb d x) := by
  unfold Snt Ck; cases isR x <;> (dsimp only [cond]; infer_instance)
instance Rcv_storable (d : Dev nD) (x : Cp) : BI.Storable (upEmb : UEmb _ 𝕄) (Rcv xb wb d x) := by
  unfold Rcv Ck; cases isR x <;> (dsimp only [cond]; infer_instance)
instance dmaPay_storable (d : Dev nD) (o : Option (Bool × Cp)) : BI.Storable (upEmb : UEmb _ 𝕄) (dmaPay xb wb d o) := by
  unfold dmaPay; split <;> infer_instance

instance Rd_storable (g : GSem nD τ sig) (r : ℕ) (i : Fin 5) : BI.Storable (upEmb : UEmb _ 𝕄) ((Rd xb wb).payload g r i) := by
  dsimp only [Rd]; split <;> infer_instance

theorem duties_bar (d : Dev nD) : (Rd xb wb).duties (barCell d) 0 = Finset.univ := rfl
theorem duties_send (d : Dev nD) (x : Cp) : (Rd xb wb).duties (sendCell d x) 0 = {0} := rfl
theorem duties_recv (d : Dev nD) (x : Cp) : (Rd xb wb).duties (recvCell d x) 0 = {0} := rfl
theorem duties_later (g : GSem nD τ sig) : ∀ r, 1 ≤ r → (Rd xb wb).duties g r = ∅ :=
  fun r hr => by dsimp only [Rd]; rw [if_neg (by omega)]
theorem expect_bar (d : Dev nD) : (Rd xb wb).expect (barCell d) 0 = 5 := rfl
theorem expect_send (d : Dev nD) (x : Cp) : (Rd xb wb).expect (sendCell d x) 0 = N := by
  unfold Schedule.expect Schedule.amountOf; rw [duties_send, Finset.sum_singleton]; rfl
theorem expect_recv (d : Dev nD) (x : Cp) : (Rd xb wb).expect (recvCell d x) 0 = N := by
  unfold Schedule.expect Schedule.amountOf; rw [duties_recv, Finset.sum_singleton]; rfl
theorem payload_send (d : Dev nD) (x : Cp) (i : Fin 5) : (Rd xb wb).payload (sendCell d x) 0 i = Snt xb wb d x := by
  show dmaPay xb wb d (role (sS x)) = _; rw [role_sS x (mem_allCp x)]; rfl
theorem payload_recv (d : Dev nD) (x : Cp) (i : Fin 5) : (Rd xb wb).payload (recvCell d x) 0 i = Rcv xb wb d x := by
  show dmaPay xb wb d (role (sR x)) = _; rw [role_sR x (mem_allCp x)]; rfl
theorem rest_bar (d : Dev nD) : bigSep ((Rd xb wb).duties (barCell d) 0 \ ∅) (fun i => (Rd xb wb).payload (barCell d) 0 i)
    = bigSepL [0, 1, 2, 3, 4] (barPay d) := by
  rw [Finset.sdiff_empty, duties_bar, bigSep_univ_eq_bigSepL [0, 1, 2, 3, 4] (by decide) (by decide)]; rfl
theorem rest_send (d : Dev nD) (x : Cp) : bigSep ((Rd xb wb).duties (sendCell d x) 0 \ ∅) (fun i => (Rd xb wb).payload (sendCell d x) 0 i)
    = Snt xb wb d x := by
  rw [Finset.sdiff_empty, duties_send, bigSep_singleton, payload_send]
theorem rest_recv (d : Dev nD) (x : Cp) : bigSep ((Rd xb wb).duties (recvCell d x) 0 \ ∅) (fun i => (Rd xb wb).payload (recvCell d x) 0 i)
    = Rcv xb wb d x := by
  rw [Finset.sdiff_empty, duties_recv, bigSep_singleton, payload_recv]

end Pay

/-! ## What each device owes, and when -/

/-- What a device pays: barrier signals and copies. -/
abbrev Tg : Type := Fin 5 ⊕ Cp

/-- The index at which a copy's arrival is owed. -/
def idx : Cp → ℕ
  | .a n => 2 + (hop n).val | .r i => 5 + lvR i | .g i => 8 + (if i.val < 1 then 0 else if i.val < 3 then 1 else 2) | .c n => 11 + (hop n).val
/-- The index of a payment. -/
def lvl : Tg → ℕ
  | .inl _ => 1 | .inr x => idx x
/-- A device's payment. -/
def due (d : Dev nD) : Tg → Pay nD τ sig
  | .inl i => (barCell (tgtB d i), 1, 1) | .inr x => (recvCell (tgt d x) x, idx x, N)

/-- The payments from the doubling phase on, in order; -/
abbrev tgC : List Tg := (l1 ++ l2).map fun n => .inr (.c n)
@[inherit_doc tgC] abbrev tgG : List Tg :=
  .inr (.c 0) :: .inr (.g 0) :: .inr (.c 1) :: .inr (.g 1) :: .inr (.g 2) :: .inr (.c 2) :: .inr (.c 3) :: .inr (.g 3) :: .inr (.g 4) :: .inr (.g 5)
    :: .inr (.g 6) :: .inr (.c 4) :: .inr (.c 5) :: .inr (.c 6) :: .inr (.c 7) :: tgC
/-- from the halving phase on; -/
abbrev tgR : List Tg := l7.map (fun i => .inr (.r i)) ++ tgG
/-- from the first copy on; -/
abbrev tgA : List Tg := l24.map (fun i => .inr (.a i)) ++ tgR
/-- and all of them. -/
abbrev tgs : List Tg := [0, 1, 2, 3, 4].map .inl ++ tgA

/-- The dues left when the payments `l` remain. -/
def owed (d : Dev nD) (l : List Tg) : CellTallies nD τ sig ℕ := tallyL (l.map (due d))

theorem owed_cons (d : Dev nD) (t : Tg) (l : List Tg) : owed d (t :: l) = owed d l + (due d t).tally := by
  show (due d t).tally + tallyL (l.map (due d)) = _; rw [add_comm]; rfl

/-- The number of indices. -/
abbrev NL : ℕ := 14

theorem lvl_lt : ∀ t ∈ tgs, lvl t < NL := by decide +kernel

theorem due_tc (d : Dev nD) (t : Tg) : (due d t).1.1.2 = .tc := by cases t <;> rfl
theorem due_lvl (d : Dev nD) (t : Tg) : (due d t).2.1 = lvl t := by cases t <;> rfl

/-- A wait below all that is still owed. -/
theorem wait_ok {i : ℕ} (d : Dev nD) (s : SemLoc sig) (l : List Tg) (hi : i < NL) (h : ∀ t ∈ l, i < lvl t ∧ lvl t < NL) :
    (levAts (SiteBlocks.L NL) SiteBlocks.lv : sProp 𝕄) ⊢ MayWait (d : Thread nD τ) s i (owed d l) :=
  SiteBlocks.mayWait_of hi d s _ fun g k hk => by
    obtain ⟨x, hx, rfl, rfl⟩ := tallyL_pos hk
    obtain ⟨t, ht, rfl⟩ := List.mem_map.mp hx
    rw [due_lvl]
    exact ⟨SiteBlocks.mem_L' (due_tc d t) (h t ht).2, (h t ht).1⟩

end Cert.AR
-- ==== Proof.Steps.lean ====
module

public import proofs.«01_k».proof.Proof.Proto

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The cells, and what every device may consult -/

/-- The barrier cells. -/
def barEmb : Dev nD ↪ GSem nD τ sig := ⟨fun d => barCell d, fun _ _ h => congrArg (fun g : GSem nD τ sig => g.1.1) h⟩
/-- The cells of the copies' ends. -/
def endEmb : Dev nD × (Bool × Cp) ↪ GSem nD τ sig :=
  ⟨fun p => ((p.1 : Thread nD τ), .dma (sem p.2)), fun _ _ h =>
    Prod.ext (congrArg (fun g : GSem nD τ sig => g.1.1) h) (sem_inj (SemLoc.dma.inj (congrArg Prod.snd h)))⟩

/-- All barrier cells. -/
abbrev barCells : Finset (GSem nD τ sig) := Finset.univ.map barEmb
/-- All cells of copies' ends. -/
abbrev endCells : Finset (GSem nD τ sig) := Finset.univ.map endEmb

theorem bar_mem (d : Dev nD) : barCell d ∈ (barCells ∪ endCells : Finset (GSem nD τ sig)) :=
  Finset.mem_union_left _ (Finset.mem_map_of_mem barEmb (Finset.mem_univ d))
theorem send_mem (d : Dev nD) (x : Cp) : sendCell d x ∈ (barCells ∪ endCells : Finset (GSem nD τ sig)) :=
  Finset.mem_union_right _ (Finset.mem_map_of_mem endEmb (Finset.mem_univ (d, (false, x))))
theorem recv_mem (d : Dev nD) (x : Cp) : recvCell d x ∈ (barCells ∪ endCells : Finset (GSem nD τ sig)) :=
  Finset.mem_union_right _ (Finset.mem_map_of_mem endEmb (Finset.mem_univ (d, (true, x))))

/-- No variants. -/
abbrev 𝒱₀ : Variants := Variants.none

/-- A device runs a program. -/
abbrev WP (d : Dev nD) (p : Pg F) (Q : PUnit → sProp 𝕄) : sProp 𝕄 :=
  wp frame (wpE (defs₀ (F := F)) 𝒱₀ (d : Thread nD τ) none) Set.univ p Q

section Steps

variable (xb wb : Dev nD → S1024x1024.Idx → Elt F .bf16) (κ : GSem nD τ sig → ℕ)

/-- The invariants, the barriers' first rounds, the levels. -/
def Ctx : sProp 𝕄 :=
  iprop((bigSep (barCells ∪ endCells) fun g => cellInv ER (Rd xb wb) (κ g) g) ∗ (bigSep barCells fun g => reached ER g 0)
    ∗ (levAts (SiteBlocks.L NL) SiteBlocks.lv : sProp 𝕄))

instance Ctx_persistent : BI.Persistent (Ctx xb wb κ) := by unfold Ctx; infer_instance

theorem Ctx_inv {g : GSem nD τ sig} (hg : g ∈ (barCells ∪ endCells : Finset (GSem nD τ sig))) :
    Ctx xb wb κ ⊢ cellInv ER (Rd xb wb) (κ g) g := by
  unfold Ctx
  have h : (bigSep (barCells ∪ endCells) fun g => cellInv ER (Rd xb wb) (κ g) g) ⊢ (cellInv ER (Rd xb wb) (κ g) g : sProp 𝕄) :=
    bigSep_elim (Φ := fun g => cellInv ER (Rd xb wb) (κ g) g) hg
  iintro ⟨H, -, -⟩
  iapply h; iexact H
theorem Ctx_bar (d : Dev nD) : Ctx xb wb κ ⊢ reached ER (barCell d) 0 := by
  unfold Ctx
  have h : (bigSep barCells fun g => (reached ER g 0 : sProp 𝕄)) ⊢ reached ER (barCell d) 0 :=
    bigSep_elim (Φ := fun g => (reached ER g 0 : sProp 𝕄)) (Finset.mem_map_of_mem barEmb (Finset.mem_univ d))
  iintro ⟨-, H, -⟩
  iapply h; iexact H
theorem Ctx_ok {i : ℕ} (d : Dev nD) (s : SemLoc sig) (l : List Tg) (hi : i < NL) (h : ∀ t ∈ l, i < lvl t ∧ lvl t < NL) :
    Ctx xb wb κ ⊢ MayWait (d : Thread nD τ) s i (owed d l) := by
  unfold Ctx
  iintro ⟨-, -, H⟩
  iapply (wait_ok (F := F) d s l hi h) $$ H

/-- The arrival cells of a device's targets are in their first rounds. -/
def RT (d : Dev nD) : sProp 𝕄 := bigSepL allCp fun x => reached ER (recvCell (tgt d x) x) 0

theorem bigSepL_persistent {I : Type} (l : List I) (Φ : I → sProp 𝕄) [h : ∀ i, BI.Persistent (Φ i)] :
    BI.Persistent (bigSepL l Φ) := by
  induction l with
  | nil => show BI.Persistent iprop(emp); infer_instance
  | cons i l ih => rw [bigSepL_cons']; infer_instance

instance RT_persistent (d : Dev nD) : BI.Persistent (RT (F := F) d) := by unfold RT; exact bigSepL_persistent _ _
instance RA_persistent (d : Dev nD) : BI.Persistent (RA (F := F) d) := by unfold RA; exact bigSepL_persistent _ _

theorem bigSepL_pick {I : Type} {l : List I} {i : I} (h : i ∈ l) (Φ : I → sProp 𝕄) : bigSepL l Φ ⊢ Φ i := by
  induction l with
  | nil => cases h
  | cons j l ih =>
    rw [bigSepL_cons']
    rcases List.mem_cons.mp h with rfl | h
    · iintro ⟨H, -⟩; iexact H
    · iintro ⟨-, H⟩; iapply (ih h); iexact H

theorem RT_at (d : Dev nD) (x : Cp) : RT d ⊢ (reached ER (recvCell (tgt d x) x) 0 : sProp 𝕄) := bigSepL_pick (mem_allCp x) _

/-- What a device needs to send a copy, besides the chunks. -/
def Out (d : Dev nD) (x : Cp) : sProp 𝕄 :=
  iprop(dutyTok ER (sendCell d x) 0 0 ∗ dutyTok ER (recvCell (tgt d x) x) 0 0 ∗ atPos ER (sendCell d x) 0 ∅ 0 ∗ reached ER (sendCell d x) 0)
/-- What it needs to wait for the completion. -/
def Sent (d : Dev nD) (x : Cp) : sProp 𝕄 := iprop(atPos ER (sendCell d x) 0 ∅ 0 ∗ cred (tallyAt (sendCell d x) 0 N))
/-- What it needs to wait for the arrival. -/
def In (d : Dev nD) (x : Cp) : sProp 𝕄 := iprop(atPos ER (recvCell d x) 0 ∅ 0 ∗ cred (tallyAt (recvCell d x) (idx x) N))
/-- The payments `l` remain. -/
def Owe (d : Dev nD) (l : List Tg) : sProp 𝕄 := iprop(∃ W, owes (d : Thread nD τ) (owed d l) W)
/-- The source of a copy at its value. -/
def Src (d : Dev nD) (x : Cp) : sProp 𝕄 := Ck d (src d x) (shr x) (val xb wb d x)

theorem close (κ' : ℕ) (g : GSem nD τ sig) :
    iprop(cellInv ER (Rd xb wb) κ' g ∗ atPos ER g (0 + 1) ∅ 0) ⊢ (|={Set.univ}=> semVal g 0 : sProp 𝕄) :=
  Rounds.cell_close ER (Rd xb wb) (Set.mem_univ κ') id (duties_later xb wb g)

theorem landed_any (d e : Dev nD) (m : Memref sig .tc .vmem S32x1024 .bf16) (f : Buf (Elt F) (m.view.loc (e : Thread nD τ))) (v : V F) :
    (m.view.loc (e : Thread nD τ) ↦[m.view.set]{fullShare} (m.view.write (Elt F) f (sq v) Finset.univ) : sProp 𝕄) ⊢ Ck e m fullShare v := by
  unfold Ck ch
  iintro H
  iexists (m.view.write (Elt F) f (sq v) Finset.univ)
  isplitr; · ipureintro; exact View.read_write_univ _ _
  iexact H

theorem full_isR (x : Cp) (h : isR x = true) : shr x = fullShare := by
  cases x <;> first | rfl | (cases h)

theorem step_send (d : Dev nD) (x : Cp) (l : List Tg) (k : Pg F) (Q : PUnit → sProp 𝕄) :
    iprop(Ctx xb wb κ ∗ RT d ∗ Src xb wb d x ∗ Any d x ∗ Out d x ∗ Owe d (.inr x :: l) ∗ (Sent d x -∗ Owe d l -∗ WP d k Q))
      ⊢ WP d (sendX d x k) Q := by
  unfold Src Any Out Owe Ck ch chAny sendX send
  iintro ⟨#HC, #HT, ⟨%f, %hf, Hs⟩, ⟨%f', Hd⟩, ⟨Ht1, Ht2, Hat, #Hr⟩, ⟨%W, HO⟩, Hk⟩
  iapply (Rounds.wp_send_bif 𝒱₀ ER (Rd xb wb) (d : Thread nD τ) none (c' := (tgt d x : Thread nD τ)) (src := src d x) (dst := dst d x)
      (sS := .dma (sS x)) (sem := .dma (sR x)) (q := shr x) (fs := f)
      (R := ((dst d x).view.loc (tgt d x : Thread nD τ) ↦[(dst d x).view.set]{fullShare} ((dst d x).view.write (Elt F) f' ((src d x).view.read (Elt F) f) Finset.univ)))
      (isR x) (κ₁ := κ (sendCell d x)) (κ₂ := κ (recvCell (tgt d x) x))
      (r₁ := 0) (r₂ := 0) (d₁ := 0) (d₂ := 0)
      (by rw [duties_send]; exact Finset.mem_singleton_self _) (by rw [duties_recv]; exact Finset.mem_singleton_self _)
      (idx x) 0 N (credit_dst d x) rfl rfl (owed d l) (owed_cons d (.inr x) l) (W := W)
      (by
        rw [payload_send]; unfold Snt Ck ch; cases isR x
        · dsimp only [cond]
          iintro H; iexists f; isplitr; · ipureintro; exact hf
          iexact H
        · exact BI.Entails.refl _)
      (by
        rw [payload_recv]; unfold Rcv; rw [frm_tgt, hf]; have hq := full_isR x; revert hq; cases isR x <;> intro hq
        · dsimp only [cond]
          iintro H; isplitl
          · iapply (landed_any d); iexact H
          · iempintro
        · dsimp only [cond]; unfold chAny
          iintro ⟨H, H'⟩; isplitl [H]
          · iapply (landed_any d); iexact H
          · iexists f; rw [← hq rfl]; iexact H')) $$ [Hs Hd HO Ht1 Ht2]
  · isplitr; · iapply (Ctx_inv xb wb κ (send_mem d x)); iexact HC
    isplitr; · iapply (Ctx_inv xb wb κ (recv_mem (tgt d x) x)); iexact HC
    isplitl [Hs]; · iexact Hs
    isplitl [Hd]; · iapply (pointsTo_writeUpdate (tgt d x : Thread nD τ) (v := (dst d x).view) subset_rfl); iexact Hd
    isplitl [HO]; · iexact HO
    isplitl [Ht1]; · iexact Ht1
    isplitr; · iexact Hr
    isplitl [Ht2]; · iexact Ht2
    iapply (RT_at d x); iexact HT
  iintro ⟨Hc, HO⟩
  ispecialize Hk $$ [Hat Hc]
  · unfold Sent; isplitl [Hat] <;> iassumption
  iapply Hk
  iexists W; iexact HO

theorem step_done (d : Dev nD) (x : Cp) (l : List Tg) (hl : ∀ t ∈ l, 0 < lvl t ∧ lvl t < NL) (k : Pg F) (Q : PUnit → sProp 𝕄) :
    iprop(Ctx xb wb κ ∗ Sent d x ∗ Owe d l ∗ (semVal (sendCell d x) 0 -∗ Snt xb wb d x -∗ Owe d l -∗ WP d k Q))
      ⊢ WP d (doneX d x k) Q := by
  unfold Sent Owe doneX await
  iintro ⟨#HC, ⟨Hat, Hc⟩, ⟨%W, HO⟩, Hk⟩
  iapply (Rounds.wp_wait_rest_token 𝒱₀ ER (Rd xb wb) (d : Thread nD τ) none (κ := κ (sendCell d x))
      (wpE_waitDma2_eq 𝒱₀ (d : Thread nD τ) none Set.univ) (Set.mem_univ _) 0 (O := owed d l) (W := W) (R := 0) (m := 0) (T := ∅)
      ((Nat.zero_add _).trans ((credit_src d x).trans (expect_send xb wb d x).symm))) $$ [Hc HO Hat]
  · isplitr; · iapply (Ctx_inv xb wb κ (send_mem d x)); iexact HC
    isplitl [Hc]; · rw [credit_src]; iexact Hc
    isplitl [HO]; · iexact HO
    isplitr; · iapply (Ctx_ok xb wb κ d _ l (by decide) hl); iexact HC
    iexact Hat
  iintro ⟨HO, Hat, -, Hpay⟩
  ihave Hp := (Entails.of_eq (rest_send xb wb d x)) $$ Hpay
  imod (close xb wb (κ (sendCell d x)) (sendCell d x)) $$ [Hat] with Hv
  · isplitr; · iapply (Ctx_inv xb wb κ (send_mem d x)); iexact HC
    iexact Hat
  ispecialize Hk $$ [Hv]; · iexact Hv
  ispecialize Hk $$ [Hp]; · iexact Hp
  iapply Hk; iexists _; iexact HO

theorem step_recv (d : Dev nD) (x : Cp) (l : List Tg) (hl : ∀ t ∈ l, idx x < lvl t ∧ lvl t < NL) (hx : idx x < NL) (k : Pg F) (Q : PUnit → sProp 𝕄) :
    iprop(Ctx xb wb κ ∗ In d x ∗ Owe d l ∗ (semVal (recvCell d x) 0 -∗ Rcv xb wb d x -∗ Owe d l -∗ WP d k Q))
      ⊢ WP d (recvX d x k) Q := by
  unfold In Owe recvX await
  iintro ⟨#HC, ⟨Hat, Hc⟩, ⟨%W, HO⟩, Hk⟩
  iapply (Rounds.wp_wait_rest_token 𝒱₀ ER (Rd xb wb) (d : Thread nD τ) none (κ := κ (recvCell d x))
      (wpE_waitDma2_eq 𝒱₀ (d : Thread nD τ) none Set.univ) (Set.mem_univ _) (idx x) (O := owed d l) (W := W) (R := 0) (m := 0) (T := ∅)
      ((Nat.zero_add _).trans ((credit_dst d x).trans (expect_recv xb wb d x).symm))) $$ [Hc HO Hat]
  · isplitr; · iapply (Ctx_inv xb wb κ (recv_mem d x)); iexact HC
    isplitl [Hc]; · rw [credit_dst]; iexact Hc
    isplitl [HO]; · iexact HO
    isplitr; · iapply (Ctx_ok xb wb κ d _ l hx hl); iexact HC
    iexact Hat
  iintro ⟨HO, Hat, -, Hpay⟩
  ihave Hp := (Entails.of_eq (rest_recv xb wb d x)) $$ Hpay
  imod (close xb wb (κ (recvCell d x)) (recvCell d x)) $$ [Hat] with Hv
  · isplitr; · iapply (Ctx_inv xb wb κ (recv_mem d x)); iexact HC
    iexact Hat
  ispecialize Hk $$ [Hv]; · iexact Hv
  ispecialize Hk $$ [Hp]; · iexact Hp
  iapply Hk; iexists _; iexact HO

theorem step_signal (d : Dev nD) (i : Fin 5) (l : List Tg) (k : Pg F) (Q : PUnit → sProp 𝕄) :
    iprop(Ctx xb wb κ ∗ dutyTok ER (barCell (tgtB d i)) 0 i ∗ bigSepL (gl i) (Any (tgtB d i)) ∗ RA d ∗ Owe d (.inl i :: l) ∗ (Owe d l -∗ WP d k Q))
      ⊢ WP d (sigX d i k) Q := by
  unfold Owe sigX signal
  iintro ⟨#HC, Ht, Hg, HR, ⟨%W, HO⟩, Hk⟩
  iapply (Rounds.wp_signal 𝒱₀ ER (Rd xb wb) (d : Thread nD τ) none (dst := (tgtB d i : Thread nD τ)) (sem := barrier0) (r := 0) (d := i)
      (κ := κ (barCell (tgtB d i))) (k' := (1#32 : BitVec 32).toInt.toNat) (by rw [duties_bar]; exact Finset.mem_univ _) rfl 1 (owed d l) (owed_cons d (.inl i) l))
    $$ [HO Ht Hg HR]
  · isplitr; · iapply (Ctx_inv xb wb κ (bar_mem (tgtB d i))); iexact HC
    isplitl [HO]; · iexact HO
    isplitl [Ht]; · iexact Ht
    isplitl [Hg HR]
    · iapply (show (barPay (tgtB d i) i : sProp 𝕄) ⊢ (Rd xb wb).payload (barCell (tgtB d i)) 0 i from .rfl)
      unfold barPay; rw [srcB_tgtB]
      isplitl [Hg] <;> iassumption
    · iapply (Ctx_bar xb wb κ (tgtB d i)); iexact HC
  iintro HO
  iapply Hk; iexists W; iexact HO

theorem step_bar (d : Dev nD) (l : List Tg) (hl : ∀ t ∈ l, 1 < lvl t ∧ lvl t < NL) (k : Pg F) (Q : PUnit → sProp 𝕄) :
    iprop(Ctx xb wb κ ∗ atPos ER (barCell d) 0 ∅ 0 ∗ cred (tallyAt (barCell d) 1 5) ∗ Owe d l
        ∗ (semVal (barCell d) 0 -∗ bigSepL [0, 1, 2, 3, 4] (barPay d) -∗ Owe d l -∗ WP d k Q))
      ⊢ WP d (awaitBar k) Q := by
  unfold Owe awaitBar
  iintro ⟨#HC, Hat, Hc, ⟨%W, HO⟩, Hk⟩
  iapply (Rounds.wp_wait_rest_token 𝒱₀ ER (Rd xb wb) (d : Thread nD τ) none (κ := κ (barCell d)) (k' := 5)
      (wpE_semWait_eq 𝒱₀ (d : Thread nD τ) none Set.univ) (Set.mem_univ _) 1 (O := owed d l) (W := W) (R := 0) (m := 0) (T := ∅)
      ((Nat.zero_add 5).trans (expect_bar xb wb d).symm)) $$ [Hc HO Hat]
  · isplitr; · iapply (Ctx_inv xb wb κ (bar_mem d)); iexact HC
    isplitl [Hc]; · iexact Hc
    isplitl [HO]; · iexact HO
    isplitr; · iapply (Ctx_ok xb wb κ d _ l (by decide) hl); iexact HC
    iexact Hat
  iintro ⟨HO, Hat, -, Hpay⟩
  ihave Hp := (Entails.of_eq (rest_bar xb wb d)) $$ Hpay
  imod (close xb wb (κ (barCell d)) (barCell d)) $$ [Hat] with Hv
  · isplitr; · iapply (Ctx_inv xb wb κ (bar_mem d)); iexact HC
    iexact Hat
  ispecialize Hk $$ [Hv]; · iexact Hv
  ispecialize Hk $$ [Hp]; · iexact Hp
  iapply Hk; iexists _; iexact HO

/-- A loop whose step at `a` turns `Pre a` into `Post a`, and the state before the rest of the list into the state after. -/
theorem loop_sep {α : Type} (d : Dev nD) (Pre Post : α → sProp 𝕄) (St : List α → sProp 𝕄) (f : α → Pg F → Pg F) (Q : PUnit → sProp 𝕄) (l : List α)
    (h : ∀ a l' k, (a :: l') <:+ l → iprop(Pre a ∗ St (a :: l') ∗ (Post a -∗ St l' -∗ WP d k Q)) ⊢ WP d (f a k) Q) (k : Pg F) :
    iprop(bigSepL l Pre ∗ St l ∗ (bigSepL l Post -∗ St [] -∗ WP d k Q)) ⊢ WP d (loop l f k) Q := by
  induction l with
  | nil =>
    iintro ⟨H, HS, Hk⟩
    ispecialize Hk $$ [H]; · iexact H
    iapply Hk; iexact HS
  | cons a l ih =>
    rw [bigSepL_cons', bigSepL_cons']
    show _ ⊢ WP d (f a (loop l f k)) Q
    iintro ⟨⟨Ha, Hl⟩, HS, Hk⟩
    iapply (h a l (loop l f k) (List.suffix_refl _)) $$ [Ha Hl HS Hk]
    isplitl [Ha]; · iexact Ha
    isplitl [HS]; · iexact HS
    iintro Hp HS
    iapply (ih fun a' l' k' hs => h a' l' k' (hs.trans (List.suffix_cons a l)))
    isplitl [Hl]; · iexact Hl
    isplitl [HS]; · iexact HS
    iintro Hpl HS
    ispecialize Hk $$ [Hp Hpl]
    · isplitl [Hp] <;> iassumption
    iapply Hk; iexact HS

end Steps

end Cert.AR
-- ==== Proof.Compute.lean ====
module

public import proofs.«01_k».proof.Proof.Steps

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Loads and stores, by the value held -/

/-- A load of part of a view held. -/
theorem load_part (d : Dev nD) {s : Shape} {m : Memref sig .tc .vmem s .bf16} (r : Rect s) {hl : m.view.LoadsAt r} (q : PosShare TreeShare)
    (v : s.Idx → Elt F .bf16) (k : (r.shape.Idx → Elt F .bf16) → Pg F) (Q : PUnit → sProp 𝕄) :
    iprop(ch d m.view q v ∗ (ch d m.view q v -∗ WP d (k fun j => v (r.emb j)) Q)) ⊢ WP d (.op (.load m r.toLoadRect hl) k) Q := by
  unfold ch
  iintro ⟨⟨%f, %hf, H⟩, Hk⟩
  subst hf
  iapply (wp_load_rect 𝒱₀ (d : Thread nD τ) none Set.univ (m := m) (r := r) (hl := hl) (S := m.view.set) (q := q) (f := f)
    ((View.set_slice _ _).trans_subset (Finset.map_subset_map.mpr (Finset.subset_univ _)))) $$ H
  iintro H
  iapply Hk
  iexists f; isplitr; · ipureintro; rfl
  iexact H

/-- A load of the view held. -/
theorem load_ch (d : Dev nD) {s : Shape} {m : Memref sig .tc .vmem s .bf16} (r : Rect s) {hl : m.view.LoadsAt r} (q : PosShare TreeShare)
    (v : r.shape.Idx → Elt F .bf16) (k : (r.shape.Idx → Elt F .bf16) → Pg F) (Q : PUnit → sProp 𝕄) :
    iprop(ch d (m.access r) q v ∗ (ch d (m.access r) q v -∗ WP d (k v) Q)) ⊢ WP d (.op (.load m r.toLoadRect hl) k) Q := by
  unfold ch
  iintro ⟨⟨%f, %hf, H⟩, Hk⟩
  subst hf
  iapply (wp_load_rect 𝒱₀ (d : Thread nD τ) none Set.univ (m := m) (r := r) (hl := hl) (S := (m.access r).set) (q := q) (f := f) subset_rfl) $$ H
  iintro H
  iapply Hk
  iexists f; isplitr; · ipureintro; rfl
  iexact H

/-- A load of a view held at any value, the value unused. -/
theorem load_any (d : Dev nD) {s : Shape} {m : Memref sig .tc .vmem s .bf16} (r : Rect s) {hl : m.view.LoadsAt r}
    (k : Pg F) (Q : PUnit → sProp 𝕄) :
    iprop(chAny d (m.access r) ∗ (chAny d (m.access r) -∗ WP d k Q)) ⊢ WP d (.op (.load m r.toLoadRect hl) fun _ => k) Q := by
  unfold chAny
  iintro ⟨⟨%f, H⟩, Hk⟩
  iapply (wp_load_rect 𝒱₀ (d : Thread nD τ) none Set.univ (m := m) (r := r) (hl := hl) (S := (m.access r).set) (f := f) subset_rfl) $$ H
  iintro H
  iapply Hk
  iexists f; iexact H

/-- A store over a view held at any value. -/
theorem store_ch (d : Dev nD) {s : Shape} {m : Memref sig .tc .vmem s .bf16} (r : Rect s) (w : r.shape.Idx → Elt F .bf16)
    {hx : (m.access r).Stores Finset.univ} {hm} (k : Pg F) (Q : PUnit → sProp 𝕄) :
    iprop(chAny d (m.access r) ∗ (ch d (m.access r) fullShare w -∗ WP d k Q)) ⊢ WP d (.op (.store m r w Finset.univ hx hm) fun _ => k) Q := by
  unfold chAny ch
  iintro ⟨⟨%f, H⟩, Hk⟩
  iapply (wp_store 𝒱₀ (d : Thread nD τ) none Set.univ (m := m) (r := r) (w := w) (Mk := Finset.univ) (hx := hx) (hm := hm)
    (S := (m.access r).set) (f := f) (View.setOn_univ _).subset) $$ H
  iintro H
  iapply Hk
  iexists ((m.access r).write (Elt F) f w Finset.univ); isplitr
  · ipureintro; exact View.read_write_univ _ _
  iexact H

/-! ### A chunk as rows or as a matrix -/

theorem sq_ch (d : Dev nD) (A : View sig .tc .vmem (Sn 1) .bf16) (h : S32x1024.numel = (Sn 1).numel) (q : PosShare TreeShare) (v : V F) :
    (ch d A q v : sProp 𝕄) ⊢ ch d (A.reshape S32x1024 h) q (sq v) := by
  unfold ch
  rw [View.set_reshape]
  iintro ⟨%f, %hf, H⟩
  iexists f; isplitr
  · ipureintro; subst hf; rfl
  iexact H
theorem ch_sq (d : Dev nD) (A : View sig .tc .vmem (Sn 1) .bf16) (h : S32x1024.numel = (Sn 1).numel) (q : PosShare TreeShare) (v : V F) :
    (ch d (A.reshape S32x1024 h) q (sq v) : sProp 𝕄) ⊢ ch d A q v := by
  unfold ch
  rw [View.set_reshape]
  iintro ⟨%f, %hf, H⟩
  iexists f; isplitr
  · ipureintro; exact sq_inj hf
  iexact H
theorem sq_chAny (d : Dev nD) (A : View sig .tc .vmem (Sn 1) .bf16) (h : S32x1024.numel = (Sn 1).numel) :
    (chAny d A : sProp 𝕄) ⊢ chAny d (A.reshape S32x1024 h) := by
  unfold chAny; rw [View.set_reshape]
theorem chAny_sq (d : Dev nD) (A : View sig .tc .vmem (Sn 1) .bf16) (h : S32x1024.numel = (Sn 1).numel) :
    (chAny d (A.reshape S32x1024 h) : sProp 𝕄) ⊢ chAny d A := by
  unfold chAny; rw [View.set_reshape]

/-- Chunk `i` of a 32-chunk buffer, as rows. -/
abbrev a32 (m : Memref sig .tc .vmem S32x32x1024 .bf16) (i : Fin 32) : View sig .tc .vmem (Sn 1) .bf16 :=
  m.access (Rect.unit (s := S32x32x1024) ![i.val, 0, 0] S1x32x1024.size (inb32 i))
/-- Chunk `i` of a 24-chunk buffer, as rows. -/
abbrev a24 (m : Memref sig .tc .vmem S24x32x1024 .bf16) (i : Fin 24) : View sig .tc .vmem (Sn 1) .bf16 :=
  m.access (Rect.unit (s := S24x32x1024) ![i.val, 0, 0] S1x32x1024.size (inb24 i))
/-- Chunk `i` of the 7-chunk buffer, as rows. -/
abbrev a7 (i : Fin 7) : View sig .tc .vmem (Sn 1) .bf16 :=
  mB.access (Rect.unit (s := S7x32x1024) ![i.val, 0, 0] S1x32x1024.size (inb7 i))
/-- Group `r` of a 32-chunk buffer, as rows. -/
abbrev g32 (m : Memref sig .tc .vmem S32x32x1024 .bf16) (r : Fin 4) : View sig .tc .vmem (Sn 8) .bf16 :=
  m.access (Rect.unit (s := S32x32x1024) ![8 * r.val, 0, 0] S8x32x1024.size (inb8 r))
/-- The last eight chunks of the running sums. -/
abbrev gA : View sig .tc .vmem (Sn 8) .bf16 :=
  mA.access (Rect.unit (s := S24x32x1024) ![16, 0, 0] S8x32x1024.size inb_S24x32x1024_S8x32x1024_16_0_0)

theorem Ck32 (d : Dev nD) (m) (i : Fin 32) (q) (v : V F) : (ch d (a32 m i) q v : sProp 𝕄) ⊢ Ck d (c32 m i) q v := sq_ch d _ _ q v
theorem Ck32' (d : Dev nD) (m) (i : Fin 32) (q) (v : V F) : (Ck d (c32 m i) q v : sProp 𝕄) ⊢ ch d (a32 m i) q v := ch_sq d _ _ q v
theorem Ck24 (d : Dev nD) (m) (i : Fin 24) (q) (v : V F) : (ch d (a24 m i) q v : sProp 𝕄) ⊢ Ck d (c24 m i) q v := sq_ch d _ _ q v
theorem Ck24' (d : Dev nD) (m) (i : Fin 24) (q) (v : V F) : (Ck d (c24 m i) q v : sProp 𝕄) ⊢ ch d (a24 m i) q v := ch_sq d _ _ q v
theorem Ck7 (d : Dev nD) (i : Fin 7) (q) (v : V F) : (ch d (a7 i) q v : sProp 𝕄) ⊢ Ck d (c7 i) q v := sq_ch d _ _ q v
theorem Ck7' (d : Dev nD) (i : Fin 7) (q) (v : V F) : (Ck d (c7 i) q v : sProp 𝕄) ⊢ ch d (a7 i) q v := ch_sq d _ _ q v
theorem Ck_any (d : Dev nD) (m) (v : V F) : (Ck d m fullShare v : sProp 𝕄) ⊢ chAny d m.view := ch_any _ _

/-! ### The computing steps -/

theorem step_mul (d : Dev nD) (r : Fin 4) (x w : S1024x1024.Idx → Elt F .bf16) (k : Pg F) (Q : PUnit → sProp 𝕄) :
    iprop(ch d mX.view fullShare x ∗ ch d mW.view fullShare w ∗ chAny d (g32 mP r)
        ∗ (ch d mX.view fullShare x -∗ ch d mW.view fullShare w -∗ ch d (g32 mP r) fullShare (k0_pay1 (rowsX r x) (allW w)) -∗ WP d k Q))
      ⊢ WP d (mulX r k) Q := by
  unfold mulX mulStep
  iintro ⟨Hx, Hw, Hp, Hk⟩
  iapply (load_part d _ fullShare x _ Q)
  isplitl [Hx]; · iexact Hx
  iintro Hx
  iapply (load_part d _ fullShare w _ Q)
  isplitl [Hw]; · iexact Hw
  iintro Hw
  iapply (load_any d _ _ Q)
  isplitl [Hp]; · iexact Hp
  iintro Hp
  iapply (store_ch d _ _ k Q)
  isplitl [Hp]; · iexact Hp
  iintro Hp
  ispecialize Hk $$ [Hx]; · iexact Hx
  ispecialize Hk $$ [Hw]; · iexact Hw
  iapply Hk; iexact Hp

theorem step_sumA (d : Dev nD) (n : Fin 24) (v p : V F) (k : Pg F) (Q : PUnit → sProp 𝕄) :
    iprop(Ck d (c24 mC n) fullShare v ∗ Ck d (c32 mP (row (grpA d (hop n)) (plc n))) fullShare p ∗ chAny d (c24 mA n).view
        ∗ (Ck d (c24 mC n) fullShare v -∗ Ck d (c32 mP (row (grpA d (hop n)) (plc n))) fullShare p
          -∗ Ck d (c24 mA n) fullShare (k0_pay4 v p) -∗ WP d k Q))
      ⊢ WP d (sumX d n k) Q := by
  unfold sumX addA
  iintro ⟨Hc, Hp, Ha, Hk⟩
  iapply (load_ch d _ fullShare v _ Q)
  isplitl [Hc]; · iapply (Ck24' d mC n); iexact Hc
  iintro Hc
  iapply (load_ch d _ fullShare p _ Q)
  isplitl [Hp]; · iapply (Ck32' d mP _); iexact Hp
  iintro Hp
  iapply (load_any d _ _ Q)
  isplitl [Ha]; · iapply (chAny_sq d (a24 mA n) _); iexact Ha
  iintro Ha
  iapply (store_ch d _ _ k Q)
  isplitl [Ha]; · iexact Ha
  iintro Ha
  ispecialize Hk $$ [Hc]; · iapply (Ck24 d mC n); iexact Hc
  ispecialize Hk $$ [Hp]; · iapply (Ck32 d mP _); iexact Hp
  iapply Hk; iapply (Ck24 d mA n); iexact Ha

theorem step_sumR (d : Dev nD) (i : Fin 7) (u v : V F) (k : Pg F) (Q : PUnit → sProp 𝕄) :
    iprop(Ck d (c32 mO (row (own d) (kCol d i))) fullShare u ∗ Ck d (c7 i) fullShare v
        ∗ (Ck d (c32 mO (row (own d) (kCol d i))) fullShare (k0_pay43 u v) -∗ Ck d (c7 i) fullShare v -∗ WP d k Q))
      ⊢ WP d (sumR d i k) Q := by
  unfold sumR addR
  iintro ⟨Ho, Hb, Hk⟩
  iapply (load_ch d _ fullShare u _ Q)
  isplitl [Ho]; · iapply (Ck32' d mO _); iexact Ho
  iintro Ho
  iapply (load_ch d _ fullShare v _ Q)
  isplitl [Hb]; · iapply (Ck7' d i); iexact Hb
  iintro Hb
  iapply (load_any d _ _ Q)
  isplitl [Ho]; · iapply (ch_any (a32 mO _) u); iexact Ho
  iintro Ho
  iapply (store_ch d _ _ k Q)
  isplitl [Ho]; · iexact Ho
  iintro Ho
  ispecialize Hk $$ [Ho]; · iapply (Ck32 d mO _); iexact Ho
  iapply Hk; iapply (Ck7 d i); iexact Hb

theorem step_carry (d : Dev nD) (r : Fin 4) (v : (Sn 8).Idx → Elt F .bf16) (k : Pg F) (Q : PUnit → sProp 𝕄) :
    iprop(ch d gA fullShare v ∗ chAny d (g32 mO r) ∗ (ch d gA fullShare v -∗ ch d (g32 mO r) fullShare v -∗ WP d k Q))
      ⊢ WP d (carryX r k) Q := by
  unfold carryX carry
  iintro ⟨Ha, Ho, Hk⟩
  iapply (load_ch d _ fullShare v _ Q)
  isplitl [Ha]; · iexact Ha
  iintro Ha
  iapply (load_any d _ _ Q)
  isplitl [Ho]; · iexact Ho
  iintro Ho
  iapply (store_ch d _ _ k Q)
  isplitl [Ho]; · iexact Ho
  iintro Ho
  ispecialize Hk $$ [Ha]; · iexact Ha
  iapply Hk; iexact Ho

end Cert.AR
-- ==== Proof.PhaseA.lean ====
module

public import proofs.«01_k».proof.Proof.Compute

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Lists of assertions -/

section Lists
variable {I J : Type}

theorem zip2 (l : List I) (Φ Ψ : I → sProp 𝕄) : iprop(bigSepL l Φ ∗ bigSepL l Ψ) ⊢ bigSepL l fun i => iprop(Φ i ∗ Ψ i) := by
  induction l with
  | nil => show iprop(emp ∗ emp) ⊢ iprop(emp); iintro -; iempintro
  | cons i l ih =>
    rw [bigSepL_cons', bigSepL_cons', bigSepL_cons']
    iintro ⟨⟨H1, H2⟩, H3, H4⟩
    isplitl [H1 H3]
    · isplitl [H1] <;> iassumption
    · iapply ih; isplitl [H2] <;> iassumption
theorem unzip2 (l : List I) (Φ Ψ : I → sProp 𝕄) : (bigSepL l fun i => iprop(Φ i ∗ Ψ i)) ⊢ iprop(bigSepL l Φ ∗ bigSepL l Ψ) := by
  induction l with
  | nil => show iprop(emp) ⊢ iprop(emp ∗ emp); iintro -; isplitl <;> iempintro
  | cons i l ih =>
    rw [bigSepL_cons', bigSepL_cons', bigSepL_cons']
    iintro ⟨⟨H1, H2⟩, H⟩
    ihave H' := ih $$ H
    icases H' with ⟨H3, H4⟩
    isplitl [H1 H3]
    · isplitl [H1] <;> iassumption
    · isplitl [H2] <;> iassumption

/-- A persistent assertion that gives each gives all. -/
theorem all_of (l : List I) (P : sProp 𝕄) [BI.Persistent P] (Φ : I → sProp 𝕄) (h : ∀ i ∈ l, P ⊢ Φ i) : P ⊢ bigSepL l Φ := by
  induction l with
  | nil => show P ⊢ iprop(emp); iintro -; iempintro
  | cons i l ih =>
    rw [bigSepL_cons']
    iintro #H
    isplitr
    · iapply (h i List.mem_cons_self); iexact H
    · iapply (ih fun j hj => h j (List.mem_cons_of_mem i hj)); iexact H

/-- A loop whose steps may consult a persistent assertion. -/
theorem loop_ctx {α : Type} (d : Dev nD) (P : sProp 𝕄) [BI.Persistent P] (Pre Post : α → sProp 𝕄) (St : List α → sProp 𝕄) (f : α → Pg F → Pg F)
    (Q : PUnit → sProp 𝕄) (l : List α)
    (h : ∀ a l' k, (a :: l') <:+ l → iprop(P ∗ Pre a ∗ St (a :: l') ∗ (Post a -∗ St l' -∗ WP d k Q)) ⊢ WP d (f a k) Q) (k : Pg F) :
    iprop(P ∗ bigSepL l Pre ∗ St l ∗ (bigSepL l Post -∗ St [] -∗ WP d k Q)) ⊢ WP d (loop l f k) Q := by
  have hs := loop_sep d (fun a => iprop(P ∗ Pre a)) Post St f Q l (fun a l' k' hl => by
    iintro ⟨⟨HP, Ha⟩, HS, Hk⟩
    iapply (h a l' k' hl)
    isplitl [HP]; · iexact HP
    isplitl [Ha]; · iexact Ha
    isplitl [HS]; · iexact HS
    iexact Hk) k
  iintro ⟨#HP, Hl, HS, Hk⟩
  iapply hs
  isplitl [Hl]
  · iapply (zip2 l (fun _ => P) Pre)
    isplitr
    · iapply (all_of l P (fun _ => P) fun _ _ => .rfl); iexact HP
    · iexact Hl
  isplitl [HS]; · iexact HS
  iexact Hk

theorem mem_rest {α : Type} {f : α → Tg} {l l' : List α} {rest : List Tg} (h : l' <:+ l) {t : Tg} (ht : t ∈ l'.map f ++ rest) : t ∈ l.map f ++ rest := by
  rcases List.mem_append.mp ht with h1 | h1
  · obtain ⟨x, hx, e⟩ := List.mem_map.mp h1
    exact List.mem_append_left _ (List.mem_map.mpr ⟨x, h.subset hx, e⟩)
  · exact List.mem_append_right _ h1

theorem split24 (Φ : Fin 24 → sProp 𝕄) : bigSepL l24 Φ = iprop(bigSepL l0 Φ ∗ bigSepL l1 Φ ∗ bigSepL l2 Φ) := by
  rw [← bigSepL_append, ← bigSepL_append]; rfl
theorem next0 (Φ : Fin 24 → sProp 𝕄) : bigSepL l1 Φ = bigSepL l0 fun n => Φ (nxt n) := bigSepL_map nxt l0 Φ
theorem next1 (Φ : Fin 24 → sProp 𝕄) : bigSepL l2 Φ = bigSepL l1 fun n => Φ (nxt n) := bigSepL_map nxt l1 Φ

theorem fin8_0 (Φ : Fin 8 → sProp 𝕄) : bigSepL (List.finRange 8) Φ = bigSepL l0 fun n => Φ (plc n) := by
  rw [show List.finRange 8 = l0.map plc by decide +kernel]; exact bigSepL_map plc l0 Φ
theorem fin8_1 (Φ : Fin 8 → sProp 𝕄) : bigSepL (List.finRange 8) Φ = bigSepL l1 fun n => Φ (plc n) := by
  rw [show List.finRange 8 = l1.map plc by decide +kernel]; exact bigSepL_map plc l1 Φ
theorem fin8_2 (Φ : Fin 8 → sProp 𝕄) : bigSepL (List.finRange 8) Φ = bigSepL l2 fun n => Φ (plc n) := by
  rw [show List.finRange 8 = l2.map plc by decide +kernel]; exact bigSepL_map plc l2 Φ

end Lists

/-- A completion cell is finished. -/
def VS (d : Dev nD) (x : Cp) : sProp 𝕄 := semVal (sendCell d x) 0
/-- An arrival cell is finished. -/
def VR (d : Dev nD) (x : Cp) : sProp 𝕄 := semVal (recvCell d x) 0

/-! ## Groups and chunks -/

/-- A group held is each chunk held. -/
theorem group_chunks (d : Dev nD) (m) (r : Fin 4) (v : (Sn 8).Idx → Elt F .bf16) :
    (ch d (g32 m r) fullShare v : sProp 𝕄) ⊢ bigSepL (List.finRange 8) fun c => Ck d (c32 m (row r c)) fullShare (pick v c) :=
  (ch_rows m.view _ _ v).trans (bigSepL_mono fun c _ => Ck32 d m (row r c) fullShare _)
theorem group_any (d : Dev nD) (m) (r : Fin 4) :
    (chAny d (g32 m r) : sProp 𝕄) ⊢ bigSepL (List.finRange 8) fun c => chAny d (c32 m (row r c)).view :=
  (chAny_rows m.view _).trans (bigSepL_mono fun c _ => sq_chAny d (a32 m (row r c)) _)
theorem any_group (d : Dev nD) (m) (r : Fin 4) :
    (bigSepL (List.finRange 8) fun c => chAny d (c32 m (row r c)).view : sProp 𝕄) ⊢ chAny d (g32 m r) :=
  (bigSepL_mono fun c _ => chAny_sq d (a32 m (row r c)) _).trans (chAny_unrows m.view _)

section PhaseA

variable (xb wb : Dev nD → S1024x1024.Idx → Elt F .bf16) (κ : GSem nD τ sig → ℕ)

/-- The product's chunk of copy `n`, in column step `s`. -/
def PC (d : Dev nD) (s : Fin 3) (n : Fin 24) : sProp 𝕄 :=
  Ck d (c32 mP (row (grpA d s) (plc n))) fullShare (pch xb wb d (grpA d s) (plc n))
/-- The same chunk at any value. -/
def PAny (d : Dev nD) (r : Fin 4) (n : Fin 24) : sProp 𝕄 := chAny d (c32 mP (row r (plc n))).view

theorem srcA_lo (d : Dev nD) (n : Fin 24) (h : n.val < 8) :
    (Ck d (c32 mP (row (grp0 d) (plc n))) fullShare (pch xb wb d (grp0 d) (plc n)) : sProp 𝕄) = Src xb wb d (.a n) := by
  unfold Src src val shr
  dsimp only
  rw [dif_pos h, show (plc n) = ⟨n.val, h⟩ from Fin.ext (Nat.mod_eq_of_lt h), show (hop n).val = 0 from Nat.div_eq_of_lt h]
  rfl
theorem srcA_hi (d : Dev nD) (n : Fin 24) (h : n.val < 16) :
    (Ck d (c24 mA n) fullShare (aS xb wb ((hop n).val + 1) d (plc n)) : sProp 𝕄) = Src xb wb d (.a (nxt n)) := by
  have h1 : (nxt n).val = n.val + 8 := Nat.mod_eq_of_lt (by omega)
  unfold Src src val shr
  dsimp only
  rw [dif_neg (by omega), show plc (nxt n) = plc n from Fin.ext (by show (nxt n).val % 8 = n.val % 8; omega),
    show (hop (nxt n)).val = (hop n).val + 1 from by show (nxt n).val / 8 = n.val / 8 + 1; omega,
    show (⟨(nxt n).val - 8, by omega⟩ : Fin 24) = n from Fin.ext (by show (nxt n).val - 8 = n.val; omega)]

/-- The sends of a hop. -/
theorem loop_send (d : Dev nD) {α : Type} (f : α → Cp) (l : List α) (rest : List Tg) (k : Pg F) (Q : PUnit → sProp 𝕄) :
    iprop((Ctx xb wb κ ∗ RT d) ∗ (bigSepL l fun n => iprop(Src xb wb d (f n) ∗ Any d (f n) ∗ Out d (f n))) ∗ Owe d (l.map (fun n => (Sum.inr (f n) : Tg)) ++ rest)
        ∗ ((bigSepL l fun n => Sent d (f n)) -∗ Owe d rest -∗ WP d k Q))
      ⊢ WP d (loop l (fun n => sendX d (f n)) k) Q :=
  loop_ctx d iprop(Ctx xb wb κ ∗ RT d) (fun n => iprop(Src xb wb d (f n) ∗ Any d (f n) ∗ Out d (f n))) (fun n => Sent d (f n))
    (fun l' => Owe d (l'.map (fun n => (Sum.inr (f n) : Tg)) ++ rest)) _ Q l (fun n l' k' _ => by
      iintro ⟨⟨#HC, #HT⟩, ⟨Hs, Ha, Ho⟩, HO, Hk⟩
      iapply (step_send xb wb κ d (f n) (l'.map (fun n => (Sum.inr (f n) : Tg)) ++ rest) k' Q)
      isplitr; · iexact HC
      isplitr; · iexact HT
      isplitl [Hs]; · iexact Hs
      isplitl [Ha]; · iexact Ha
      isplitl [Ho]; · iexact Ho
      isplitl [HO]; · iexact HO
      iexact Hk) k

/-- The waits for completions. -/
theorem loop_done (d : Dev nD) {α : Type} (f : α → Cp) (l : List α) (rest : List Tg) (hr : ∀ t ∈ rest, 0 < lvl t ∧ lvl t < NL) (k : Pg F) (Q : PUnit → sProp 𝕄) :
    iprop(Ctx xb wb κ ∗ (bigSepL l fun n => Sent d (f n)) ∗ Owe d rest
        ∗ ((bigSepL l fun n => iprop(VS d (f n) ∗ Snt xb wb d (f n))) -∗ Owe d rest -∗ WP d k Q))
      ⊢ WP d (loop l (fun n => doneX d (f n)) k) Q :=
  loop_ctx d (Ctx xb wb κ) (fun n => Sent d (f n)) (fun n => iprop(VS d (f n) ∗ Snt xb wb d (f n)))
    (fun _ => Owe d rest) _ Q l (fun n l' k' _ => by
      iintro ⟨#HC, Hs, HO, Hk⟩
      iapply (step_done xb wb κ d (f n) rest hr k' Q)
      isplitr; · iexact HC
      isplitl [Hs]; · iexact Hs
      isplitl [HO]; · iexact HO
      iintro Hv Hs HO
      ispecialize Hk $$ [Hv Hs]
      · unfold VS; isplitl [Hv] <;> iassumption
      iapply Hk; iexact HO) k

/-- One column step: arrivals, sums, and the next copies. -/
theorem loop_hop (d : Dev nD) (s : Fin 3) (l : List (Fin 24)) (rest : List Tg) (hl : ∀ n ∈ l, hop n = s ∧ n.val < 16)
    (hw : ∀ n ∈ l, ∀ t ∈ l.map (fun n => (Sum.inr (.a (nxt n)) : Tg)) ++ rest, idx (.a n) < lvl t ∧ lvl t < NL) (hx : ∀ n ∈ l, idx (.a n) < NL)
    (k : Pg F) (Q : PUnit → sProp 𝕄) :
    iprop((Ctx xb wb κ ∗ RT d) ∗ (bigSepL l fun n => iprop(In d (.a n) ∗ PC xb wb d s n ∗ chAny d (c24 mA n).view ∗ Any d (.a (nxt n)) ∗ Out d (.a (nxt n))))
        ∗ Owe d (l.map (fun n => (Sum.inr (.a (nxt n)) : Tg)) ++ rest)
        ∗ ((bigSepL l fun n => iprop(VR d (.a n) ∗ chAny d (c24 mC n).view ∗ PAny d (grpA d s) n ∗ Sent d (.a (nxt n)))) -∗ Owe d rest -∗ WP d k Q))
      ⊢ WP d (loop l (fun n k => recvX d (.a n) <| sumX d n <| sendX d (.a (nxt n)) k) k) Q :=
  loop_ctx d iprop(Ctx xb wb κ ∗ RT d)
    (fun n => iprop(In d (.a n) ∗ PC xb wb d s n ∗ chAny d (c24 mA n).view ∗ Any d (.a (nxt n)) ∗ Out d (.a (nxt n))))
    (fun n => iprop(VR d (.a n) ∗ chAny d (c24 mC n).view ∗ PAny d (grpA d s) n ∗ Sent d (.a (nxt n))))
    (fun l' => Owe d (l'.map (fun n => (Sum.inr (.a (nxt n)) : Tg)) ++ rest)) _ Q l (fun n l' k' hs => by
      have hn : n ∈ l := hs.subset List.mem_cons_self
      obtain ⟨hh, h16⟩ := hl n hn
      subst hh
      iintro ⟨⟨#HC, #HT⟩, ⟨Hi, Hp, Ha, Hy, Ho⟩, HO, Hk⟩
      iapply (step_recv xb wb κ d (.a n) _ (fun t ht => hw n hn t (mem_rest hs ht)) (hx n hn) _ Q)
      isplitr; · iexact HC
      isplitl [Hi]; · iexact Hi
      isplitl [HO]; · iexact HO
      iintro Hv Hr HO
      unfold Rcv isR
      icases Hr with ⟨Hc, -⟩
      iapply (step_sumA d n (val xb wb (zp d) (.a n)) (pch xb wb d (grpA d (hop n)) (plc n)) _ Q)
      isplitl [Hc]; · iexact Hc
      isplitl [Hp]; · unfold PC; iexact Hp
      isplitl [Ha]; · iexact Ha
      iintro Hc Hp Ha
      iapply (step_send xb wb κ d (.a (nxt n)) (l'.map (fun n => (Sum.inr (.a (nxt n)) : Tg)) ++ rest) k' Q)
      isplitr; · iexact HC
      isplitr; · iexact HT
      isplitl [Ha]
      · iapply (Entails.of_eq (srcA_hi xb wb d n h16)); iexact Ha
      isplitl [Hy]; · iexact Hy
      isplitl [Ho]; · iexact Ho
      isplitl [HO]; · iexact HO
      iintro Hs HO
      ispecialize Hk $$ [Hv Hc Hp Hs]
      · unfold VR PAny
        isplitl [Hv]; · iexact Hv
        isplitl [Hc]; · iapply (Ck_any d (c24 mC n)); iexact Hc
        isplitl [Hp]; · iapply (Ck_any d); iexact Hp
        iexact Hs
      iapply Hk; iexact HO) k

/-- The last column step. -/
theorem loop_last (d : Dev nD) (hw : ∀ n ∈ l2, ∀ t ∈ tgR, idx (.a n) < lvl t ∧ lvl t < NL) (k : Pg F) (Q : PUnit → sProp 𝕄) :
    iprop(Ctx xb wb κ ∗ (bigSepL l2 fun n => iprop(In d (.a n) ∗ PC xb wb d 2 n ∗ chAny d (c24 mA n).view))
        ∗ Owe d tgR
        ∗ ((bigSepL l2 fun n => iprop(VR d (.a n) ∗ chAny d (c24 mC n).view ∗ PAny d (grpA d 2) n ∗ Ck d (c24 mA n) fullShare (aS xb wb 3 d (plc n)))) -∗ Owe d tgR -∗ WP d k Q))
      ⊢ WP d (loop l2 (fun n k => recvX d (.a n) <| sumX d n k) k) Q :=
  loop_ctx d (Ctx xb wb κ)
    (fun n => iprop(In d (.a n) ∗ PC xb wb d 2 n ∗ chAny d (c24 mA n).view))
    (fun n => iprop(VR d (.a n) ∗ chAny d (c24 mC n).view ∗ PAny d (grpA d 2) n ∗ Ck d (c24 mA n) fullShare (aS xb wb 3 d (plc n))))
    (fun _ => Owe d tgR) _ Q l2 (fun n l' k' hs => by
      have hn : n ∈ l2 := hs.subset List.mem_cons_self
      have hh : hop n = 2 := (by decide : ∀ n ∈ l2, hop n = 2) n hn
      have hx : idx (.a n) < NL := (by decide : ∀ n ∈ l2, idx (.a n) < NL) n hn
      iintro ⟨#HC, ⟨Hi, Hp, Ha⟩, HO, Hk⟩
      iapply (step_recv xb wb κ d (.a n) tgR (hw n hn) hx _ Q)
      isplitr; · iexact HC
      isplitl [Hi]; · iexact Hi
      isplitl [HO]; · iexact HO
      iintro Hv Hr HO
      unfold Rcv isR
      icases Hr with ⟨Hc, -⟩
      iapply (step_sumA d n (val xb wb (zp d) (.a n)) (pch xb wb d (grpA d (hop n)) (plc n)) _ Q)
      isplitl [Hc]; · iexact Hc
      isplitl [Hp]; · unfold PC; rw [hh]; iexact Hp
      isplitl [Ha]; · iexact Ha
      iintro Hc Hp Ha
      ispecialize Hk $$ [Hv Hc Hp Ha]
      · unfold VR PAny
        isplitl [Hv]; · iexact Hv
        isplitl [Hc]; · iapply (Ck_any d (c24 mC n)); iexact Hc
        isplitl [Hp]; · rw [← hh]; iapply (Ck_any d); iexact Hp
        dsimp only [val]; rw [hh]; iexact Ha
      iapply Hk; iexact HO) k

end PhaseA

end Cert.AR
-- ==== Proof.Column.lean ====
module

public import proofs.«01_k».proof.Proof.PhaseA

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section Column

variable (xb wb : Dev nD → S1024x1024.Idx → Elt F .bf16) (κ : GSem nD τ sig → ℕ)

/-- The payments of the column phase, by loop. -/
abbrev tgA' : List Tg := l0.map (fun n => (Sum.inr (.a n) : Tg)) ++ (l0.map (fun n => (Sum.inr (.a (nxt n)) : Tg)) ++ (l1.map (fun n => (Sum.inr (.a (nxt n)) : Tg)) ++ tgR))
theorem tgA_eq : tgA = tgA' := rfl

theorem wA0 : ∀ n ∈ l0, ∀ t ∈ l0.map (fun n => (Sum.inr (.a (nxt n)) : Tg)) ++ (l1.map (fun n => (Sum.inr (.a (nxt n)) : Tg)) ++ tgR), idx (.a n) < lvl t ∧ lvl t < NL := by
  decide +kernel
theorem wA1 : ∀ n ∈ l1, ∀ t ∈ l1.map (fun n => (Sum.inr (.a (nxt n)) : Tg)) ++ tgR, idx (.a n) < lvl t ∧ lvl t < NL := by decide +kernel
theorem wA2 : ∀ n ∈ l2, ∀ t ∈ tgR, idx (.a n) < lvl t ∧ lvl t < NL := by decide +kernel
theorem wR : ∀ t ∈ tgR, 0 < lvl t ∧ lvl t < NL := by decide +kernel

theorem rowsP : ∀ d : Dev nD, (l0.map (fun n => row (grp0 d) (plc n)) ++ (l0.map (fun n => row (grpA d 0) (plc n)) ++ (l1.map (fun n => row (grpA d 1) (plc n))
    ++ l2.map (fun n => row (grpA d 2) (plc n))))).Perm (List.finRange 32) := by decide +kernel
theorem rowsP_nodup (d : Dev nD) : (l0.map (fun n => row (grp0 d) (plc n)) ++ (l0.map (fun n => row (grpA d 0) (plc n)) ++ (l1.map (fun n => row (grpA d 1) (plc n))
    ++ l2.map (fun n => row (grpA d 2) (plc n))))).Nodup := (rowsP d).nodup_iff.mpr (List.nodup_finRange 32)

/-- The four groups' chunks are all the chunks. -/
theorem all_P (d : Dev nD) : (bigSepL (List.finRange 32) fun i => chAny d (c32 mP i).view : sProp 𝕄)
    = iprop(bigSepL l0 (PAny d (grp0 d)) ∗ bigSepL l0 (PAny d (grpA d 0)) ∗ bigSepL l1 (PAny d (grpA d 1)) ∗ bigSepL l2 (PAny d (grpA d 2))) := by
  rw [← TalkSites.bigSepL_perm (rowsP d) (rowsP_nodup d), bigSepL_append, bigSepL_append, bigSepL_append, bigSepL_map, bigSepL_map, bigSepL_map, bigSepL_map]
  rfl

theorem group_PC (d : Dev nD) (s : Fin 3) : (ch d (g32 mP (grpA d s)) fullShare (k0_pay1 (rowsX (grpA d s) (xb d)) (allW (wb d))) : sProp 𝕄)
    ⊢ bigSepL (List.finRange 8) fun c => Ck d (c32 mP (row (grpA d s) c)) fullShare (pch xb wb d (grpA d s) c) := group_chunks d mP (grpA d s) _

theorem snt_lo (d : Dev nD) (n : Fin 24) (h : n ∈ l0) : Snt xb wb d (.a n) ⊢ (PAny d (grp0 d) n : sProp 𝕄) := by
  have h8 : n.val < 8 := (by decide : ∀ n ∈ l0, n.val < 8) n h
  show Src xb wb d (.a n) ⊢ _
  rw [← srcA_lo xb wb d n h8]; exact Ck_any d _ _
theorem snt_hi (d : Dev nD) (n : Fin 24) (h : n ∈ l0 ++ l1) : Snt xb wb d (.a (nxt n)) ⊢ (chAny d (c24 mA n).view : sProp 𝕄) := by
  have h8 : n.val < 16 := (by decide : ∀ n ∈ l0 ++ l1, n.val < 16) n h
  show Src xb wb d (.a (nxt n)) ⊢ _
  rw [← srcA_hi xb wb d n h8]; exact Ck_any d _ _

theorem run_column (d : Dev nD) (k : Pg F) (Q : PUnit → sProp 𝕄) :
    iprop((Ctx xb wb κ ∗ RT d) ∗ ch d mX.view fullShare (xb d) ∗ ch d mW.view fullShare (wb d)
        ∗ ch d (g32 mP (grp0 d)) fullShare (k0_pay1 (rowsX (grp0 d) (xb d)) (allW (wb d)))
        ∗ chAny d (g32 mP (grpA d 0)) ∗ chAny d (g32 mP (grpA d 1)) ∗ chAny d (g32 mP (grpA d 2))
        ∗ (bigSepL l24 fun n => Any d (.a n)) ∗ (bigSepL l24 fun n => Out d (.a n)) ∗ (bigSepL l24 fun n => In d (.a n))
        ∗ (bigSepL l24 fun n => chAny d (c24 mA n).view) ∗ Owe d tgA
        ∗ (ch d mX.view fullShare (xb d) -∗ ch d mW.view fullShare (wb d) -∗ (bigSepL (List.finRange 32) fun i => chAny d (c32 mP i).view)
          -∗ (bigSepL l24 fun n => chAny d (c24 mC n).view) -∗ (bigSepL (l0 ++ l1) fun n => chAny d (c24 mA n).view)
          -∗ (bigSepL l2 fun n => Ck d (c24 mA n) fullShare (aS xb wb 3 d (plc n)))
          -∗ (bigSepL l24 fun n => VS d (.a n)) -∗ (bigSepL l24 fun n => VR d (.a n)) -∗ Owe d tgR -∗ WP d k Q))
      ⊢ WP d (runA d k) Q := by
  unfold runA
  rw [tgA_eq, split24, split24, split24, split24, split24, split24, split24, all_P, bigSepL_append]
  iintro ⟨#HC, Hx, Hw, Hp, Hp0, Hp1, Hp2, ⟨Hy0, Hy1, Hy2⟩, ⟨Ho0, Ho1, Ho2⟩, ⟨Hi0, Hi1, Hi2⟩, ⟨Ha0, Ha1, Ha2⟩, HO, Hk⟩
  -- the first copies
  ihave Hp' := (group_chunks d mP (grp0 d) _) $$ Hp
  ihave Hs0 := (BIBase.Entails.trans (Entails.of_eq (fin8_0 _)) (bigSepL_mono fun n hn => Entails.of_eq (srcA_lo xb wb d n ((by decide : ∀ n ∈ l0, n.val < 8) n hn)))) $$ Hp'
  iapply (loop_send xb wb κ d Cp.a l0 _ _ Q)
  isplitr; · iexact HC
  isplitl [Hs0 Hy0 Ho0]
  · iapply (zip2 l0 (fun n => Src xb wb d (.a n)) fun n => iprop(Any d (.a n) ∗ Out d (.a n)))
    isplitl [Hs0]; · iexact Hs0
    iapply (zip2 l0 (fun n => Any d (.a n)) fun n => Out d (.a n))
    isplitl [Hy0] <;> iassumption
  isplitl [HO]; · iexact HO
  iintro Hs0 HO
  -- the first step
  iapply (step_mul d (grpA d 0) (xb d) (wb d) _ Q)
  isplitl [Hx]; · iexact Hx
  isplitl [Hw]; · iexact Hw
  isplitl [Hp0]; · iexact Hp0
  iintro Hx Hw Hp0
  ihave Hp0' := (BIBase.Entails.trans (group_PC xb wb d 0) (Entails.of_eq (fin8_0 _))) $$ Hp0
  ihave Hy1' := (Entails.of_eq (next0 _)) $$ Hy1
  ihave Ho1' := (Entails.of_eq (next0 _)) $$ Ho1
  iapply (loop_hop xb wb κ d 0 l0 _ (by decide) wA0 (by decide) _ Q)
  isplitr; · iexact HC
  isplitl [Hi0 Hp0' Ha0 Hy1' Ho1']
  · iapply (zip2 l0 (fun n => In d (.a n)) fun n => iprop(PC xb wb d 0 n ∗ chAny d (c24 mA n).view ∗ Any d (.a (nxt n)) ∗ Out d (.a (nxt n))))
    isplitl [Hi0]; · iexact Hi0
    iapply (zip2 l0 (fun n => PC xb wb d 0 n) fun n => iprop(chAny d (c24 mA n).view ∗ Any d (.a (nxt n)) ∗ Out d (.a (nxt n))))
    isplitl [Hp0']; · iexact Hp0'
    iapply (zip2 l0 (fun n => chAny d (c24 mA n).view) fun n => iprop(Any d (.a (nxt n)) ∗ Out d (.a (nxt n))))
    isplitl [Ha0]; · iexact Ha0
    iapply (zip2 l0 (fun n => Any d (.a (nxt n))) fun n => Out d (.a (nxt n)))
    isplitl [Hy1'] <;> iassumption
  isplitl [HO]; · iexact HO
  iintro Hb HO
  ihave Hb' := (unzip2 l0 (fun n => VR d (.a n)) _) $$ Hb
  icases Hb' with ⟨Hv0, Hb⟩
  ihave Hb' := (unzip2 l0 (fun n => chAny d (c24 mC n).view) _) $$ Hb
  icases Hb' with ⟨Hc0, Hb⟩
  ihave Hb' := (unzip2 l0 (PAny d (grpA d 0)) _) $$ Hb
  icases Hb' with ⟨Hq0, Hs1⟩
  -- the second step
  iapply (step_mul d (grpA d 1) (xb d) (wb d) _ Q)
  isplitl [Hx]; · iexact Hx
  isplitl [Hw]; · iexact Hw
  isplitl [Hp1]; · iexact Hp1
  iintro Hx Hw Hp1
  ihave Hp1' := (BIBase.Entails.trans (group_PC xb wb d 1) (Entails.of_eq (fin8_1 _))) $$ Hp1
  ihave Hy2' := (Entails.of_eq (next1 _)) $$ Hy2
  ihave Ho2' := (Entails.of_eq (next1 _)) $$ Ho2
  iapply (loop_hop xb wb κ d 1 l1 _ (by decide) wA1 (by decide) _ Q)
  isplitr; · iexact HC
  isplitl [Hi1 Hp1' Ha1 Hy2' Ho2']
  · iapply (zip2 l1 (fun n => In d (.a n)) fun n => iprop(PC xb wb d 1 n ∗ chAny d (c24 mA n).view ∗ Any d (.a (nxt n)) ∗ Out d (.a (nxt n))))
    isplitl [Hi1]; · iexact Hi1
    iapply (zip2 l1 (fun n => PC xb wb d 1 n) fun n => iprop(chAny d (c24 mA n).view ∗ Any d (.a (nxt n)) ∗ Out d (.a (nxt n))))
    isplitl [Hp1']; · iexact Hp1'
    iapply (zip2 l1 (fun n => chAny d (c24 mA n).view) fun n => iprop(Any d (.a (nxt n)) ∗ Out d (.a (nxt n))))
    isplitl [Ha1]; · iexact Ha1
    iapply (zip2 l1 (fun n => Any d (.a (nxt n))) fun n => Out d (.a (nxt n)))
    isplitl [Hy2'] <;> iassumption
  isplitl [HO]; · iexact HO
  iintro Hb HO
  ihave Hb' := (unzip2 l1 (fun n => VR d (.a n)) _) $$ Hb
  icases Hb' with ⟨Hv1, Hb⟩
  ihave Hb' := (unzip2 l1 (fun n => chAny d (c24 mC n).view) _) $$ Hb
  icases Hb' with ⟨Hc1, Hb⟩
  ihave Hb' := (unzip2 l1 (PAny d (grpA d 1)) _) $$ Hb
  icases Hb' with ⟨Hq1, Hs2⟩
  -- the third step
  iapply (step_mul d (grpA d 2) (xb d) (wb d) _ Q)
  isplitl [Hx]; · iexact Hx
  isplitl [Hw]; · iexact Hw
  isplitl [Hp2]; · iexact Hp2
  iintro Hx Hw Hp2
  ihave Hp2' := (BIBase.Entails.trans (group_PC xb wb d 2) (Entails.of_eq (fin8_2 _))) $$ Hp2
  icases HC with ⟨#HC, #HT⟩
  iapply (loop_last xb wb κ d wA2 _ Q)
  isplitr; · iexact HC
  isplitl [Hi2 Hp2' Ha2]
  · iapply (zip2 l2 (fun n => In d (.a n)) fun n => iprop(PC xb wb d 2 n ∗ chAny d (c24 mA n).view))
    isplitl [Hi2]; · iexact Hi2
    iapply (zip2 l2 (fun n => PC xb wb d 2 n) fun n => chAny d (c24 mA n).view)
    isplitl [Hp2']; · iexact Hp2'
    iexact Ha2
  isplitl [HO]; · iexact HO
  iintro Hb HO
  ihave Hb' := (unzip2 l2 (fun n => VR d (.a n)) _) $$ Hb
  icases Hb' with ⟨Hv2, Hb⟩
  ihave Hb' := (unzip2 l2 (fun n => chAny d (c24 mC n).view) _) $$ Hb
  icases Hb' with ⟨Hc2, Hb⟩
  ihave Hb' := (unzip2 l2 (PAny d (grpA d 2)) _) $$ Hb
  icases Hb' with ⟨Hq2, Ha2⟩
  -- the completions
  iapply (loop_done xb wb κ d Cp.a l24 tgR wR _ Q)
  isplitr; · iexact HC
  isplitl [Hs0 Hs1 Hs2]
  · iapply (Entails.of_eq (split24 fun n => Sent d (.a n)).symm)
    isplitl [Hs0]; · iexact Hs0
    isplitl [Hs1]; · iapply (Entails.of_eq (next0 fun n => Sent d (.a n)).symm); iexact Hs1
    iapply (Entails.of_eq (next1 fun n => Sent d (.a n)).symm); iexact Hs2
  isplitl [HO]; · iexact HO
  iintro Hb HO
  ihave Hb' := (unzip2 l24 (fun n => VS d (.a n)) _) $$ Hb
  icases Hb' with ⟨Hvs, Hb⟩
  ihave Hb' := (Entails.of_eq (split24 _)) $$ Hb
  icases Hb' with ⟨Hb0, Hb1, Hb2⟩
  ihave Hb1' := (Entails.of_eq (next0 _)) $$ Hb1
  ihave Hb2' := (Entails.of_eq (next1 _)) $$ Hb2
  ispecialize Hk $$ [Hx]; · iexact Hx
  ispecialize Hk $$ [Hw]; · iexact Hw
  ispecialize Hk $$ [Hb0 Hq0 Hq1 Hq2]
  · isplitl [Hb0]
    · iapply (bigSepL_mono fun n hn => snt_lo xb wb d n hn); iexact Hb0
    isplitl [Hq0]; · iexact Hq0
    isplitl [Hq1] <;> iassumption
  ispecialize Hk $$ [Hc0 Hc1 Hc2]
  · isplitl [Hc0]; · iexact Hc0
    isplitl [Hc1] <;> iassumption
  ispecialize Hk $$ [Hb1' Hb2']
  · isplitl [Hb1']
    · iapply (bigSepL_mono fun n hn => snt_hi xb wb d n (List.mem_append_left _ hn)); iexact Hb1'
    · iapply (bigSepL_mono fun n hn => snt_hi xb wb d n (List.mem_append_right _ hn)); iexact Hb2'
  ispecialize Hk $$ [Ha2]; · iexact Ha2
  ispecialize Hk $$ [Hvs]; · iapply (Entails.of_eq (split24 fun n => VS d (.a n))); iexact Hvs
  ispecialize Hk $$ [Hv0 Hv1 Hv2]
  · isplitl [Hv0]; · iexact Hv0
    isplitl [Hv1] <;> iassumption
  iapply Hk; iexact HO

end Column

end Cert.AR
-- ==== Proof.Rows.lean ====
module

public import proofs.«01_k».proof.Proof.Column

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section Rows

variable (xb wb : Dev nD → S1024x1024.Idx → Elt F .bf16) (κ : GSem nD τ sig → ℕ)

/-! ## The halving exchanges -/

/-- The result's chunk in column `c` of the own group, after `k` exchanges. -/
def O (k : ℕ) (d : Dev nD) (c : Fin 8) : sProp 𝕄 := Ck d (c32 mO (row (own d) c)) fullShare (oL xb wb k d c)
/-- The partner's chunk that halving copy `i` gives to `d`. -/
def AG (d : Dev nD) (i : Fin 7) : sProp 𝕄 := chAny (pr d i) (c32 mO (row (own d) (kCol d i))).view

theorem own_pr : ∀ (d : Dev nD) (i : Fin 7), own (pr d i) = own d := by decide +kernel
theorem pr_px : ∀ (d : Dev nD) (i : Fin 7), pr d i = px d (2 ^ lvR i) := by decide +kernel
theorem sCol_pr (d : Dev nD) (i : Fin 7) : sCol (pr d i) i = kCol d i := by unfold sCol; rw [pr_pr]

theorem rcvR (d : Dev nD) (i : Fin 7) : Rcv xb wb d (.r i) ⊢ iprop(Ck d (c7 i) fullShare (oL xb wb (lvR i) (px d (2 ^ lvR i)) (kCol d i)) ∗ (AG d i : sProp 𝕄)) := by
  show iprop(Ck d (c7 i) fullShare (oL xb wb (lvR i) (pr d i) (sCol (pr d i) i)) ∗ chAny (pr d i) (c32 mO (row (own (pr d i)) (sCol (pr d i) i))).view) ⊢ _
  rw [sCol_pr, own_pr, ← pr_px]; exact .rfl

/-- One halving exchange. -/
theorem run_halve (d : Dev nD) (l : List (Fin 7)) (k : ℕ) (rest : List Tg) (hl : ∀ i ∈ l, lvR i = k)
    (h0 : ∀ t ∈ rest, 0 < lvl t ∧ lvl t < NL) (hw : ∀ i ∈ l, ∀ t ∈ rest, idx (.r i) < lvl t ∧ lvl t < NL) (hx : ∀ i ∈ l, idx (.r i) < NL) (p : Pg F) (Q : PUnit → sProp 𝕄) :
    iprop((Ctx xb wb κ ∗ RT d) ∗ (bigSepL l fun i => O xb wb k d (sCol d i)) ∗ (bigSepL l fun i => O xb wb k d (kCol d i))
        ∗ (bigSepL l fun i => Any d (.r i)) ∗ (bigSepL l fun i => Out d (.r i)) ∗ (bigSepL l fun i => In d (.r i))
        ∗ Owe d (l.map (fun i => (Sum.inr (.r i) : Tg)) ++ rest)
        ∗ ((bigSepL l fun i => VS d (.r i)) -∗ (bigSepL l fun i => VR d (.r i)) -∗ (bigSepL l fun i => chAny d (c7 i).view) -∗ (bigSepL l fun i => AG d i)
          -∗ (bigSepL l fun i => O xb wb (k + 1) d (kCol d i)) -∗ Owe d rest -∗ WP d p Q))
      ⊢ WP d (runR1 d l p) Q := by
  unfold runR1
  have h2 := loop_ctx d (Ctx xb wb κ)
    (fun i => iprop(Sent d (.r i) ∗ In d (.r i) ∗ O xb wb k d (kCol d i)))
    (fun i => iprop(VS d (.r i) ∗ VR d (.r i) ∗ chAny d (c7 i).view ∗ AG d i ∗ O xb wb (k + 1) d (kCol d i)))
    (fun _ => Owe d rest) (fun i k => doneX d (.r i) <| recvX d (.r i) <| sumR d i k) Q l (fun i l' k' hs => by
      have hi : i ∈ l := hs.subset List.mem_cons_self
      have hk := hl i hi
      subst hk
      iintro ⟨#HC, ⟨Hs, Hi, Ho⟩, HO, Hk⟩
      iapply (step_done xb wb κ d (.r i) rest h0 _ Q)
      isplitr; · iexact HC
      isplitl [Hs]; · iexact Hs
      isplitl [HO]; · iexact HO
      iintro Hvs - HO
      iapply (step_recv xb wb κ d (.r i) rest (hw i hi) (hx i hi) _ Q)
      isplitr; · iexact HC
      isplitl [Hi]; · iexact Hi
      isplitl [HO]; · iexact HO
      iintro Hvr Hr HO
      ihave Hr' := (rcvR xb wb d i) $$ Hr
      icases Hr' with ⟨Hb, Hg⟩
      iapply (step_sumR d i (oL xb wb (lvR i) d (kCol d i)) (oL xb wb (lvR i) (px d (2 ^ lvR i)) (kCol d i)) k' Q)
      isplitl [Ho]; · unfold O; iexact Ho
      isplitl [Hb]; · iexact Hb
      iintro Ho Hb
      ispecialize Hk $$ [Hvs Hvr Ho Hb Hg]
      · isplitl [Hvs]; · unfold VS; iexact Hvs
        isplitl [Hvr]; · unfold VR; iexact Hvr
        isplitl [Hb]; · iapply (Ck_any d (c7 i)); iexact Hb
        isplitl [Hg]; · iexact Hg
        unfold O; iexact Ho
      iapply Hk; iexact HO) p
  iintro ⟨#HC, Hs, Ho, Hy, Hu, Hi, HO, Hk⟩
  iapply (loop_send xb wb κ d Cp.r l rest _ Q)
  isplitr; · iexact HC
  isplitl [Hs Hy Hu]
  · iapply (zip2 l (fun i => Src xb wb d (.r i)) fun i => iprop(Any d (.r i) ∗ Out d (.r i)))
    isplitl [Hs]
    · iapply (bigSepL_mono fun i hi => Entails.of_eq (show O xb wb k d (sCol d i) = Src xb wb d (.r i) by rw [← hl i hi]; rfl)); iexact Hs
    iapply (zip2 l (fun i => Any d (.r i)) fun i => Out d (.r i))
    isplitl [Hy] <;> iassumption
  isplitl [HO]; · iexact HO
  iintro Hs HO
  icases HC with ⟨#HC, #HT⟩
  iapply h2
  isplitr; · iexact HC
  isplitl [Hs Hi Ho]
  · iapply (zip2 l (fun i => Sent d (.r i)) fun i => iprop(In d (.r i) ∗ O xb wb k d (kCol d i)))
    isplitl [Hs]; · iexact Hs
    iapply (zip2 l (fun i => In d (.r i)) fun i => O xb wb k d (kCol d i))
    isplitl [Hi] <;> iassumption
  isplitl [HO]; · iexact HO
  iintro Hb HO
  ihave Hb' := (unzip2 l (fun i => VS d (.r i)) _) $$ Hb
  icases Hb' with ⟨H1, Hb⟩
  ihave Hb' := (unzip2 l (fun i => VR d (.r i)) _) $$ Hb
  icases Hb' with ⟨H2, Hb⟩
  ihave Hb' := (unzip2 l (fun i => chAny d (c7 i).view) _) $$ Hb
  icases Hb' with ⟨H3, Hb⟩
  ihave Hb' := (unzip2 l (fun i => AG d i) _) $$ Hb
  icases Hb' with ⟨H4, H5⟩
  ispecialize Hk $$ [H1]; · iexact H1
  ispecialize Hk $$ [H2]; · iexact H2
  ispecialize Hk $$ [H3]; · iexact H3
  ispecialize Hk $$ [H4]; · iexact H4
  ispecialize Hk $$ [H5]; · iexact H5
  iapply Hk; iexact HO

/-! ## The doubling exchanges -/

/-- The result's chunk `i` held at its value. -/
def Res (d : Dev nD) (q : PosShare TreeShare) (i : Fin 32) : sProp 𝕄 := Ck d (c32 mO i) q (resV xb wb i)
/-- The result's chunk in column `c` of the own group. -/
def H (d : Dev nD) (q : PosShare TreeShare) (c : Fin 8) : sProp 𝕄 := Res xb wb d q (row (own d) c)

/-- The place passed on once doubling copy `i` has arrived. -/
def sc (i : Fin 7) : Fin 24 := ⟨i.val + 1, by omega⟩

theorem cCol_sc : ∀ (d : Dev nD) (i : Fin 7), cCol d (plc (sc i)) = sCol d (inv i) := by decide +kernel
theorem rowC_lo : ∀ (d : Dev nD), ∀ n ∈ l0, rowC d n = row (own d) (cCol d (plc n)) := by decide +kernel
theorem sc_lo : ∀ i : Fin 7, sc i ∈ l0 := by decide
theorem O_H : ∀ d : Dev nD, dv (row (own d) (kCol d 6)) = d ∧ cl (row (own d) (kCol d 6)) = kCol d 6 := by decide +kernel

theorem O_Res (d : Dev nD) : (O xb wb 3 d (kCol d 6) : sProp 𝕄) = H xb wb d fullShare (kCol d 6) := by
  unfold O H Res resV; rw [(O_H d).1, (O_H d).2]

theorem H_split (d : Dev nD) (c : Fin 8) : (H xb wb d fullShare c : sProp 𝕄) ⊢ iprop(H xb wb d qL c ∗ H xb wb d qR c) := ch_split _ _
theorem H_join (d : Dev nD) (c : Fin 8) : iprop(H xb wb d qL c ∗ H xb wb d qR c) ⊢ (H xb wb d fullShare c : sProp 𝕄) := ch_join _ _ _

theorem srcG_H (d : Dev nD) (i : Fin 7) : (Src xb wb d (.g i) : sProp 𝕄) = H xb wb d qR (kCol d (inv i)) := rfl
theorem srcC_H (d : Dev nD) (n : Fin 24) (h : n ∈ l0) : (Src xb wb d (.c n) : sProp 𝕄) = H xb wb d qL (cCol d (plc n)) := by
  have h8 : n.val < 8 := (by decide : ∀ n ∈ l0, n.val < 8) n h
  show Ck d (c32 mO (rowC d n)) (if n.val < 8 then qL else fullShare) (resV xb wb (rowC d n)) = _
  rw [if_pos h8, rowC_lo d n h]; rfl
theorem rcvG (d : Dev nD) (i : Fin 7) : Rcv xb wb d (.g i) ⊢ (H xb wb d fullShare (cCol d (plc (sc i))) : sProp 𝕄) := by
  show iprop(Ck d (c32 mO (row (own (pr d (inv i))) (kCol (pr d (inv i)) (inv i)))) fullShare (resV xb wb (row (own (pr d (inv i))) (kCol (pr d (inv i)) (inv i)))) ∗ emp) ⊢ _
  rw [own_pr, cCol_sc]
  iintro ⟨H, -⟩; unfold H Res; iexact H

/-- Both ends of a doubling copy, and the first copy of the last phase that follows. -/
def stepGC (d : Dev nD) (i : Fin 7) (k : Pg F) : Pg F := bothG d i <| sendX d (.c (sc i)) k
/-- One doubling exchange. -/
def runG1 (d : Dev nD) (l : List (Fin 7)) (k : Pg F) : Pg F := loop l (fun i => sendX d (.g i)) <| loop l (stepGC d) k

theorem runG_eq (d : Dev nD) (k : Pg F) : runG d k = sendX d (.c 0) (runG1 d [0] <| runG1 d [1, 2] <| runG1 d [3, 4, 5, 6] k) := rfl

theorem run_double (d : Dev nD) (l : List (Fin 7)) (rest : List Tg)
    (h0 : ∀ t ∈ l.map (fun i => (Sum.inr (.c (sc i)) : Tg)) ++ rest, 0 < lvl t ∧ lvl t < NL)
    (hw : ∀ i ∈ l, ∀ t ∈ l.map (fun i => (Sum.inr (.c (sc i)) : Tg)) ++ rest, idx (.g i) < lvl t ∧ lvl t < NL) (hx : ∀ i ∈ l, idx (.g i) < NL)
    (p : Pg F) (Q : PUnit → sProp 𝕄) :
    iprop((Ctx xb wb κ ∗ RT d) ∗ (bigSepL l fun i => H xb wb d qR (kCol d (inv i)))
        ∗ (bigSepL l fun i => Any d (.g i)) ∗ (bigSepL l fun i => Out d (.g i)) ∗ (bigSepL l fun i => In d (.g i))
        ∗ (bigSepL l fun i => Any d (.c (sc i))) ∗ (bigSepL l fun i => Out d (.c (sc i)))
        ∗ Owe d (l.map (fun i => (Sum.inr (.g i) : Tg)) ++ (l.map (fun i => (Sum.inr (.c (sc i)) : Tg)) ++ rest))
        ∗ ((bigSepL l fun i => VS d (.g i)) -∗ (bigSepL l fun i => VR d (.g i)) -∗ (bigSepL l fun i => Sent d (.c (sc i)))
          -∗ (bigSepL l fun i => H xb wb d qR (kCol d (inv i))) -∗ (bigSepL l fun i => H xb wb d qR (cCol d (plc (sc i)))) -∗ Owe d rest -∗ WP d p Q))
      ⊢ WP d (runG1 d l p) Q := by
  unfold runG1
  have h2 := loop_ctx d iprop(Ctx xb wb κ ∗ RT d)
    (fun i => iprop(Sent d (.g i) ∗ In d (.g i) ∗ Any d (.c (sc i)) ∗ Out d (.c (sc i))))
    (fun i => iprop(VS d (.g i) ∗ VR d (.g i) ∗ Sent d (.c (sc i)) ∗ H xb wb d qR (kCol d (inv i)) ∗ H xb wb d qR (cCol d (plc (sc i)))))
    (fun l' => Owe d (l'.map (fun i => (Sum.inr (.c (sc i)) : Tg)) ++ rest)) (stepGC d) Q l (fun i l' k' hs => by
      have hi : i ∈ l := hs.subset List.mem_cons_self
      unfold stepGC bothG
      iintro ⟨⟨#HC, #HT⟩, ⟨Hs, Hi, Hy, Hu⟩, HO, Hk⟩
      iapply (step_done xb wb κ d (.g i) _ (fun t ht => h0 t (mem_rest hs ht)) _ Q)
      isplitr; · iexact HC
      isplitl [Hs]; · iexact Hs
      isplitl [HO]; · iexact HO
      iintro Hvs Hg HO
      iapply (step_recv xb wb κ d (.g i) _ (fun t ht => hw i hi t (mem_rest hs ht)) (hx i hi) _ Q)
      isplitr; · iexact HC
      isplitl [Hi]; · iexact Hi
      isplitl [HO]; · iexact HO
      iintro Hvr Hr HO
      ihave Hr' := (BIBase.Entails.trans (rcvG xb wb d i) (H_split xb wb d _)) $$ Hr
      icases Hr' with ⟨HL, HR⟩
      iapply (step_send xb wb κ d (.c (sc i)) (l'.map (fun i => (Sum.inr (.c (sc i)) : Tg)) ++ rest) k' Q)
      isplitr; · iexact HC
      isplitr; · iexact HT
      isplitl [HL]; · iapply (Entails.of_eq (srcC_H xb wb d (sc i) (sc_lo i)).symm); iexact HL
      isplitl [Hy]; · iexact Hy
      isplitl [Hu]; · iexact Hu
      isplitl [HO]; · iexact HO
      iintro Hs HO
      ispecialize Hk $$ [Hvs Hvr Hs Hg HR]
      · isplitl [Hvs]; · unfold VS; iexact Hvs
        isplitl [Hvr]; · unfold VR; iexact Hvr
        isplitl [Hs]; · iexact Hs
        isplitl [Hg]; · iapply (show Snt xb wb d (.g i) ⊢ (H xb wb d qR (kCol d (inv i)) : sProp 𝕄) from .rfl); iexact Hg
        iexact HR
      iapply Hk; iexact HO) p
  iintro ⟨#HC, Hs, Hy, Hu, Hi, Hyc, Huc, HO, Hk⟩
  iapply (loop_send xb wb κ d Cp.g l _ _ Q)
  isplitr; · iexact HC
  isplitl [Hs Hy Hu]
  · iapply (zip2 l (fun i => Src xb wb d (.g i)) fun i => iprop(Any d (.g i) ∗ Out d (.g i)))
    isplitl [Hs]; · iexact Hs
    iapply (zip2 l (fun i => Any d (.g i)) fun i => Out d (.g i))
    isplitl [Hy] <;> iassumption
  isplitl [HO]; · iexact HO
  iintro Hs HO
  iapply h2
  isplitr; · iexact HC
  isplitl [Hs Hi Hyc Huc]
  · iapply (zip2 l (fun i => Sent d (.g i)) fun i => iprop(In d (.g i) ∗ Any d (.c (sc i)) ∗ Out d (.c (sc i))))
    isplitl [Hs]; · iexact Hs
    iapply (zip2 l (fun i => In d (.g i)) fun i => iprop(Any d (.c (sc i)) ∗ Out d (.c (sc i))))
    isplitl [Hi]; · iexact Hi
    iapply (zip2 l (fun i => Any d (.c (sc i))) fun i => Out d (.c (sc i)))
    isplitl [Hyc] <;> iassumption
  isplitl [HO]; · iexact HO
  iintro Hb HO
  ihave Hb' := (unzip2 l (fun i => VS d (.g i)) _) $$ Hb
  icases Hb' with ⟨H1, Hb⟩
  ihave Hb' := (unzip2 l (fun i => VR d (.g i)) _) $$ Hb
  icases Hb' with ⟨H2, Hb⟩
  ihave Hb' := (unzip2 l (fun i => Sent d (.c (sc i))) _) $$ Hb
  icases Hb' with ⟨H3, Hb⟩
  ihave Hb' := (unzip2 l (fun i => H xb wb d qR (kCol d (inv i))) _) $$ Hb
  icases Hb' with ⟨H4, H5⟩
  ispecialize Hk $$ [H1]; · iexact H1
  ispecialize Hk $$ [H2]; · iexact H2
  ispecialize Hk $$ [H3]; · iexact H3
  ispecialize Hk $$ [H4]; · iexact H4
  ispecialize Hk $$ [H5]; · iexact H5
  iapply Hk; iexact HO

/-! ## The last phase -/

theorem rowC_zp : ∀ (d : Dev nD), ∀ n ∈ l0 ++ l1, rowC (zp d) n = rowC d (nxt n) := by decide +kernel
theorem nxt_ge : ∀ n ∈ l0 ++ l1, ¬ (nxt n).val < 8 := by decide

theorem rcvC (d : Dev nD) (n : Fin 24) (h : n ∈ l0 ++ l1) : Rcv xb wb d (.c n) ⊢ (Src xb wb d (.c (nxt n)) : sProp 𝕄) := by
  show iprop(Ck d (c32 mO (rowC (zp d) n)) fullShare (resV xb wb (rowC (zp d) n)) ∗ emp)
    ⊢ Ck d (c32 mO (rowC d (nxt n))) (if (nxt n).val < 8 then qL else fullShare) (resV xb wb (rowC d (nxt n)))
  rw [rowC_zp d n h, if_neg (nxt_ge n h)]
  iintro ⟨H, -⟩; iexact H

theorem loop_pass (d : Dev nD) (l : List (Fin 24)) (rest : List Tg) (hl : ∀ n ∈ l, n ∈ l0 ++ l1)
    (hw : ∀ n ∈ l, ∀ t ∈ l.map (fun n => (Sum.inr (.c (nxt n)) : Tg)) ++ rest, idx (.c n) < lvl t ∧ lvl t < NL) (hx : ∀ n ∈ l, idx (.c n) < NL)
    (k : Pg F) (Q : PUnit → sProp 𝕄) :
    iprop((Ctx xb wb κ ∗ RT d) ∗ (bigSepL l fun n => iprop(In d (.c n) ∗ Any d (.c (nxt n)) ∗ Out d (.c (nxt n))))
        ∗ Owe d (l.map (fun n => (Sum.inr (.c (nxt n)) : Tg)) ++ rest)
        ∗ ((bigSepL l fun n => iprop(VR d (.c n) ∗ Sent d (.c (nxt n)))) -∗ Owe d rest -∗ WP d k Q))
      ⊢ WP d (loop l (fun n k => recvX d (.c n) <| sendX d (.c (nxt n)) k) k) Q :=
  loop_ctx d iprop(Ctx xb wb κ ∗ RT d)
    (fun n => iprop(In d (.c n) ∗ Any d (.c (nxt n)) ∗ Out d (.c (nxt n))))
    (fun n => iprop(VR d (.c n) ∗ Sent d (.c (nxt n))))
    (fun l' => Owe d (l'.map (fun n => (Sum.inr (.c (nxt n)) : Tg)) ++ rest)) _ Q l (fun n l' k' hs => by
      have hn : n ∈ l := hs.subset List.mem_cons_self
      iintro ⟨⟨#HC, #HT⟩, ⟨Hi, Hy, Ho⟩, HO, Hk⟩
      iapply (step_recv xb wb κ d (.c n) _ (fun t ht => hw n hn t (mem_rest hs ht)) (hx n hn) _ Q)
      isplitr; · iexact HC
      isplitl [Hi]; · iexact Hi
      isplitl [HO]; · iexact HO
      iintro Hv Hr HO
      iapply (step_send xb wb κ d (.c (nxt n)) (l'.map (fun n => (Sum.inr (.c (nxt n)) : Tg)) ++ rest) k' Q)
      isplitr; · iexact HC
      isplitr; · iexact HT
      isplitl [Hr]; · iapply (rcvC xb wb d n (hl n hn)); iexact Hr
      isplitl [Hy]; · iexact Hy
      isplitl [Ho]; · iexact Ho
      isplitl [HO]; · iexact HO
      iintro Hs HO
      ispecialize Hk $$ [Hv Hs]
      · unfold VR; isplitl [Hv] <;> iassumption
      iapply Hk; iexact HO) k

theorem loop_arrive (d : Dev nD) (k : Pg F) (Q : PUnit → sProp 𝕄) :
    iprop(Ctx xb wb κ ∗ (bigSepL l2 fun n => In d (.c n)) ∗ Owe d []
        ∗ ((bigSepL l2 fun n => iprop(VR d (.c n) ∗ Res xb wb d fullShare (rowC (zp d) n))) -∗ Owe d [] -∗ WP d k Q))
      ⊢ WP d (loop l2 (fun n => recvX d (.c n)) k) Q :=
  loop_ctx d (Ctx xb wb κ) (fun n => In d (.c n)) (fun n => iprop(VR d (.c n) ∗ Res xb wb d fullShare (rowC (zp d) n)))
    (fun _ => Owe d []) _ Q l2 (fun n l' k' hs => by
      have hx : idx (.c n) < NL := (by decide : ∀ n ∈ l2, idx (.c n) < NL) n (hs.subset List.mem_cons_self)
      iintro ⟨#HC, Hi, HO, Hk⟩
      iapply (step_recv xb wb κ d (.c n) [] (fun t ht => absurd ht List.not_mem_nil) hx _ Q)
      isplitr; · iexact HC
      isplitl [Hi]; · iexact Hi
      isplitl [HO]; · iexact HO
      iintro Hv Hr HO
      ispecialize Hk $$ [Hv Hr]
      · isplitl [Hv]; · unfold VR; iexact Hv
        iapply (show Rcv xb wb d (.c n) ⊢ (Res xb wb d fullShare (rowC (zp d) n) : sProp 𝕄) from by
          unfold Rcv; iintro ⟨H, -⟩; unfold Res; iexact H)
        iexact Hr
      iapply Hk; iexact HO) k

end Rows

end Cert.AR
-- ==== Proof.Run.lean ====
module

public import proofs.«01_k».proof.Proof.Rows

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section Perms
variable {I J K : Type} [DecidableEq K]

/-- A list that two images make up. -/
theorem perm_two {l : List I} {l' : List J} {f : I → K} {g : J → K} {t : List K} (h : (l.map f ++ l'.map g).Perm t) (hn : t.Nodup) (Φ : K → sProp 𝕄) :
    bigSepL t Φ = iprop((bigSepL l fun i => Φ (f i)) ∗ bigSepL l' fun j => Φ (g j)) := by
  rw [← TalkSites.bigSepL_perm h (h.nodup_iff.mpr hn), bigSepL_append, bigSepL_map, bigSepL_map]
/-- A list that one image makes up. -/
theorem perm_one {l : List I} {f : I → K} {t : List K} (h : (l.map f).Perm t) (hn : t.Nodup) (Φ : K → sProp 𝕄) :
    bigSepL t Φ = bigSepL l fun i => Φ (f i) := by
  rw [← TalkSites.bigSepL_perm h (h.nodup_iff.mpr hn), bigSepL_map]

theorem all_split (Φ : Cp → sProp 𝕄) : bigSepL allCp Φ
    = iprop((bigSepL l24 fun n => Φ (.a n)) ∗ (bigSepL l7 fun i => Φ (.r i)) ∗ (bigSepL l7 fun i => Φ (.g i)) ∗ bigSepL l24 fun n => Φ (.c n)) := by
  rw [bigSepL_append, bigSepL_append, bigSepL_append, bigSepL_map, bigSepL_map, bigSepL_map, bigSepL_map]
theorem split_R (Φ : Fin 7 → sProp 𝕄) : bigSepL l7 Φ = iprop(bigSepL [0, 1, 2, 3] Φ ∗ bigSepL [4, 5] Φ ∗ bigSepL [6] Φ) := by
  rw [← bigSepL_append, ← bigSepL_append]; rfl
theorem split_G (Φ : Fin 7 → sProp 𝕄) : bigSepL l7 Φ = iprop(bigSepL [0] Φ ∗ bigSepL [1, 2] Φ ∗ bigSepL [3, 4, 5, 6] Φ) := by
  rw [← bigSepL_append, ← bigSepL_append]; rfl
theorem split_lo (Φ : Fin 24 → sProp 𝕄) : bigSepL l0 Φ = iprop(Φ 0 ∗ bigSepL l7 fun i => Φ (sc i)) := by
  rw [← bigSepL_map sc l7 Φ, ← bigSepL_cons']; rfl

end Perms

theorem pR0 : ∀ d : Dev nD, ([0, 1, 2, 3].map (sCol d) ++ [0, 1, 2, 3].map (kCol d)).Perm (List.finRange 8) := by decide +kernel
theorem pR1 : ∀ d : Dev nD, ([4, 5].map (sCol d) ++ [4, 5].map (kCol d)).Perm ([0, 1, 2, 3].map (kCol d)) := by decide +kernel
theorem pR2 : ∀ d : Dev nD, ([6].map (sCol d) ++ [6].map (kCol d)).Perm ([4, 5].map (kCol d)) := by decide +kernel
theorem nR1 : ∀ d : Dev nD, ([0, 1, 2, 3].map (kCol d)).Nodup := by decide +kernel
theorem nR2 : ∀ d : Dev nD, ([4, 5].map (kCol d)).Nodup := by decide +kernel
theorem pG1 : ∀ d : Dev nD, ([0].map (fun i => kCol d (inv i)) ++ [0].map (fun i => cCol d (plc (sc i)))).Perm ([1, 2].map fun i => kCol d (inv i)) := by decide +kernel
theorem pG2 : ∀ d : Dev nD, ([1, 2].map (fun i => kCol d (inv i)) ++ [1, 2].map (fun i => cCol d (plc (sc i)))).Perm ([3, 4, 5, 6].map fun i => kCol d (inv i)) := by decide +kernel
theorem pG3 : ∀ d : Dev nD, ([3, 4, 5, 6].map (fun i => kCol d (inv i)) ++ [3, 4, 5, 6].map (fun i => cCol d (plc (sc i)))).Perm (List.finRange 8) := by decide +kernel
theorem nG1 : ∀ d : Dev nD, ([1, 2].map fun i => kCol d (inv i)).Nodup := by decide +kernel
theorem nG2 : ∀ d : Dev nD, ([3, 4, 5, 6].map fun i => kCol d (inv i)).Nodup := by decide +kernel
theorem pC : ∀ d : Dev nD, ((List.finRange 8).map (cCol d)).Perm (List.finRange 8) := by decide +kernel
theorem pInv : (l7.map inv).Perm l7 := by decide +kernel

section Run

variable (xb wb : Dev nD → S1024x1024.Idx → Elt F .bf16) (κ : GSem nD τ sig → ℕ)

/-! ### The halving phase -/

theorem wR0 : ∀ i ∈ ([0, 1, 2, 3] : List (Fin 7)), ∀ t ∈ ([4, 5] : List (Fin 7)).map (fun i => (Sum.inr (.r i) : Tg)) ++ (([6] : List (Fin 7)).map (fun i => (Sum.inr (.r i) : Tg)) ++ tgG),
    idx (.r i) < lvl t ∧ lvl t < NL := by decide +kernel
theorem wR1 : ∀ i ∈ ([4, 5] : List (Fin 7)), ∀ t ∈ ([6] : List (Fin 7)).map (fun i => (Sum.inr (.r i) : Tg)) ++ tgG, idx (.r i) < lvl t ∧ lvl t < NL := by decide +kernel
theorem wR2 : ∀ i ∈ ([6] : List (Fin 7)), ∀ t ∈ tgG, idx (.r i) < lvl t ∧ lvl t < NL := by decide +kernel
theorem pos_R {l : List Tg} (h : ∀ t ∈ l, t ∈ tgR) : ∀ t ∈ l, 0 < lvl t ∧ lvl t < NL := fun t ht => wR t (h t ht)

theorem run_halving (d : Dev nD) (p : Pg F) (Q : PUnit → sProp 𝕄) :
    iprop((Ctx xb wb κ ∗ RT d) ∗ (bigSepL (List.finRange 8) fun c => O xb wb 0 d c)
        ∗ (bigSepL l7 fun i => Any d (.r i)) ∗ (bigSepL l7 fun i => Out d (.r i)) ∗ (bigSepL l7 fun i => In d (.r i)) ∗ Owe d tgR
        ∗ ((bigSepL l7 fun i => VS d (.r i)) -∗ (bigSepL l7 fun i => VR d (.r i)) -∗ (bigSepL l7 fun i => chAny d (c7 i).view) -∗ (bigSepL l7 fun i => AG d i)
          -∗ O xb wb 3 d (kCol d 6) -∗ Owe d tgG -∗ WP d p Q))
      ⊢ WP d (runR1 d [0, 1, 2, 3] <| runR1 d [4, 5] <| runR1 d [6] p) Q := by
  rw [split_R, split_R, split_R, split_R, split_R, split_R, split_R, perm_two (pR0 d) (List.nodup_finRange 8)]
  iintro ⟨#HC, ⟨Hs, Hk0⟩, ⟨Hy0, Hy1, Hy2⟩, ⟨Hu0, Hu1, Hu2⟩, ⟨Hi0, Hi1, Hi2⟩, HO, Hk⟩
  iapply (run_halve xb wb κ d [0, 1, 2, 3] 0 (([4, 5] : List (Fin 7)).map (fun i => (Sum.inr (.r i) : Tg)) ++ (([6] : List (Fin 7)).map (fun i => (Sum.inr (.r i) : Tg)) ++ tgG))
    (by decide) (by decide +kernel) wR0 (by decide) _ Q)
  isplitr; · iexact HC
  isplitl [Hs]; · iexact Hs
  isplitl [Hk0]; · iexact Hk0
  isplitl [Hy0]; · iexact Hy0
  isplitl [Hu0]; · iexact Hu0
  isplitl [Hi0]; · iexact Hi0
  isplitl [HO]; · iexact HO
  iintro Hvs0 Hvr0 Hb0 Hg0 Ho HO
  ihave Ho' := (Entails.of_eq ((bigSepL_map (kCol d) [0, 1, 2, 3] (O xb wb 1 d)).symm.trans (perm_two (pR1 d) (nR1 d) _))) $$ Ho
  icases Ho' with ⟨Hs, Hk0⟩
  iapply (run_halve xb wb κ d [4, 5] 1 (([6] : List (Fin 7)).map (fun i => (Sum.inr (.r i) : Tg)) ++ tgG)
    (by decide) (by decide +kernel) wR1 (by decide) _ Q)
  isplitr; · iexact HC
  isplitl [Hs]; · iexact Hs
  isplitl [Hk0]; · iexact Hk0
  isplitl [Hy1]; · iexact Hy1
  isplitl [Hu1]; · iexact Hu1
  isplitl [Hi1]; · iexact Hi1
  isplitl [HO]; · iexact HO
  iintro Hvs1 Hvr1 Hb1 Hg1 Ho HO
  ihave Ho' := (Entails.of_eq ((bigSepL_map (kCol d) [4, 5] (O xb wb 2 d)).symm.trans (perm_two (pR2 d) (nR2 d) _))) $$ Ho
  icases Ho' with ⟨Hs, Hk0⟩
  iapply (run_halve xb wb κ d [6] 2 tgG (by decide) (by decide +kernel) wR2 (by decide) _ Q)
  isplitr; · iexact HC
  isplitl [Hs]; · iexact Hs
  isplitl [Hk0]; · iexact Hk0
  isplitl [Hy2]; · iexact Hy2
  isplitl [Hu2]; · iexact Hu2
  isplitl [Hi2]; · iexact Hi2
  isplitl [HO]; · iexact HO
  iintro Hvs2 Hvr2 Hb2 Hg2 Ho HO
  ispecialize Hk $$ [Hvs0 Hvs1 Hvs2]
  · isplitl [Hvs0]; · iexact Hvs0
    isplitl [Hvs1] <;> iassumption
  ispecialize Hk $$ [Hvr0 Hvr1 Hvr2]
  · isplitl [Hvr0]; · iexact Hvr0
    isplitl [Hvr1] <;> iassumption
  ispecialize Hk $$ [Hb0 Hb1 Hb2]
  · isplitl [Hb0]; · iexact Hb0
    isplitl [Hb1] <;> iassumption
  ispecialize Hk $$ [Hg0 Hg1 Hg2]
  · isplitl [Hg0]; · iexact Hg0
    isplitl [Hg1] <;> iassumption
  ispecialize Hk $$ [Ho]
  · iapply (show (bigSepL [6] fun i => O xb wb (2 + 1) d (kCol d i)) ⊢ (O xb wb 3 d (kCol d 6) : sProp 𝕄) from .rfl); iexact Ho
  iapply Hk; iexact HO

/-! ### The doubling phase -/

/-- The payments of the doubling phase, by loop; -/
abbrev tgG3 : List Tg := ([3, 4, 5, 6] : List (Fin 7)).map (fun i => (Sum.inr (.g i) : Tg)) ++ (([3, 4, 5, 6] : List (Fin 7)).map (fun i => (Sum.inr (.c (sc i)) : Tg)) ++ tgC)
@[inherit_doc tgG3] abbrev tgG2 : List Tg := ([1, 2] : List (Fin 7)).map (fun i => (Sum.inr (.g i) : Tg)) ++ (([1, 2] : List (Fin 7)).map (fun i => (Sum.inr (.c (sc i)) : Tg)) ++ tgG3)
@[inherit_doc tgG3] abbrev tgG1 : List Tg := ([0] : List (Fin 7)).map (fun i => (Sum.inr (.g i) : Tg)) ++ (([0] : List (Fin 7)).map (fun i => (Sum.inr (.c (sc i)) : Tg)) ++ tgG2)
theorem tgG_eq : tgG = .inr (.c 0) :: tgG1 := rfl

theorem run_doubling (d : Dev nD) (p : Pg F) (Q : PUnit → sProp 𝕄) :
    iprop((Ctx xb wb κ ∗ RT d) ∗ O xb wb 3 d (kCol d 6)
        ∗ (bigSepL l7 fun i => Any d (.g i)) ∗ (bigSepL l7 fun i => Out d (.g i)) ∗ (bigSepL l7 fun i => In d (.g i))
        ∗ (bigSepL l0 fun n => Any d (.c n)) ∗ (bigSepL l0 fun n => Out d (.c n)) ∗ Owe d tgG
        ∗ ((bigSepL l7 fun i => VS d (.g i)) -∗ (bigSepL l7 fun i => VR d (.g i)) -∗ (bigSepL l0 fun n => Sent d (.c n))
          -∗ (bigSepL (List.finRange 8) fun c => H xb wb d qR c) -∗ Owe d tgC -∗ WP d p Q))
      ⊢ WP d (runG d p) Q := by
  rw [runG_eq, tgG_eq, split_lo, split_lo, split_lo, O_Res]
  rw [split_G, split_G, split_G, split_G, split_G, split_G, split_G, split_G]
  iintro ⟨#HC, Ho, ⟨Hy0, Hy1, Hy2⟩, ⟨Hu0, Hu1, Hu2⟩, ⟨Hi0, Hi1, Hi2⟩, ⟨Hyc, Hyc0, Hyc1, Hyc2⟩, ⟨Huc, Huc0, Huc1, Huc2⟩, HO, Hk⟩
  ihave Ho' := (H_split xb wb d _) $$ Ho
  icases Ho' with ⟨HL, HR⟩
  icases HC with ⟨#HC, #HT⟩
  iapply (step_send xb wb κ d (.c 0) tgG1 _ Q)
  isplitr; · iexact HC
  isplitr; · iexact HT
  isplitl [HL]; · iapply (Entails.of_eq (srcC_H xb wb d 0 (by decide)).symm); iexact HL
  isplitl [Hyc]; · iexact Hyc
  isplitl [Huc]; · iexact Huc
  isplitl [HO]; · iexact HO
  iintro Hs HO
  iapply (run_double xb wb κ d [0] tgG2 (by decide +kernel) (by decide +kernel) (by decide) _ Q)
  isplitr; · isplit <;> iassumption
  isplitl [HR]
  · iapply (show (H xb wb d qR (kCol d 6) : sProp 𝕄) ⊢ (bigSepL [0] fun i => H xb wb d qR (kCol d (inv i))) from .rfl); iexact HR
  isplitl [Hy0]; · iexact Hy0
  isplitl [Hu0]; · iexact Hu0
  isplitl [Hi0]; · iexact Hi0
  isplitl [Hyc0]; · iexact Hyc0
  isplitl [Huc0]; · iexact Huc0
  isplitl [HO]; · iexact HO
  iintro Hvs0 Hvr0 Hs0 HR HR' HO
  iapply (run_double xb wb κ d [1, 2] tgG3 (by decide +kernel) (by decide +kernel) (by decide) _ Q)
  isplitr; · isplit <;> iassumption
  isplitl [HR HR']
  · iapply (Entails.of_eq ((bigSepL_map (fun i => kCol d (inv i)) [1, 2] (H xb wb d qR)).symm.trans (perm_two (pG1 d) (nG1 d) _)).symm)
    isplitl [HR]; · iexact HR
    iexact HR'
  isplitl [Hy1]; · iexact Hy1
  isplitl [Hu1]; · iexact Hu1
  isplitl [Hi1]; · iexact Hi1
  isplitl [Hyc1]; · iexact Hyc1
  isplitl [Huc1]; · iexact Huc1
  isplitl [HO]; · iexact HO
  iintro Hvs1 Hvr1 Hs1 HR HR' HO
  iapply (run_double xb wb κ d [3, 4, 5, 6] tgC (by decide +kernel) (by decide +kernel) (by decide) _ Q)
  isplitr; · isplit <;> iassumption
  isplitl [HR HR']
  · iapply (Entails.of_eq ((bigSepL_map (fun i => kCol d (inv i)) [3, 4, 5, 6] (H xb wb d qR)).symm.trans (perm_two (pG2 d) (nG2 d) _)).symm)
    isplitl [HR]; · iexact HR
    iexact HR'
  isplitl [Hy2]; · iexact Hy2
  isplitl [Hu2]; · iexact Hu2
  isplitl [Hi2]; · iexact Hi2
  isplitl [Hyc2]; · iexact Hyc2
  isplitl [Huc2]; · iexact Huc2
  isplitl [HO]; · iexact HO
  iintro Hvs2 Hvr2 Hs2 HR HR' HO
  ispecialize Hk $$ [Hvs0 Hvs1 Hvs2]
  · isplitl [Hvs0]; · iexact Hvs0
    isplitl [Hvs1] <;> iassumption
  ispecialize Hk $$ [Hvr0 Hvr1 Hvr2]
  · isplitl [Hvr0]; · iexact Hvr0
    isplitl [Hvr1] <;> iassumption
  ispecialize Hk $$ [Hs Hs0 Hs1 Hs2]
  · isplitl [Hs]; · iexact Hs
    isplitl [Hs0]; · iexact Hs0
    isplitl [Hs1] <;> iassumption
  ispecialize Hk $$ [HR HR']
  · iapply (Entails.of_eq (perm_two (pG3 d) (List.nodup_finRange 8) (H xb wb d qR)).symm)
    isplitl [HR]; · iexact HR
    iexact HR'
  iapply Hk; iexact HO

/-! ### The last phase -/

theorem pFin : ∀ d : Dev nD, ((List.finRange 8).map (row (own d)) ++ (l1.map (rowC d) ++ (l2.map (rowC d) ++ l2.map (rowC (zp d))))).Perm (List.finRange 32) := by decide +kernel

theorem all_rows (d : Dev nD) (Φ : Fin 32 → sProp 𝕄) : bigSepL (List.finRange 32) Φ
    = iprop((bigSepL (List.finRange 8) fun c => Φ (row (own d) c)) ∗ (bigSepL l1 fun n => Φ (rowC d n)) ∗ (bigSepL l2 fun n => Φ (rowC d n)) ∗ (bigSepL l2 fun n => Φ (rowC (zp d) n))) := by
  rw [← TalkSites.bigSepL_perm (pFin d) ((pFin d).nodup_iff.mpr (List.nodup_finRange 32)), bigSepL_append, bigSepL_append, bigSepL_append, bigSepL_map, bigSepL_map, bigSepL_map, bigSepL_map]

theorem snt_full (d : Dev nD) (n : Fin 24) (h : ¬ n.val < 8) : Snt xb wb d (.c n) ⊢ (Res xb wb d fullShare (rowC d n) : sProp 𝕄) := by
  show Ck d (c32 mO (rowC d n)) (if n.val < 8 then qL else fullShare) (resV xb wb (rowC d n)) ⊢ _
  rw [if_neg h]; exact .rfl

theorem run_last (d : Dev nD) (p : Pg F) (Q : PUnit → sProp 𝕄) :
    iprop((Ctx xb wb κ ∗ RT d) ∗ (bigSepL l0 fun n => Sent d (.c n)) ∗ (bigSepL (List.finRange 8) fun c => H xb wb d qR c)
        ∗ (bigSepL l1 fun n => Any d (.c n)) ∗ (bigSepL l2 fun n => Any d (.c n)) ∗ (bigSepL l1 fun n => Out d (.c n)) ∗ (bigSepL l2 fun n => Out d (.c n))
        ∗ (bigSepL l24 fun n => In d (.c n)) ∗ Owe d tgC
        ∗ ((bigSepL l24 fun n => VS d (.c n)) -∗ (bigSepL l24 fun n => VR d (.c n)) -∗ (bigSepL (List.finRange 32) fun i => Res xb wb d fullShare i) -∗ Owe d [] -∗ WP d p Q))
      ⊢ WP d (runC d p) Q := by
  rw [show runC d p = (loop l0 (fun n k => recvX d (.c n) <| sendX d (.c (nxt n)) k) <| loop l1 (fun n k => recvX d (.c n) <| sendX d (.c (nxt n)) k) <|
    loop l2 (fun n => recvX d (.c n)) <| loop l24 (fun n => doneX d (.c n)) p) from rfl]
  rw [all_rows d, split24 fun n => In d (.c n), split24 fun n => VR d (.c n)]
  iintro ⟨#HC, Hs0, HR, Hy1, Hy2, Hu1, Hu2, ⟨Hi0, Hi1, Hi2⟩, HO, Hk⟩
  ihave Hy1' := (Entails.of_eq (next0 _)) $$ Hy1
  ihave Hu1' := (Entails.of_eq (next0 _)) $$ Hu1
  ihave Hy2' := (Entails.of_eq (next1 _)) $$ Hy2
  ihave Hu2' := (Entails.of_eq (next1 _)) $$ Hu2
  iapply (loop_pass xb wb κ d l0 (l1.map (fun n => (Sum.inr (.c (nxt n)) : Tg)) ++ []) (by decide) (by decide +kernel) (by decide) _ Q)
  isplitr; · iexact HC
  isplitl [Hi0 Hy1' Hu1']
  · iapply (zip2 l0 (fun n => In d (.c n)) fun n => iprop(Any d (.c (nxt n)) ∗ Out d (.c (nxt n))))
    isplitl [Hi0]; · iexact Hi0
    iapply (zip2 l0 (fun n => Any d (.c (nxt n))) fun n => Out d (.c (nxt n)))
    isplitl [Hy1'] <;> iassumption
  isplitl [HO]; · iexact HO
  iintro Hb HO
  ihave Hb' := (unzip2 l0 (fun n => VR d (.c n)) _) $$ Hb
  icases Hb' with ⟨Hv0, Hs1⟩
  iapply (loop_pass xb wb κ d l1 [] (by decide) (by decide +kernel) (by decide) _ Q)
  isplitr; · iexact HC
  isplitl [Hi1 Hy2' Hu2']
  · iapply (zip2 l1 (fun n => In d (.c n)) fun n => iprop(Any d (.c (nxt n)) ∗ Out d (.c (nxt n))))
    isplitl [Hi1]; · iexact Hi1
    iapply (zip2 l1 (fun n => Any d (.c (nxt n))) fun n => Out d (.c (nxt n)))
    isplitl [Hy2'] <;> iassumption
  isplitl [HO]; · iexact HO
  iintro Hb HO
  ihave Hb' := (unzip2 l1 (fun n => VR d (.c n)) _) $$ Hb
  icases Hb' with ⟨Hv1, Hs2⟩
  icases HC with ⟨#HC, #HT⟩
  iapply (loop_arrive xb wb κ d _ Q)
  isplitr; · iexact HC
  isplitl [Hi2]; · iexact Hi2
  isplitl [HO]; · iexact HO
  iintro Hb HO
  ihave Hb' := (unzip2 l2 (fun n => VR d (.c n)) _) $$ Hb
  icases Hb' with ⟨Hv2, Hr3⟩
  iapply (loop_done xb wb κ d Cp.c l24 [] (fun t ht => absurd ht List.not_mem_nil) _ Q)
  isplitr; · iexact HC
  isplitl [Hs0 Hs1 Hs2]
  · iapply (Entails.of_eq (split24 fun n => Sent d (.c n)).symm)
    isplitl [Hs0]; · iexact Hs0
    isplitl [Hs1]; · iapply (Entails.of_eq (next0 fun n => Sent d (.c n)).symm); iexact Hs1
    iapply (Entails.of_eq (next1 fun n => Sent d (.c n)).symm); iexact Hs2
  isplitl [HO]; · iexact HO
  iintro Hb HO
  ihave Hb' := (unzip2 l24 (fun n => VS d (.c n)) _) $$ Hb
  icases Hb' with ⟨Hvs, Hb⟩
  ihave Hb' := (Entails.of_eq (split24 _)) $$ Hb
  icases Hb' with ⟨Hb0, Hb1, Hb2⟩
  ihave HL := (bigSepL_mono fun n hn => show Snt xb wb d (.c n) ⊢ (H xb wb d qL (cCol d (plc n)) : sProp 𝕄) from
    Entails.of_eq (srcC_H xb wb d n hn)) $$ Hb0
  ihave HL' := (Entails.of_eq ((fin8_0 fun c => H xb wb d qL (cCol d c)).symm.trans (perm_one (pC d) (List.nodup_finRange 8) (H xb wb d qL)).symm)) $$ HL
  ihave Hown := (BIBase.Entails.trans (zip2 (List.finRange 8) (H xb wb d qL) (H xb wb d qR)) (bigSepL_mono fun c _ => H_join xb wb d c)) $$ [HL' HR]
  · isplitl [HL'] <;> iassumption
  ispecialize Hk $$ [Hvs]; · iexact Hvs
  ispecialize Hk $$ [Hv0 Hv1 Hv2]
  · isplitl [Hv0]; · iexact Hv0
    isplitl [Hv1] <;> iassumption
  ispecialize Hk $$ [Hown Hb1 Hb2 Hr3]
  · isplitl [Hown]; · iexact Hown
    isplitl [Hb1]
    · iapply (bigSepL_mono fun n hn => snt_full xb wb d n ((by decide : ∀ n ∈ l1, ¬ n.val < 8) n hn)); iexact Hb1
    isplitl [Hb2]
    · iapply (bigSepL_mono fun n hn => snt_full xb wb d n ((by decide : ∀ n ∈ l2, ¬ n.val < 8) n hn)); iexact Hb2
    iexact Hr3
  iapply Hk; iexact HO

end Run

end Cert.AR
-- ==== Proof.Body.lean ====
module

public import proofs.«01_k».proof.Proof.Run

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Whole buffers and their chunks -/

section Whole

theorem slice_congr {n k o o' : ℕ} (A : View sig .tc .vmem (Sn n) .bf16) (e : o = o') (h h') : A.slice (Rw n k o h) = A.slice (Rw n k o' h') := by
  subst e; rfl

variable {d : Dev nD} {n : ℕ} (A : View sig .tc .vmem (Sn n) .bf16)

theorem inAll : ∀ a, (![0, 0, 0] : Fin 3 → ℕ) a + (Sn n).size a ≤ (Sn n).size a := by
  intro a; fin_cases a <;> exact (Nat.zero_add _).le

theorem whole_slice (q) (v : (Sn n).Idx → Elt F .bf16) : (ch d A q v : sProp 𝕄) ⊢ ch d (A.slice (Rw n n 0 inAll)) q v := by
  unfold ch
  rw [set_all]
  iintro ⟨%f, %hf, H⟩
  iexists f; isplitr
  · ipureintro; subst hf; funext j
    show _root_.cast _ (f (A.emb ((Rw n n 0 inAll).emb j))) = _root_.cast _ (f (A.emb j))
    rw [show (Rw n n 0 inAll).emb j = j from funext fun a => Fin.ext (by rw [Rect.emb_apply]; fin_cases a <;> simp)]
  iexact H
theorem slice_whole (q) (v : (Sn n).Idx → Elt F .bf16) : (ch d (A.slice (Rw n n 0 inAll)) q v : sProp 𝕄) ⊢ ch d A q v := by
  unfold ch
  rw [set_all]
  iintro ⟨%f, %hf, H⟩
  iexists f; isplitr
  · ipureintro; subst hf; funext j
    show _root_.cast _ (f (A.emb j)) = _root_.cast _ (f (A.emb ((Rw n n 0 inAll).emb j)))
    rw [show (Rw n n 0 inAll).emb j = j from funext fun a => Fin.ext (by rw [Rect.emb_apply]; fin_cases a <;> simp)]
  iexact H

theorem whole_any : (chAny d A : sProp 𝕄) ⊢ bigSepL (List.finRange n) fun c => chAny d (A.slice (Rw n 1 (0 + c.val) (inRw inAll c))) := by
  iintro H
  ihave H' := (chAny_ex _) $$ H
  icases H' with ⟨%v, H⟩
  ihave H' := (whole_slice A fullShare v) $$ H
  iapply ((ch_any _ _).trans (chAny_rows A inAll)); iexact H'
theorem any_whole : (bigSepL (List.finRange n) fun c => chAny d (A.slice (Rw n 1 (0 + c.val) (inRw inAll c))) : sProp 𝕄) ⊢ chAny d A := by
  iintro H
  ihave H' := (BIBase.Entails.trans (chAny_unrows A inAll) (chAny_ex _)) $$ H
  icases H' with ⟨%v, H⟩
  ihave H' := (slice_whole A fullShare v) $$ H
  iapply (ch_any A v); iexact H'

end Whole

theorem cut32 (d : Dev nD) (m) : (chAny d (Memref.view m) : sProp 𝕄) ⊢ bigSepL (List.finRange 32) fun i => chAny d (c32 m i).view :=
  (whole_any m.view).trans (bigSepL_mono fun i _ => by
    rw [slice_congr m.view (Nat.zero_add i.val) _ (inb32 i)]; exact sq_chAny d (a32 m i) _)
theorem glue32 (d : Dev nD) (m) : (bigSepL (List.finRange 32) fun i => chAny d (c32 m i).view : sProp 𝕄) ⊢ chAny d (Memref.view m) :=
  BIBase.Entails.trans (bigSepL_mono fun i _ => by
    rw [slice_congr m.view (Nat.zero_add i.val) _ (inb32 i)]; exact chAny_sq d (a32 m i) _) (any_whole m.view)
theorem cut24 (d : Dev nD) (m) : (chAny d (Memref.view m) : sProp 𝕄) ⊢ bigSepL l24 fun i => chAny d (c24 m i).view :=
  (whole_any m.view).trans (by
    rw [show List.finRange 24 = l24 by decide +kernel]
    exact bigSepL_mono fun i _ => by rw [slice_congr m.view (Nat.zero_add i.val) _ (inb24 i)]; exact sq_chAny d (a24 m i) _)
theorem glue24 (d : Dev nD) (m) : (bigSepL l24 fun i => chAny d (c24 m i).view : sProp 𝕄) ⊢ chAny d (Memref.view m) :=
  BIBase.Entails.trans (by
    rw [show l24 = List.finRange 24 by decide +kernel]
    exact bigSepL_mono fun i _ => by rw [slice_congr m.view (Nat.zero_add i.val) _ (inb24 i)]; exact chAny_sq d (a24 m i) _) (any_whole m.view)
theorem cut7 (d : Dev nD) : (chAny d mB.view : sProp 𝕄) ⊢ bigSepL l7 fun i => chAny d (c7 i).view :=
  (whole_any mB.view).trans (by
    rw [show List.finRange 7 = l7 by decide +kernel]
    exact bigSepL_mono fun i _ => by rw [slice_congr mB.view (Nat.zero_add i.val) _ (inb7 i)]; exact sq_chAny d (a7 i) _)
theorem glue7 (d : Dev nD) : (bigSepL l7 fun i => chAny d (c7 i).view : sProp 𝕄) ⊢ chAny d mB.view :=
  BIBase.Entails.trans (by
    rw [show l7 = List.finRange 7 by decide +kernel]
    exact bigSepL_mono fun i _ => by rw [slice_congr mB.view (Nat.zero_add i.val) _ (inb7 i)]; exact chAny_sq d (a7 i) _) (any_whole mB.view)

/-- Every chunk of the result at its value is the result at its value. -/
theorem join32 (d : Dev nD) (vs : Fin 32 → V F) : (bigSepL (List.finRange 32) fun i => Ck d (c32 mO i) fullShare (vs i) : sProp 𝕄) ⊢ ch d mO.view fullShare (stack vs) :=
  BIBase.Entails.trans (bigSepL_mono fun i _ => by
    rw [slice_congr mO.view (Nat.zero_add i.val) (inRw inAll i) (inb32 i)]; exact Ck32' d mO i fullShare (vs i))
    (BIBase.Entails.trans (ch_unrows mO.view inAll fullShare vs) (slice_whole mO.view fullShare _))

theorem val_l2 : ∀ n ∈ l2, 16 + (plc n).val = n.val := by decide

/-- The last eight running sums, as one view. -/
theorem join_gA (d : Dev nD) (vs : Fin 8 → V F) : (bigSepL l2 fun n => Ck d (c24 mA n) fullShare (vs (plc n)) : sProp 𝕄) ⊢ ch d gA fullShare (stack vs) := by
  refine BIBase.Entails.trans ?_ (ch_unrows mA.view inb_S24x32x1024_S8x32x1024_16_0_0 fullShare vs)
  rw [fin8_2]
  exact bigSepL_mono fun n hn => by
    rw [slice_congr mA.view (val_l2 n hn) _ (inb24 n)]; exact Ck24' d mA n fullShare _
theorem cut_gA (d : Dev nD) : (chAny d gA : sProp 𝕄) ⊢ bigSepL l2 fun n => chAny d (c24 mA n).view := by
  refine BIBase.Entails.trans (chAny_rows mA.view inb_S24x32x1024_S8x32x1024_16_0_0) ?_
  rw [fin8_2]
  exact bigSepL_mono fun n hn => by
    rw [slice_congr mA.view (val_l2 n hn) _ (inb24 n)]; exact sq_chAny d (a24 mA n) _

/-! ## The barrier's exchange of places -/

section Barrier

theorem any_a (d : Dev nD) (n : Fin 24) : (Any (tgtB d 1) (.a n) : sProp 𝕄) = chAny d (c24 mC n).view := by
  show chAny (zn (zp d)) (c24 mC n).view = _; rw [zn_zp]
theorem any_c (d : Dev nD) (n : Fin 24) : (Any (tgtB d 1) (.c n) : sProp 𝕄) = chAny d (c32 mO (rowC (zp d) n)).view := by
  show chAny (zn (zp d)) (c32 mO (rowC (zp d) n)).view = _; rw [zn_zp]
theorem any_r2 : ∀ (d : Dev nD), ∀ i ∈ ([0, 1, 2, 3] : List (Fin 7)), pr (tgtB d 2) i = d := by decide
theorem any_r3 : ∀ (d : Dev nD), ∀ i ∈ ([4, 5] : List (Fin 7)), pr (tgtB d 3) i = d := by decide
theorem any_r4 : ∀ (d : Dev nD), ∀ i ∈ ([6] : List (Fin 7)), pr (tgtB d 4) i = d := by decide

theorem give_r (d : Dev nD) (j : Fin 5) (l : List (Fin 7)) (h : ∀ i ∈ l, pr (tgtB d j) i = d) :
    (bigSepL l fun i => chAny d (c7 i).view : sProp 𝕄) ⊢ bigSepL (l.map Cp.r) (Any (tgtB d j)) := by
  rw [bigSepL_map]
  exact bigSepL_mono fun i hi => by
    show _ ⊢ chAny (pr (tgtB d j) i) (c7 i).view; rw [h i hi]

/-- What a device gives away at the barrier. -/
theorem give (d : Dev nD) :
    iprop((bigSepL l24 fun n => chAny d (c24 mC n).view) ∗ (bigSepL l24 fun n => chAny d (c32 mO (rowC (zp d) n)).view) ∗ (bigSepL l7 fun i => chAny d (c7 i).view))
      ⊢ (bigSepL [0, 1, 2, 3, 4] fun i => bigSepL (gl i) (Any (tgtB d i)) : sProp 𝕄) := by
  have h1 : iprop((bigSepL l24 fun n => chAny d (c24 mC n).view) ∗ (bigSepL l24 fun n => chAny d (c32 mO (rowC (zp d) n)).view)) ⊢ (bigSepL (gl 1) (Any (tgtB d 1)) : sProp 𝕄) := by
    show _ ⊢ bigSepL (l24.map Cp.a ++ l24.map Cp.c) _
    rw [bigSepL_append, bigSepL_map, bigSepL_map]
    simp only [any_a, any_c]; exact .rfl
  rw [split_R]
  show _ ⊢ iprop(bigSepL (gl 0) (Any (tgtB d 0)) ∗ bigSepL (gl 1) (Any (tgtB d 1)) ∗ bigSepL (gl 2) (Any (tgtB d 2)) ∗ bigSepL (gl 3) (Any (tgtB d 3)) ∗ bigSepL (gl 4) (Any (tgtB d 4)))
  iintro ⟨H1, H2, H3, H4, H5⟩
  isplitr
  · iapply (show iprop(emp) ⊢ (bigSepL (gl 0) (Any (tgtB d 0)) : sProp 𝕄) from .rfl); iempintro
  isplitl [H1 H2]
  · iapply h1; isplitl [H1] <;> iassumption
  isplitl [H3]; · iapply (give_r d 2 [0, 1, 2, 3] (any_r2 d)); iexact H3
  isplitl [H4]; · iapply (give_r d 3 [4, 5] (any_r3 d)); iexact H4
  iapply (give_r d 4 [6] (any_r4 d)); iexact H5

theorem RT_of (d : Dev nD) : iprop(RA (srcB d 1) ∗ RA (srcB d 2) ∗ RA (srcB d 3) ∗ RA (srcB d 4)) ⊢ (RT d : sProp 𝕄) := by
  have hp : ∀ (e : Dev nD) (x : Cp), RA e ⊢ (reached ER (recvCell e x) 0 : sProp 𝕄) := fun e x => bigSepL_pick (mem_allCp x) _
  have hi : ∀ i : Fin 7, iprop(RA (srcB d 1) ∗ RA (srcB d 2) ∗ RA (srcB d 3) ∗ RA (srcB d 4)) ⊢ (RA (pr d i) : sProp 𝕄) := fun i => by
    rcases (by decide : ∀ i : Fin 7, bit i = bit 0 ∨ bit i = bit 4 ∨ bit i = bit 6) i with h | h | h
    · rw [show pr d i = srcB d 2 from Fin.ext (show (d.val ^^^ bit i) % 32 = (d.val ^^^ bit 0) % 32 by rw [h])]; iintro ⟨-, H, -, -⟩; iexact H
    · rw [show pr d i = srcB d 3 from Fin.ext (show (d.val ^^^ bit i) % 32 = (d.val ^^^ bit 4) % 32 by rw [h])]; iintro ⟨-, -, H, -⟩; iexact H
    · rw [show pr d i = srcB d 4 from Fin.ext (show (d.val ^^^ bit i) % 32 = (d.val ^^^ bit 6) % 32 by rw [h])]; iintro ⟨-, -, -, H⟩; iexact H
  have hz : iprop(RA (srcB d 1) ∗ RA (srcB d 2) ∗ RA (srcB d 3) ∗ RA (srcB d 4)) ⊢ (RA (zn d) : sProp 𝕄) := by iintro ⟨H, -, -, -⟩; iexact H
  refine all_of allCp _ _ fun x _ => ?_
  refine BIBase.Entails.trans ?_ (hp (tgt d x) x)
  cases x with
  | a n => exact hz
  | r i => exact hi i
  | g i => exact hi (inv i)
  | c n => exact hz

/-- What a device has after the barrier. -/
theorem take (d : Dev nD) : bigSepL [0, 1, 2, 3, 4] (barPay d)
    ⊢ (iprop((bigSepL l24 fun n => Any d (.a n)) ∗ (bigSepL l24 fun n => Any d (.c n)) ∗ (bigSepL l7 fun i => Any d (.r i)) ∗ RT d) : sProp 𝕄) := by
  rw [split_R]
  have h1 : bigSepL (gl 1) (Any d) ⊢ (iprop((bigSepL l24 fun n => Any d (.a n)) ∗ (bigSepL l24 fun n => Any d (.c n))) : sProp 𝕄) := by
    show bigSepL (l24.map Cp.a ++ l24.map Cp.c) _ ⊢ _
    rw [bigSepL_append, bigSepL_map, bigSepL_map]
  have hr : ∀ l : List (Fin 7), bigSepL (l.map Cp.r) (Any d) ⊢ (bigSepL l fun i => Any d (.r i) : sProp 𝕄) := fun l => by rw [bigSepL_map]
  show iprop(barPay d 0 ∗ barPay d 1 ∗ barPay d 2 ∗ barPay d 3 ∗ barPay d 4) ⊢ _
  unfold barPay
  iintro ⟨-, ⟨H1, R1⟩, ⟨H2, R2⟩, ⟨H3, R3⟩, H4, R4⟩
  ihave H1' := h1 $$ H1
  icases H1' with ⟨Ha, Hc⟩
  isplitl [Ha]; · iexact Ha
  isplitl [Hc]; · iexact Hc
  isplitl [H2 H3 H4]
  · isplitl [H2]; · iapply (hr [0, 1, 2, 3]); iexact H2
    isplitl [H3]; · iapply (hr [4, 5]); iexact H3
    iapply (hr [6]); iexact H4
  iapply (RT_of d)
  isplitl [R1]; · iexact R1
  isplitl [R2]; · iexact R2
  isplitl [R3] <;> iassumption

end Barrier

section Body

variable (xb wb : Dev nD → S1024x1024.Idx → Elt F .bf16) (κ : GSem nD τ sig → ℕ)

/-- What the body needs of the exchange. -/
def Kit (d : Dev nD) : sProp 𝕄 :=
  iprop((bigSepL [0, 1, 2, 3, 4] fun i => dutyTok ER (barCell (tgtB d i)) 0 i) ∗ RA d ∗ atPos ER (barCell d) 0 ∅ 0 ∗ cred (tallyAt (barCell d) 1 5)
    ∗ bigSepL allCp (Out d) ∗ bigSepL allCp (In d))
/-- The scratch buffers, at any value. -/
def Scr (d : Dev nD) : sProp 𝕄 := iprop(chAny d mP.view ∗ chAny d mC.view ∗ chAny d mA.view ∗ chAny d mB.view)
/-- Every counter back at zero. -/
def Zero (d : Dev nD) : sProp 𝕄 := iprop(semVal (barCell d) 0 ∗ bigSepL allCp (VS d) ∗ bigSepL allCp (VR d))

theorem pOut : ∀ d : Dev nD, ((List.finRange 8).map (row (own d)) ++ l24.map (rowC (zp d))).Perm (List.finRange 32) := by decide +kernel

theorem wBar : ∀ t ∈ tgA, 1 < lvl t ∧ lvl t < NL := by decide +kernel

theorem loop_sig (d : Dev nD) (k : Pg F) (Q : PUnit → sProp 𝕄) :
    iprop(Ctx xb wb κ ∗ RA d ∗ (bigSepL [0, 1, 2, 3, 4] fun i => dutyTok ER (barCell (tgtB d i)) 0 i) ∗ (bigSepL [0, 1, 2, 3, 4] fun i => bigSepL (gl i) (Any (tgtB d i)))
        ∗ Owe d tgs ∗ (Owe d tgA -∗ WP d k Q)) ⊢ WP d (loop [0, 1, 2, 3, 4] (sigX d) k) Q := by
  have h := loop_ctx d iprop(Ctx xb wb κ ∗ RA d) (fun i => iprop(dutyTok ER (barCell (tgtB d i)) 0 i ∗ bigSepL (gl i) (Any (tgtB d i)))) (fun _ => iprop(emp))
    (fun l' => Owe d (l'.map (fun i => (Sum.inl i : Tg)) ++ tgA)) (sigX d) Q [0, 1, 2, 3, 4] (fun i l' k' _ => by
      iintro ⟨⟨#HC, #HR⟩, ⟨Ht, Hg⟩, HO, Hk⟩
      iapply (step_signal xb wb κ d i (l'.map (fun i => (Sum.inl i : Tg)) ++ tgA) k' Q)
      isplitr; · iexact HC
      isplitl [Ht]; · iexact Ht
      isplitl [Hg]; · iexact Hg
      isplitr; · iexact HR
      isplitl [HO]; · iexact HO
      iapply Hk; iempintro) k
  iintro ⟨#HC, #HR, Ht, Hg, HO, Hk⟩
  iapply h
  isplitr; · isplit <;> iassumption
  isplitl [Ht Hg]
  · iapply (zip2 [0, 1, 2, 3, 4] (fun i => dutyTok ER (barCell (tgtB d i)) 0 i) fun i => bigSepL (gl i) (Any (tgtB d i)))
    isplitl [Ht] <;> iassumption
  isplitl [HO]; · iexact HO
  iintro - HO
  iapply Hk; iexact HO

/-- The body on device `d`. -/
theorem run_body (d : Dev nD) (Q : PUnit → sProp 𝕄) :
    iprop(Ctx xb wb κ ∗ ch d mX.view fullShare (xb d) ∗ ch d mW.view fullShare (wb d) ∗ chAny d mO.view ∗ Scr d ∗ Kit d ∗ Owe d tgs
        ∗ (ch d mX.view fullShare (xb d) -∗ ch d mW.view fullShare (wb d) -∗ ch d mO.view fullShare (stack (resV xb wb)) -∗ Scr d -∗ Zero d -∗ Owe d [] -∗ Q ⟨⟩))
      ⊢ WP d (bodyOn d) Q := by
  rw [bodyOn_eq]
  unfold runX Scr Kit Zero
  rw [all_split (Out d), all_split (In d), all_split (VS d), all_split (VR d)]
  iintro ⟨#HC, Hx, Hw, Ho, ⟨HP, HCC, HA, HB⟩, ⟨Ht, #HR, Hat, Hcr, ⟨Hua, Hur, Hug, Huc⟩, ⟨Hia, Hir, Hig, Hic⟩⟩, HO, Hk⟩
  ihave HP' := (BIBase.Entails.trans (cut32 d mP) (Entails.of_eq (all_P d))) $$ HP
  icases HP' with ⟨HP0, HP1, HP2, HP3⟩
  have hg0 : bigSepL l0 (PAny d (grp0 d)) ⊢ (chAny d (g32 mP (grp0 d)) : sProp 𝕄) := BIBase.Entails.trans (Entails.of_eq (fin8_0 fun c => (chAny d (c32 mP (row (grp0 d) c)).view : sProp 𝕄)).symm) (any_group d mP _)
  have hg1 : bigSepL l0 (PAny d (grpA d 0)) ⊢ (chAny d (g32 mP (grpA d 0)) : sProp 𝕄) := BIBase.Entails.trans (Entails.of_eq (fin8_0 fun c => (chAny d (c32 mP (row (grpA d 0) c)).view : sProp 𝕄)).symm) (any_group d mP _)
  have hg2 : bigSepL l1 (PAny d (grpA d 1)) ⊢ (chAny d (g32 mP (grpA d 1)) : sProp 𝕄) := BIBase.Entails.trans (Entails.of_eq (fin8_1 fun c => (chAny d (c32 mP (row (grpA d 1) c)).view : sProp 𝕄)).symm) (any_group d mP _)
  have hg3 : bigSepL l2 (PAny d (grpA d 2)) ⊢ (chAny d (g32 mP (grpA d 2)) : sProp 𝕄) := BIBase.Entails.trans (Entails.of_eq (fin8_2 fun c => (chAny d (c32 mP (row (grpA d 2) c)).view : sProp 𝕄)).symm) (any_group d mP _)
  -- the first product
  iapply (step_mul d (grp0 d) (xb d) (wb d) _ Q)
  isplitl [Hx]; · iexact Hx
  isplitl [Hw]; · iexact Hw
  isplitl [HP0]; · iapply hg0; iexact HP0
  iintro Hx Hw HP0
  -- the barrier
  ihave HCC' := (cut24 d mC) $$ HCC
  ihave HA' := (cut24 d mA) $$ HA
  ihave HB' := (cut7 d) $$ HB
  ihave Ho' := (BIBase.Entails.trans (cut32 d mO) (Entails.of_eq (perm_two (pOut d) (List.nodup_finRange 32) _))) $$ Ho
  icases Ho' with ⟨Hown, Hrest⟩
  iapply (loop_sig xb wb κ d _ Q)
  isplitr; · iexact HC
  isplitr; · iexact HR
  isplitl [Ht]; · iexact Ht
  isplitl [HCC' HB' Hrest]
  · iapply (give d)
    isplitl [HCC']; · iexact HCC'
    isplitl [Hrest] <;> iassumption
  isplitl [HO]; · iexact HO
  iintro HO
  iapply (step_bar xb wb κ d tgA wBar _ Q)
  isplitr; · iexact HC
  isplitl [Hat]; · iexact Hat
  isplitl [Hcr]; · iexact Hcr
  isplitl [HO]; · iexact HO
  iintro Hvb Hpay HO
  ihave Hpay' := (take d) $$ Hpay
  icases Hpay' with ⟨Hya, Hyc, Hyr, #HT⟩
  -- the column
  iapply (run_column xb wb κ d _ Q)
  isplitr; · isplit <;> iassumption
  isplitl [Hx]; · iexact Hx
  isplitl [Hw]; · iexact Hw
  isplitl [HP0]; · iexact HP0
  isplitl [HP1]; · iapply hg1; iexact HP1
  isplitl [HP2]; · iapply hg2; iexact HP2
  isplitl [HP3]; · iapply hg3; iexact HP3
  isplitl [Hya]; · iexact Hya
  isplitl [Hua]; · iexact Hua
  isplitl [Hia]; · iexact Hia
  isplitl [HA']; · iexact HA'
  isplitl [HO]; · iexact HO
  iintro Hx Hw HP HCC HA Hlast Hvsa Hvra HO
  -- the column sums
  ihave HgA := (join_gA d fun c => aS xb wb 3 d c) $$ Hlast
  iapply (step_carry d (own d) (stack fun c => aS xb wb 3 d c) _ Q)
  isplitl [HgA]; · iexact HgA
  isplitl [Hown]; · iapply (any_group d mO (own d)); iexact Hown
  iintro HgA Hown
  ihave HA2 := (BIBase.Entails.trans (ch_any _ _) (cut_gA d)) $$ HgA
  ihave Hown' := (BIBase.Entails.trans (group_chunks d mO (own d) (stack fun c => aS xb wb 3 d c)) (bigSepL_mono fun c _ =>
    show Ck d (c32 mO (row (own d) c)) fullShare (pick (stack fun c => aS xb wb 3 d c) c) ⊢ (O xb wb 0 d c : sProp 𝕄) from by rw [pick_stack]; exact .rfl)) $$ Hown
  -- halving
  iapply (run_halving xb wb κ d _ Q)
  isplitr; · isplit <;> iassumption
  isplitl [Hown']; · iexact Hown'
  isplitl [Hyr]; · iexact Hyr
  isplitl [Hur]; · iexact Hur
  isplitl [Hir]; · iexact Hir
  isplitl [HO]; · iexact HO
  iintro Hvsr Hvrr HB HG Hc HO
  ihave HG' := (Entails.of_eq (perm_one pInv (by decide) (AG d))) $$ HG
  -- doubling
  ihave Hyc' := (Entails.of_eq (split24 fun n => Any d (.c n))) $$ Hyc
  icases Hyc' with ⟨Hyc0, Hyc1, Hyc2⟩
  ihave Huc' := (Entails.of_eq (split24 fun n => Out d (.c n))) $$ Huc
  icases Huc' with ⟨Huc0, Huc1, Huc2⟩
  iapply (run_doubling xb wb κ d _ Q)
  isplitr; · isplit <;> iassumption
  isplitl [Hc]; · iexact Hc
  isplitl [HG']
  · iapply (bigSepL_mono fun i _ => show AG d (inv i) ⊢ (Any d (.g i) : sProp 𝕄) from .rfl); iexact HG'
  isplitl [Hug]; · iexact Hug
  isplitl [Hig]; · iexact Hig
  isplitl [Hyc0]; · iexact Hyc0
  isplitl [Huc0]; · iexact Huc0
  isplitl [HO]; · iexact HO
  iintro Hvsg Hvrg Hsc HRR HO
  -- the last phase
  iapply (run_last xb wb κ d _ Q)
  isplitr; · isplit <;> iassumption
  isplitl [Hsc]; · iexact Hsc
  isplitl [HRR]; · iexact HRR
  isplitl [Hyc1]; · iexact Hyc1
  isplitl [Hyc2]; · iexact Hyc2
  isplitl [Huc1]; · iexact Huc1
  isplitl [Huc2]; · iexact Huc2
  isplitl [Hic]; · iexact Hic
  isplitl [HO]; · iexact HO
  iintro Hvsc Hvrc Hres HO
  iapply (show iprop(|={Set.univ}=> Q ⟨⟩) ⊢ WP d (.ret ⟨⟩) Q from by unfold WP; rw [wp_ret])
  imodintro
  ispecialize Hk $$ [Hx]; · iexact Hx
  ispecialize Hk $$ [Hw]; · iexact Hw
  ispecialize Hk $$ [Hres]; · iapply (join32 d (resV xb wb)); iexact Hres
  ispecialize Hk $$ [HP HCC HA HA2 HB]
  · isplitl [HP]; · iapply (glue32 d mP); iexact HP
    isplitl [HCC]; · iapply (glue24 d mC); iexact HCC
    isplitl [HA HA2]
    · iapply (glue24 d mA)
      iapply (Entails.of_eq ((bigSepL_append (l0 ++ l1) l2 fun n => (chAny d (c24 mA n).view : sProp 𝕄)).symm))
      isplitl [HA] <;> iassumption
    iapply (glue7 d); iexact HB
  ispecialize Hk $$ [Hvb Hvsa Hvsr Hvsg Hvsc Hvra Hvrr Hvrg Hvrc]
  · isplitl [Hvb]; · iexact Hvb
    isplitl [Hvsa Hvsr Hvsg Hvsc]
    · isplitl [Hvsa]; · iexact Hvsa
      isplitl [Hvsr]; · iexact Hvsr
      isplitl [Hvsg] <;> iassumption
    · isplitl [Hvra]; · iexact Hvra
      isplitl [Hvrr]; · iexact Hvrr
      isplitl [Hvrg] <;> iassumption
  iapply Hk; iexact HO

end Body

end Cert.AR
-- ==== Proof.Region.lean ====
module

public import proofs.«01_k».proof.Proof.Body
public import proofs.«01_k».proof.Proof.Gen.KernelIdeal.Regions
public import Idealize.ShloMosaic.Lib.Pipeline.RegionTalk
public import Idealize.ShloMosaic.Lib.Pipeline.Value

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.TalkSites (Pay tallyL tallyL_pos)
open Cert.KernelIdeal Cert.KernelIdeal.Gen

variable {F : FTy → Type} [FloatOps F]

local notation "𝕄" => MT nD τ sig ℕ (Elt F) ℕ UU ℕ

/-! ## The semaphores of the copies' ends -/

theorem univ_Cp (Φ : Cp → sProp 𝕄) : bigSep Finset.univ Φ = bigSepL allCp Φ :=
  bigSep_univ_eq_bigSepL allCp (Finset.ext fun x => ⟨fun _ => List.mem_toFinset.mpr (mem_allCp x), fun _ => Finset.mem_univ x⟩) allCp_nodup Φ

/-- The kernel's own semaphores. -/
abbrev osem (p : Bool × Cp) : SemLoc sig := .dma (sem p)

theorem bool_pair (Φ : Bool → sProp 𝕄) : bigSep Finset.univ Φ = iprop(Φ false ∗ Φ true) := by
  rw [show (Finset.univ : Finset Bool) = {false, true} from by decide, bigSep_insert (by decide), bigSep_singleton]
  rfl

theorem ends (Φ : Bool × Cp → sProp 𝕄) : bigSep Finset.univ Φ = iprop((bigSepL allCp fun x => Φ (false, x)) ∗ bigSepL allCp fun x => Φ (true, x)) := by
  rw [bigSep_univ_prod, bool_pair, univ_Cp, univ_Cp]

theorem ownSems_eq (d : Dev nD) : (Pipeline.ownSems0 osem d : sProp 𝕄) = iprop(bigSepL allCp (VS d) ∗ bigSepL allCp (VR d)) :=
  ends fun p => semVal ((d : Thread nD τ), osem p) 0

theorem osem_facts : Pipeline.OwnSemFacts spec0 osem where
  isScoped := by decide +kernel
  inj p q h := sem_inj (SemLoc.dma.inj h)
  disj := by decide +kernel

theorem fupd_list {I : Type} (P : sProp 𝕄) [BI.Persistent P] (Φ Ψ : I → sProp 𝕄) (l : List I) (h : ∀ i ∈ l, iprop(P ∗ Φ i) ⊢ (|={Set.univ}=> Ψ i : sProp 𝕄)) :
    iprop(P ∗ bigSepL l Φ) ⊢ (|={Set.univ}=> bigSepL l Ψ : sProp 𝕄) := by
  induction l with
  | nil => show iprop(P ∗ emp) ⊢ (|={Set.univ}=> iprop(emp) : sProp 𝕄); iintro -; imodintro; iempintro
  | cons i l ih =>
    rw [bigSepL_cons', bigSepL_cons']
    have hi := h i List.mem_cons_self
    have ih' := ih fun j hj => h j (List.mem_cons_of_mem _ hj)
    iintro ⟨#HP, Hi, Hl⟩
    imod hi $$ [Hi] with Hi
    · isplitr <;> iassumption
    imod ih' $$ [Hl] with Hl
    · isplitr <;> iassumption
    imodintro
    isplitl [Hi] <;> iassumption

/-! ## The region's data -/

section Region

variable (W : Dev nD → Valuation τ sig (Elt F))

/-- The left operand's blocks as the call finds them. -/
def xbW (d : Dev nD) : S1024x1024.Idx → Elt F .bf16 := W d (Proc.devRef .tc (Pipeline.arrRef spec0 0))
/-- The right operand's. -/
def wbW (d : Dev nD) : S1024x1024.Idx → Elt F .bf16 := W d (Proc.devRef .tc (Pipeline.arrRef spec0 1))
/-- The result of the call. -/
def outW : S32x32x1024.Idx → Elt F .bf16 := stack (resV (xbW W) (wbW W))
/-- The buffers after the call. -/
def afterW (d : Dev nD) : Valuation τ sig (Elt F) := Function.update (W d) (Proc.devRef .tc (Pipeline.arrRef spec0 2)) (outW W)

/-- What a device holds of the exchange when its semaphores are not open yet. -/
def Shut (d : Dev nD) : sProp 𝕄 :=
  iprop(atPos ER (barCell d) 0 ∅ 0 ∗ (bigSepL allCp fun x => openTok ER (sendCell d x)) ∗ (bigSepL allCp fun x => openTok ER (recvCell d x))
    ∗ (bigSepL [0, 1, 2, 3, 4] fun i => dutyTok ER (barCell (tgtB d i)) 0 i)
    ∗ (bigSepL allCp fun x => dutyTok ER (sendCell d x) 0 0) ∗ (bigSepL allCp fun x => dutyTok ER (recvCell (tgt d x) x) 0 0)
    ∗ cred (tallyAt (barCell d) 1 5) ∗ bigSepL allCp fun x => cred (tallyAt (recvCell d x) (idx x) N))

/-- Before the region. -/
def Tk (d : Dev nD) : sProp 𝕄 := iprop(∃ κ, Ctx (xbW W) (wbW W) κ ∗ Shut d)
/-- With the semaphores open. -/
def Xk (d : Dev nD) : sProp 𝕄 := iprop(∃ κ, Ctx (xbW W) (wbW W) κ ∗ Kit d)
/-- After it. -/
def Yk (d : Dev nD) : sProp 𝕄 := semVal (barCell d) 0

theorem open_cells (κ : GSem nD τ sig → ℕ) (d : Dev nD) :
    iprop(Ctx (xbW W) (wbW W) κ ∗ Shut d ∗ bigSepL allCp (VS d) ∗ bigSepL allCp (VR d)) ⊢ (|={Set.univ}=> Kit d : sProp 𝕄) := by
  have hs := fupd_list (Ctx (xbW W) (wbW W) κ) (fun x => iprop(openTok ER (sendCell d x) ∗ VS d x)) (fun x => iprop(atPos ER (sendCell d x) 0 ∅ 0 ∗ reached ER (sendCell d x) 0)) allCp
    (fun x _ => by
      iintro ⟨#HC, Ho, Hv⟩
      iapply (Rounds.cell_open ER (Rd (xbW W) (wbW W)) (g := sendCell d x) (Set.mem_univ (κ (sendCell d x))))
      isplitr; · iapply (Ctx_inv (xbW W) (wbW W) κ (send_mem d x)); iexact HC
      isplitl [Ho]; · iexact Ho
      iapply (show VS d x ⊢ semVal (sendCell d x) 0 from .rfl); iexact Hv)
  have hr := fupd_list (Ctx (xbW W) (wbW W) κ) (fun x => iprop(openTok ER (recvCell d x) ∗ VR d x)) (fun x => iprop(atPos ER (recvCell d x) 0 ∅ 0 ∗ reached ER (recvCell d x) 0)) allCp
    (fun x _ => by
      iintro ⟨#HC, Ho, Hv⟩
      iapply (Rounds.cell_open ER (Rd (xbW W) (wbW W)) (g := recvCell d x) (Set.mem_univ (κ (recvCell d x))))
      isplitr; · iapply (Ctx_inv (xbW W) (wbW W) κ (recv_mem d x)); iexact HC
      isplitl [Ho]; · iexact Ho
      iapply (show VR d x ⊢ semVal (recvCell d x) 0 from .rfl); iexact Hv)
  unfold Shut Kit
  iintro ⟨#HC, ⟨Hb, Hos, Hor, Htb, Hts, Htr, Hcb, Hcr⟩, Hvs, Hvr⟩
  imod hs $$ [Hos Hvs] with Hs
  · isplitr; · iexact HC
    iapply (zip2 allCp (fun x => openTok ER (sendCell d x)) (VS d)); isplitl [Hos] <;> iassumption
  imod hr $$ [Hor Hvr] with Hr
  · isplitr; · iexact HC
    iapply (zip2 allCp (fun x => openTok ER (recvCell d x)) (VR d)); isplitl [Hor] <;> iassumption
  ihave Hs' := (unzip2 allCp (fun x => atPos ER (sendCell d x) 0 ∅ 0) (fun x => reached ER (sendCell d x) 0)) $$ Hs
  ihave Hr' := (unzip2 allCp (fun x => atPos ER (recvCell d x) 0 ∅ 0) (fun x => reached ER (recvCell d x) 0)) $$ Hr
  icases Hs' with ⟨Hs1, Hs2⟩
  icases Hr' with ⟨Hr1, Hr2⟩
  imodintro
  isplitl [Htb]; · iexact Htb
  isplitl [Hr2]; · unfold RA; iexact Hr2
  isplitl [Hb]; · iexact Hb
  isplitl [Hcb]; · iexact Hcb
  isplitl [Hts Htr Hs1 Hs2]
  · unfold Out
    iapply (zip2 allCp (fun x => dutyTok ER (sendCell d x) 0 0) _)
    isplitl [Hts]; · iexact Hts
    iapply (zip2 allCp (fun x => dutyTok ER (recvCell (tgt d x) x) 0 0) _)
    isplitl [Htr]; · iexact Htr
    iapply (zip2 allCp (fun x => atPos ER (sendCell d x) 0 ∅ 0) _)
    isplitl [Hs1] <;> iassumption
  unfold In
  iapply (zip2 allCp (fun x => atPos ER (recvCell d x) 0 ∅ 0) _)
  isplitl [Hr1] <;> iassumption

/-- The proof data of the call. -/
def dat (d : Dev nD) : Dat τ (Elt F) ℕ ℕ UU ℕ cfg0 d where
  A w := W d (Proc.devRef .tc (Pipeline.arrRef spec0 w))
  after w _ := match w with
    | 0 => xbW W d
    | 1 => wbW W d
    | 2 => outW W
  Φ t := if t.val = 0 then iprop(Xk W d ∗ Scr d ∗ ∃ r, prngReg d r) else iprop(Yk d ∗ (bigSepL allCp (VS d) ∗ bigSepL allCp (VR d)) ∗ Scr d ∗ ∃ r, prngReg d r)
  q _ := fullShare
  owed t := if t.val = 0 then owed d tgs else 0

abbrev adm : (p : Fin 1) → (pcfgs (F := F) p).Adm := fun p => (cfgs p).toPCfg_adm
abbrev pdats : (p : Fin 1) → (d : Dev nD) → Dat τ (Elt F) ℕ ℕ UU ℕ (Pipeline.pin (pcfgs (F := F)) adm p) d
  | 0 => dat W

theorem owed_zero (d : Dev nD) : (dat (F := F) W d).owed 0 = owed d tgs := by
  show (if ((0 : Fin (cfg0.N + 1)).val = 0) then owed d tgs else 0) = _; exact if_pos rfl
theorem owed_first (d : Dev nD) : (dat (F := F) W d).owed t0_0.castSucc = owed d tgs := by
  show (if (t0_0.castSucc : Fin (cfg0.N + 1)).val = 0 then owed d tgs else 0) = _; exact if_pos rfl
theorem owed_last (d : Dev nD) : (dat (F := F) W d).owed (Fin.last _) = 0 := by
  show (if (Fin.last cfg0.N).val = 0 then owed d tgs else 0) = 0
  rw [Fin.val_last, if_neg (by rw [show cfg0.N = 1 from N_0]; decide)]

/-! The windows take whole arrays. -/

theorem fetched0 (d : Dev nD) (x) : (dat W d).before 0 t0_0 x = xbW W d := by
  rw [(dat W d).before_fetched 0 t0_0 (fetch0_0 t0_0) x]
  funext j
  show xbW W d (((cfg0.win 0).rect t0_0).emb j) = xbW W d j
  exact congrArg _ (funext fun a => Fin.ext (by rw [Rect.emb_apply]; simp [Pipeline.Window.rect]; exact Or.inl rfl))
theorem fetched1 (d : Dev nD) (x) : (dat W d).before 1 t0_0 x = wbW W d := by
  rw [(dat W d).before_fetched 1 t0_0 (fetch0_1 t0_0) x]
  funext j
  show wbW W d (((cfg0.win 1).rect t0_0).emb j) = wbW W d j
  exact congrArg _ (funext fun a => Fin.ext (by rw [Rect.emb_apply]; simp [Pipeline.Window.rect]; exact Or.inl rfl))
theorem out_cover (d : Dev nD) : (dat W d).arrAt 2 cfg0.N = outW W := by
  refine (dat W d).arrAt_eq_of_cover 2 (outW W) (fun t _ => ?_) fun i => ⟨t0_0, flush0_2 t0_0, ?_⟩
  · obtain rfl := fin_N0 t
    funext j
    show outW W j = outW W ((cfg0.win 2).rect t0_0 |>.emb j)
    exact congrArg _ (funext fun a => Fin.ext (by rw [Rect.emb_apply]; simp [Pipeline.Window.rect]; exact Or.inl rfl))
  · rw [show i = ((cfg0.win 2).blk t0_0).view.emb i from (funext fun a => Fin.ext (by
      show _ = (((cfg0.win 2).rect t0_0).emb i a).val; rw [Rect.emb_apply]; simp [Pipeline.Window.rect]; exact Or.inl rfl))]
    exact View.emb_mem_set _ _

theorem arr_in (d : Dev nD) (w : Fin 3) : (dat W d).arrAt w 0 = W d (Proc.devRef .tc (Pipeline.arrRef spec0 w)) := rfl
theorem arr_out (d : Dev nD) (w : Fin 3) : (dat W d).arrAt w cfg0.N = afterW W d (Proc.devRef .tc (Pipeline.arrRef spec0 w)) := by
  unfold afterW
  fin_cases w
  · rw [Function.update_of_ne (by decide)]; exact (dat W d).arrAt_in 0 rfl _
  · rw [Function.update_of_ne (by decide)]; exact (dat W d).arrAt_in 1 rfl _
  · rw [Function.update_self]; exact out_cover W d

theorem owesAt_intro (d : Dev nD) (t : Fin (cfg0.N + 1)) (l) (h0 : (dat W d).owed t = owed d l) :
    Owe d l ⊢ ((dat W d).owesAt 0 t : sProp 𝕄) := by
  unfold Owe Dat.owesAt Pipeline.owesWithin Dat.bound; rw [h0]
  iintro ⟨%V, HO⟩; iexists V; isplitr; · ipureintro; exact fun _ _ => Or.inl trivial
  iexact HO
theorem owesAt_elim (d : Dev nD) (t : Fin (cfg0.N + 1)) (l) (h0 : (dat W d).owed t = owed d l) :
    ((dat W d).owesAt 0 t : sProp 𝕄) ⊢ Owe d l := by
  unfold Owe Dat.owesAt Pipeline.owesWithin; rw [h0]
  iintro ⟨%V, -, HO⟩; iexists V; iexact HO

theorem owns_ch (d : Dev nD) {s : Shape} (A : Memref sig .tc .vmem s .bf16) (v : s.Idx → Elt F .bf16) : (owns (d : Thread nD τ) A fullShare v : sProp 𝕄) = ch d A.view fullShare v := rfl

theorem owns_any (d : Dev nD) (x) : (owns (d : Thread nD τ) mO fullShare x : sProp 𝕄) ⊢ chAny d mO.view := by
  unfold owns chAny
  iintro ⟨%f, -, H⟩; iexists f; iexact H

set_option maxRecDepth 20000 in
theorem body_ok (d : Dev nD) : BodyObligation (dat (F := F) W d) defs₀ 𝒱₀ 0 Set.univ := fun t => by
  obtain rfl := fin_N0 t
  rw [bigSep_W0, bigSep_W0]
  show iprop((Xk W d ∗ Scr d ∗ ∃ r, prngReg d r) ∗ (dat W d).owesAt 0 t0_0.castSucc ∗ (∃ x, owns (d : Thread nD τ) mX fullShare ((dat W d).before 0 t0_0 x))
      ∗ (∃ x, owns (d : Thread nD τ) mW fullShare ((dat W d).before 1 t0_0 x)) ∗ ∃ x, owns (d : Thread nD τ) mO fullShare ((dat W d).before 2 t0_0 x))
    ⊢ wp (frame) (wpE (defs₀ (F := F)) 𝒱₀ (d : Thread nD τ) none) Set.univ (defs₀ (F := F) .tc cfg0.body (cfg0.bodyArgs t0_0 (cfg0.slots t0_0)))
      fun _ => iprop((Yk d ∗ (bigSepL allCp (VS d) ∗ bigSepL allCp (VR d)) ∗ Scr d ∗ ∃ r, prngReg d r) ∗ (dat W d).owesAt 0 t0_0.succ
        ∗ owns (d : Thread nD τ) mX fullShare (xbW W d) ∗ owns (d : Thread nD τ) mW fullShare (wbW W d) ∗ owns (d : Thread nD τ) mO fullShare (outW W))
  have hb : (defs₀ (F := F) .tc cfg0.body (cfg0.bodyArgs t0_0 (cfg0.slots t0_0))) = body :=
    body_eq _ _ _ _ _ _ _
  rw [hb]
  have hrun : ∀ Q, WP d (bodyOn d) Q ⊢ wp (frame) (wpE (defs₀ (F := F)) 𝒱₀ (d : Thread nD τ) none) Set.univ body Q := fun Q => by
    unfold body WP; rw [wp_deviceId]
  unfold Xk
  iintro ⟨⟨⟨%κ, #HC, HK⟩, HS, Hp⟩, HO, ⟨%x0, H0⟩, ⟨%x1, H1⟩, ⟨%x2, H2⟩⟩
  ihave HO' := (owesAt_elim W d t0_0.castSucc tgs (owed_first W d)) $$ HO
  iapply (hrun _)
  iapply (run_body (xbW W) (wbW W) κ d _)
  isplitr; · iexact HC
  isplitl [H0]; · iapply (show owns (d : Thread nD τ) mX fullShare ((dat W d).before 0 t0_0 x0) ⊢ ch d mX.view fullShare (xbW W d) from by rw [fetched0]; exact .rfl); iexact H0
  isplitl [H1]; · iapply (show owns (d : Thread nD τ) mW fullShare ((dat W d).before 1 t0_0 x1) ⊢ ch d mW.view fullShare (wbW W d) from by rw [fetched1]; exact .rfl); iexact H1
  isplitl [H2]; · iapply (owns_any d _); iexact H2
  isplitl [HS]; · iexact HS
  isplitl [HK]; · iexact HK
  isplitl [HO']; · iexact HO'
  iintro H0
  iintro H1
  iintro H2
  iintro HS
  iintro HZ
  iintro HO
  unfold Zero Yk
  icases HZ with ⟨HZb, HZs, HZr⟩
  isplitl [HZb HZs HZr HS Hp]
  · isplitl [HZb]; · iexact HZb
    isplitl [HZs HZr]; · isplitl [HZs] <;> iassumption
    isplitl [HS]; · iexact HS
    iexact Hp
  isplitl [HO]; · iapply (owesAt_intro W d t0_0.succ [] (owed_last W d)); iexact HO
  isplitl [H0]; · iapply (show ch d mX.view fullShare (xbW W d) ⊢ owns (d : Thread nD τ) mX fullShare (xbW W d) from .rfl); iexact H0
  isplitl [H1]; · iapply (show ch d mW.view fullShare (wbW W d) ⊢ owns (d : Thread nD τ) mW fullShare (wbW W d) from .rfl); iexact H1
  iapply (show ch d mO.view fullShare (outW W) ⊢ owns (d : Thread nD τ) mO fullShare (outW W) from .rfl); iexact H2

/-! ## The region -/

theorem scratch_eq (d : Dev nD) : (Pipeline.scopedRest (Ix := ℕ) (Name := ℕ) (U := UU) (Lvl := ℕ) (Val := Elt F) spec0 d : sProp 𝕄) = Scr d := by
  rw [scopedRest0_eq]
  unfold Scr chAny
  simp only [Memref.view_whole, View.set_whole]

theorem hopen (d : Dev nD) : iprop(Tk W d ∗ Pipeline.ownSems0 osem d ∗ levAts (SiteBlocks.L NL) SiteBlocks.lv) ⊢ (|={Set.univ}=> Xk W d : sProp 𝕄) := by
  rw [ownSems_eq]
  unfold Tk Xk
  iintro ⟨⟨%κ, #HC, HS⟩, ⟨Hs, Hr⟩, -⟩
  imod (open_cells W κ d) $$ [HS Hs Hr] with HK
  · isplitr; · iexact HC
    isplitl [HS]; · iexact HS
    isplitl [Hs] <;> iassumption
  imodintro
  iexists κ
  isplitr <;> iassumption

theorem hin (d : Dev nD) : iprop(Pipeline.scopedRest (Pipeline.pin (pcfgs (F := F)) adm 0).spec d ∗ (∃ r, prngReg d r) ∗ StableHlo.held (d.tc : Thread nD τ) ∅ (W d) ∗ Xk W d)
    ⊢ (pdats W 0 d).Φ 0 := by
  rw [show (pdats W 0 d).Φ 0 = iprop(Xk W d ∗ Scr d ∗ ∃ r, prngReg d r) from rfl, ← scratch_eq]
  iintro ⟨Hs, Hp, -, HX⟩
  isplitl [HX]; · iexact HX
  isplitl [Hs]; · iexact Hs
  iexact Hp

theorem hout (d : Dev nD) : (pdats W 0 d).Φ (Fin.last (Pipeline.pin (pcfgs (F := F)) adm 0).N)
    ⊢ iprop(Pipeline.scopedRest (Pipeline.pin (pcfgs (F := F)) adm 0).spec d ∗ (∃ r, prngReg d r) ∗ StableHlo.held (d.tc : Thread nD τ) ∅ (afterW W d) ∗ Pipeline.ownSems0 osem d ∗ Yk d) := by
  rw [show (pdats W 0 d).Φ (Fin.last _) = iprop(Yk d ∗ (bigSepL allCp (VS d) ∗ bigSepL allCp (VR d)) ∗ Scr d ∗ ∃ r, prngReg d r) from rfl, ← scratch_eq, ownSems_eq]
  unfold StableHlo.held
  rw [BI.bigSep_empty]
  iintro ⟨HY, HV, Hs, Hp⟩
  isplitl [Hs]; · iexact Hs
  isplitl [Hp]; · iexact Hp
  isplitr; · iempintro
  isplitl [HV]; · iexact HV
  iexact HY

theorem lvl_pos : ∀ t ∈ tgs, 0 < lvl t := by decide +kernel

theorem cut (d : Dev nD) (t : Fin ((Pipeline.pin (pcfgs (F := F)) adm 0).N + 1)) (g : GSem nD τ sig) (i : ℕ) (h : 0 < (pdats W 0 d).owed t g i) :
    i ∈ SiteBlocks.L NL g ∧ (0 : ℕ) < SiteBlocks.lv g i := by
  have e : (pdats W 0 d).owed t = if t.val = 0 then owed d tgs else 0 := rfl
  rw [e] at h
  split at h
  · obtain ⟨x, hx, rfl, rfl⟩ := tallyL_pos h
    obtain ⟨t, ht, rfl⟩ := List.mem_map.mp hx
    rw [due_lvl]
    exact ⟨SiteBlocks.mem_L' (due_tc d t) (lvl_lt t ht), lvl_pos t ht⟩
  · exact absurd h (Nat.lt_irrefl 0)

variable (Sr : Finset (DevRef τ sig))

set_option backward.isDefEq.respectTransparency.types false in
/-- The call, with its windows' arrays and the buffers `Sr` beside. -/
def reg (hr : ∀ b ∈ Sr, b ≠ Proc.devRef .tc (Pipeline.arrRef spec0 2)) : Pipeline.RegionSeg (pcfgs (F := F)) adm (pdats W) 0 defs₀ 𝒱₀ (SiteBlocks.L NL) SiteBlocks.lv 0 :=
  Pipeline.RegionSeg.ofTalk (pcfgs (F := F)) adm (pdats W) 0 defs₀ 𝒱₀ (SiteBlocks.L NL) SiteBlocks.lv 0 osem osem_facts
    ∅ Sr (Finset.empty_subset _) launch0.toP rfl (fun d => (body_ok W d).loose)
    (fun _ => 0) (fun d => owed d tgs) (fun d => (owed_zero W d).trans (zero_add _).symm) (owed_last W) (fun _ => rfl) (fun d => (dat W d).share_full fun _ => rfl)
    W (afterW W) (fun d b hb => Function.update_of_ne (hr b (Finset.mem_sdiff.mp hb).1) _ _)
    (Tk W) Yk (Xk W) Yk (hopen W) (hin W) (hout W)
    (fun d => by iintro H; imodintro; iexact H)
    (fun _ => 0)
    ⟨fun d w s => SiteBlocks.mem_L d _ (by decide), fun _ _ _ => le_rfl, fun d t g i h => cut W d t g i h⟩
    (fun _ => iprop(emp))
    (arr_in W) (arr_out W)

end Region

end Cert.AR
-- ==== Proof.Grant.lean ====
module

public import proofs.«01_k».proof.Proof.Region

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_pos tallyL_append cred_tallyL)
open Cert.KernelIdeal Cert.KernelIdeal.Gen

variable {F : FTy → Type} [FloatOps F]

local notation "𝕄" => MT nD τ sig ℕ (Elt F) ℕ UU ℕ

/-! ## The credits at the start -/

/-- A payment a device receives. -/
def duty (d : Dev nD) : Tg → Pay nD τ sig
  | .inl _ => (barCell d, 1, 1) | .inr x => (recvCell d x, idx x, N)

/-- Each device makes a payment to another, so each device receives one. -/
theorem sum_due (t : Tg) : (∑ d : Dev nD, (due d t).tally) = ∑ d : Dev nD, (duty d t).tally := by
  cases t with
  | inl i => exact Equiv.sum_comp (tgtBE i) fun d => (duty d (.inl i)).tally
  | inr x => exact Equiv.sum_comp (tgtE x) fun d => (duty d (.inr x)).tally

theorem sum_owed (l : List Tg) : (∑ d : Dev nD, owed d l) = ∑ d : Dev nD, tallyL (l.map (duty d)) := by
  unfold owed
  induction l with
  | nil => rfl
  | cons t l ih =>
    simp only [List.map_cons, tallyL]
    rw [Finset.sum_add_distrib, Finset.sum_add_distrib, sum_due, ih]

theorem tgA_perm : (tgA).Perm (allCp.map .inr) := by decide +kernel

theorem credits (d : Dev nD) : (Pipeline.launchCred (fun d => owed d tgs) d : sProp 𝕄)
    ⊢ iprop(cred (tallyAt (barCell d) 1 5) ∗ bigSepL allCp fun x => cred (tallyAt (recvCell d x) (idx x) N)) := by
  rw [Pipeline.launchCred_of_sum _ (fun d => tallyL (tgs.map (duty d))) (sum_owed tgs) (fun d g hg => by
    obtain ⟨i, hi⟩ := DFunLike.ne_iff.mp hg
    obtain ⟨x, hx, rfl, -⟩ := tallyL_pos (Nat.pos_of_ne_zero hi)
    obtain ⟨t, -, rfl⟩ := List.mem_map.mp hx
    cases t <;> rfl)]
  have h5 : tallyL ([0, 1, 2, 3, 4].map fun i : Fin 5 => duty d (.inl i)) = tallyAt (barCell d) 1 5 := by
    simp only [List.map_cons, List.map_nil, tallyL, duty, TalkSites.Pay.tally, add_zero, tallyAt_add]
  have hA : (cred (tallyL (tgA.map (duty d))) : sProp 𝕄) = bigSepL allCp fun x => cred (tallyAt (recvCell d x) (idx x) N) := by
    rw [cred_tallyL, bigSepL_map, TalkSites.bigSepL_perm tgA_perm (tgA_perm.nodup_iff.mpr (allCp_nodup.map Sum.inr_injective)), bigSepL_map]
    rfl
  rw [List.map_append, tallyL_append, List.map_map, show (duty d ∘ Sum.inl) = fun i : Fin 5 => duty d (.inl i) from rfl, h5,
    BI.Entails.antisymm (cred_add _ _).1 (cred_add _ _).2, hA]

/-! ## The tokens -/

/-- A duty's place: the cell, its round and its name. -/
def tokOf (p : Dev nD × (Fin 5 ⊕ Bool × Cp)) : GSem nD τ sig × ℕ × Fin 5 :=
  match p.2 with
  | .inl i => (barCell p.1, 0, i)
  | .inr q => (((p.1 : Thread nD τ), .dma (sem q)), 0, 0)

theorem tokOf_inj : Function.Injective tokOf := by
  rintro ⟨d, i | q⟩ ⟨d', i' | q'⟩ h
  · have h1 : d = d' := congrArg (fun t : GSem nD τ sig × ℕ × Fin 5 => t.1.1.1) h
    have h2 : i = i' := congrArg (fun t : GSem nD τ sig × ℕ × Fin 5 => t.2.2) h
    rw [h1, h2]
  · exact absurd (congrArg (fun t : GSem nD τ sig × ℕ × Fin 5 => t.1.2) h) (fun e => nomatch e)
  · exact absurd (congrArg (fun t : GSem nD τ sig × ℕ × Fin 5 => t.1.2) h) (fun e => nomatch e)
  · have h1 : d = d' := congrArg (fun t : GSem nD τ sig × ℕ × Fin 5 => t.1.1.1) h
    have h2 : q = q' := sem_inj (SemLoc.dma.inj (congrArg (fun t : GSem nD τ sig × ℕ × Fin 5 => t.1.2) h))
    rw [h1, h2]

/-- Every duty's token. -/
def toks : Finset (GSem nD τ sig × ℕ × Fin 5) := Finset.univ.map ⟨tokOf, tokOf_inj⟩

theorem fives (Φ : Fin 5 → sProp 𝕄) : bigSep Finset.univ Φ = bigSepL [0, 1, 2, 3, 4] Φ :=
  bigSep_univ_eq_bigSepL [0, 1, 2, 3, 4] (by decide) (by decide) Φ

/-- A family over devices and a list, turned device by device. -/
theorem turn {I : Type} (e : I → Dev nD ≃ Dev nD) (Φ : Dev nD → I → sProp 𝕄) (l : List I) :
    (bigSep Finset.univ fun d => bigSepL l fun i => Φ d i) = bigSep Finset.univ fun d => bigSepL l fun i => Φ (e i d) i := by
  induction l with
  | nil => rfl
  | cons i l ih =>
    simp only [bigSepL_cons']
    rw [bigSep_sep', bigSep_sep', ih, bigSep_univ_equiv (e i) fun d => Φ d i]

/-- What a device starts with of the exchange, but for the credit. -/
def Lin (d : Dev nD) : sProp 𝕄 :=
  iprop(atPos ER (barCell d) 0 ∅ 0 ∗ ((bigSepL allCp fun x => openTok ER (sendCell d x)) ∗ (bigSepL allCp fun x => openTok ER (recvCell d x)))
    ∗ ((bigSepL [0, 1, 2, 3, 4] fun i => dutyTok ER (barCell (tgtB d i)) 0 i)
    ∗ (bigSepL allCp fun x => dutyTok ER (sendCell d x) 0 0) ∗ (bigSepL allCp fun x => dutyTok ER (recvCell (tgt d x) x) 0 0)))

theorem toks_eq : bigSep toks (fun x => (dutyTok ER x.1 x.2.1 x.2.2 : sProp 𝕄)) = bigSep Finset.univ fun d : Dev nD =>
    iprop((bigSepL [0, 1, 2, 3, 4] fun i => dutyTok ER (barCell (tgtB d i)) 0 i)
    ∗ (bigSepL allCp fun x => dutyTok ER (sendCell d x) 0 0) ∗ (bigSepL allCp fun x => dutyTok ER (recvCell (tgt d x) x) 0 0)) := by
  have hb := turn tgtBE (fun d i => (dutyTok ER (barCell d) 0 i : sProp 𝕄)) [0, 1, 2, 3, 4]
  have hr := turn tgtE (fun d x => (dutyTok ER (recvCell d x) 0 0 : sProp 𝕄)) allCp
  unfold toks
  rw [bigSep_map, bigSep_univ_prod, bigSep_sep', bigSep_sep']
  refine Eq.trans ?_ (congrArg₂ (fun A B : sProp 𝕄 => iprop(A ∗ (bigSep Finset.univ fun d : Dev nD => bigSepL allCp fun x => dutyTok ER (sendCell d x) 0 0) ∗ B)) hb hr)
  rw [← bigSep_sep', ← bigSep_sep']
  exact bigSep_congr fun d _ => by
    rw [bigSep_univ_sum, fives, ends]
    rfl

theorem opens_eq : bigSep endCells (fun g => (openTok ER g : sProp 𝕄)) = bigSep Finset.univ fun d : Dev nD =>
    iprop((bigSepL allCp fun x => openTok ER (sendCell d x)) ∗ (bigSepL allCp fun x => openTok ER (recvCell d x))) := by
  rw [bigSep_map, bigSep_univ_prod]
  exact bigSep_congr fun d _ => by rw [ends]; rfl

theorem cells_disjoint : Disjoint (barCells : Finset (GSem nD τ sig)) endCells := by
  rw [Finset.disjoint_left]
  rintro g h₁ h₂
  obtain ⟨c, -, rfl⟩ := Finset.mem_map.mp h₁
  obtain ⟨p, -, h⟩ := Finset.mem_map.mp h₂
  exact absurd (congrArg Prod.snd h) (fun e => nomatch e)

/-- The exchange's part of the first state. -/
abbrev start : URounds (GSem nD τ sig) (Fin 5) := launchOf barCells endCells toks

theorem grant (xb wb : Dev nD → S1024x1024.Idx → Elt F .bf16) :
    iprop((bigSep Finset.univ fun d : Dev nD => semVal (barCell d) 0) ∗ BI.own (ER start) ∗ levAts (SiteBlocks.L NL) SiteBlocks.lv)
      ⊢ (|={Set.univ}=> iprop(∃ κ, Ctx xb wb κ ∗ bigSep Finset.univ Lin) : sProp 𝕄) := by
  have hv : bigSep Finset.univ (fun d : Dev nD => (semVal (barCell d) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun d : Dev nD => (atPos ER (barCell d) 0 ∅ 0 : sProp 𝕄)) :=
    Entails.of_eq (bigSep_map (s := Finset.univ) barEmb (Φ := fun g : GSem nD τ sig => (atPos ER g 0 ∅ 0 : sProp 𝕄)))
  iintro ⟨Hv, Hu, #HL⟩
  imod (Rounds.fund_launch ER (Rd xb wb) cells_disjoint (fun g _ h => h) toks) $$ [Hv Hu] with ⟨%κ, -, #Hinv, #Hr, Hat, Hopen, Htok⟩
  · isplitl [Hv]
    · iapply hv $$ Hv
    · iexact Hu
  imodintro
  iexists κ
  isplitr
  · unfold Ctx
    isplitr; · iexact Hinv
    isplitr; · iexact Hr
    iexact HL
  unfold Lin
  iapply (Entails.of_eq (bigSep_sep' _ _ _).symm); isplitl [Hat]; · iapply hat $$ Hat
  iapply (Entails.of_eq (bigSep_sep' _ _ _).symm); isplitl [Hopen]; · iapply (Entails.of_eq opens_eq) $$ Hopen
  iapply (Entails.of_eq toks_eq) $$ Htok

end Cert.AR
-- ==== Proof.Launch.lean ====
module

public import proofs.«01_k».proof.Proof.Grant
public import Idealize.ShloMosaic.Lib.Quiescent

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

theorem unscopedSems_eq (d : Dev nD) : (unscopedSems0 d : sProp 𝕄) = semVal (barCell d) 0 := by
  unfold unscopedSems0
  rw [show (Finset.univ.filter fun sm : SemLoc sig => ¬ sm.isScoped .tc) = {SemLoc.reg barrier0} from by decide +kernel, BI.bigSep_singleton]

theorem unscoped_bar : ∀ sm : SemLoc sig, sm.isScoped .tc = false → sm = .reg barrier0 := by decide +kernel

theorem tcells_inj : Function.Injective (Pipeline.cellOf (nD := nD) (τ := τ) (Pipeline.pin (pcfgs (F := F)) adm)) := cellOf_inj

/-- The first state: the windows' part and the exchange's. -/
def u₀ : UU :=
  (initOf (Pipeline.cells (Pipeline.pin (pcfgs (F := F)) adm) tcells_inj) (Pipeline.launchToks (Pipeline.pin (pcfgs (F := F)) adm) tcells_inj), start)

/-- One device keeps the exchange's part until it is dealt. -/
def kept (d : Dev nD) : sProp 𝕄 := if d = 0 then BI.own (ER start) else iprop(emp)

theorem kept_all : bigSep Finset.univ (kept (F := F)) = BI.own (ER start) := by
  rw [bigSep_univ_at _ (0 : Dev nD), bigSep_congr (s := Finset.univ.erase (0 : Dev nD)) (Ψ := fun _ => (BI.emp : sProp 𝕄))
    (fun d hd => by unfold kept; rw [if_neg (Finset.ne_of_mem_erase hd)]; rfl), BI.bigSep_emp_const]
  unfold kept; rw [if_pos rfl]
  exact BI.equiv_iff.mp sep_emp

section Run

variable (m : (ℓ : Loc nD τ sig) → Buf (Elt F) ℓ) (ρ : Dev nD → PrngReg)

/-- The buffers at the start. -/
abbrev V₀ (d : Dev nD) : Valuation τ sig (Elt F) := fun b => m (d, b)

/-- A device's state before the program: its buffers, the exchange's part, the credits and dues. -/
def first (W : Dev nD → Valuation τ sig (Elt F)) (d : Dev nD) : sProp 𝕄 :=
  iprop(StableHlo.held (d : Thread nD τ) (Pipeline.ucRefs τ sig) (V₀ m d) ∗ Tk W d ∗ (∃ r, prngReg d r) ∗ Owe d tgs)

theorem begin (W : Dev nD → Valuation τ sig (Elt F)) :
    iprop((bigSep Finset.univ fun d : Dev nD => iprop(unscopedBufs d (fun b => m ((d : Thread nD τ).loc b)) ∗ unscopedSems0 d
          ∗ owes (d : Thread nD τ) (owed d tgs) ∅ ∗ Pipeline.launchCred (fun d => owed d tgs) d ∗ prngReg d (ρ d) ∗ kept d)) ∗ levAts (SiteBlocks.L NL) SiteBlocks.lv)
      ⊢ (|={Set.univ}=> bigSep Finset.univ (first m W) : sProp 𝕄) := by
  rw [bigSep_sep', bigSep_sep', bigSep_sep', bigSep_sep', bigSep_sep', kept_all]
  iintro ⟨⟨HB, HV, HO, HC, HP, HK⟩, #HL⟩
  imod (grant (xbW W) (wbW W)) $$ [HV HK] with ⟨%κ, #HX, Hl⟩
  · isplitl [HV]
    · iapply (show (bigSep Finset.univ fun d : Dev nD => (unscopedSems0 d : sProp 𝕄)) ⊢ bigSep Finset.univ fun d : Dev nD => semVal (barCell d) 0 from
        Entails.of_eq (bigSep_congr fun d _ => unscopedSems_eq d)); iexact HV
    isplitl [HK]; · iexact HK
    iexact HL
  imodintro
  iapply (bigSep_with_persistent (R := Ctx (xbW W) (wbW W) κ) (Φ := fun d => iprop(unscopedBufs d (fun b => m ((d : Thread nD τ).loc b)) ∗ Lin d
      ∗ owes (d : Thread nD τ) (owed d tgs) ∅ ∗ Pipeline.launchCred (fun d => owed d tgs) d ∗ prngReg d (ρ d))) fun d _ => by
    rw [show (unscopedBufs d (fun b => m ((d : Thread nD τ).loc b)) : sProp 𝕄) = StableHlo.held (d : Thread nD τ) (Pipeline.ucRefs τ sig) (V₀ m d) from Pipeline.unscopedBufs_held d (V₀ m d)]
    unfold first Tk Shut Lin Owe
    iintro ⟨#HX, HB, ⟨Ha, ⟨Hs, Hr⟩, ⟨Ht, Hts, Htr⟩⟩, HO, HC, HP⟩
    ihave HC' := (credits (F := F) d) $$ HC
    icases HC' with ⟨Hc1, Hc2⟩
    isplitl [HB]; · iexact HB
    isplitl [Ha Hs Hr Ht Hts Htr Hc1 Hc2]
    · iexists κ
      isplitr; · iexact HX
      isplitl [Ha]; · iexact Ha
      isplitl [Hs]; · iexact Hs
      isplitl [Hr]; · iexact Hr
      isplitl [Ht]; · iexact Ht
      isplitl [Hts]; · iexact Hts
      isplitl [Htr]; · iexact Htr
      isplitl [Hc1] <;> iassumption
    isplitl [HP]; · iexists (ρ d); iexact HP
    iexists ∅; iexact HO)
  isplitr; · iexact HX
  iapply (Entails.of_eq (bigSep_sep' _ _ _).symm); isplitl [HB]; · iexact HB
  iapply (Entails.of_eq (bigSep_sep' _ _ _).symm); isplitl [Hl]; · iexact Hl
  iapply (Entails.of_eq (bigSep_sep' _ _ _).symm); isplitl [HO]; · iexact HO
  iapply (Entails.of_eq (bigSep_sep' _ _ _).symm); isplitl [HC]; · iexact HC
  iexact HP

end Run

/-! ## The whole program -/

section Whole

variable (m : (ℓ : Loc nD τ sig) → Buf (Elt F) ℓ) (ρ : Dev nD → PrngReg)

/-- The buffers the call does not take. -/
abbrev others : Finset (DevRef τ sig) := Pipeline.ucRefs τ sig \ Pipeline.arrRefs (τ := τ) spec0

theorem arrs_sub : Pipeline.arrRefs (τ := τ) spec0 ⊆ Pipeline.ucRefs τ sig := Pipeline.arrRefs_sub_ucRefs spec0 (by decide)

theorem others_ne : ∀ b ∈ others, b ≠ Proc.devRef .tc (Pipeline.arrRef spec0 2) := fun b hb e =>
  (Finset.mem_sdiff.mp hb).2 (e ▸ (by decide +kernel : (Proc.devRef .tc (Pipeline.arrRef spec0 2) : DevRef τ sig) ∈ Pipeline.arrRefs (τ := τ) spec0))

/-- What the call leaves. -/
def outs : Outs (F := F) := fun _ r c => afterW (V1 m) c r

theorem V2_eq (d : Dev nD) : V2 m (outs m) d = afterW (V1 m) d := by
  show Function.update (V1 m d) _ (afterW (V1 m) d _) = afterW (V1 m) d
  unfold afterW
  rw [Function.update_self]

abbrev regW := reg (V1 m) others others_ne

/-- What rides along: before the call, and after. -/
def ride : Fin 2 → Dev nD → sProp 𝕄
  | 0, d => iprop(Tk (V1 m) d ∗ (∃ r, prngReg d r) ∗ Owe d tgs)
  | 1, d => iprop(semVal (barCell d) 0 ∗ ∃ Wd, owes (d : Thread nD τ) (0 : CellTallies nD τ sig ℕ) Wd)

theorem enter (d : Dev nD) : iprop(StableHlo.held (d : Thread nD τ) (Pipeline.ucRefs τ sig) (V1 m d) ∗ ride m 0 d) ⊢ (regW m).pre d := by
  show _ ⊢ iprop(StableHlo.held (d.tc : Thread nD τ) (Pipeline.arrRefs (τ := τ) spec0) (V1 m d) ∗ (∃ r, prngReg d r)
    ∗ (StableHlo.held (d.tc : Thread nD τ) others (V1 m d) ∗ emp) ∗ Tk (V1 m) d ∗ ∃ Wd, owes (d : Thread nD τ) (0 + owed d tgs) Wd)
  rw [zero_add, StableHlo.held_sub_split (d.tc : Thread nD τ) arrs_sub (V1 m d)]
  unfold ride Owe
  iintro ⟨⟨HB, HR⟩, HT, HP, HO⟩
  isplitl [HB]; · iexact HB
  isplitl [HP]; · iexact HP
  isplitl [HR]; · isplitl [HR]; · iexact HR
                  iempintro
  isplitl [HT] <;> iassumption

theorem leave (d : Dev nD) : (regW m).post d ⊢ iprop(StableHlo.held (d : Thread nD τ) (Pipeline.ucRefs τ sig) (V2 m (outs m) d) ∗ ride m 1 d) := by
  show iprop(StableHlo.held (d.tc : Thread nD τ) (Pipeline.arrRefs (τ := τ) spec0) (afterW (V1 m) d) ∗ (∃ r, prngReg d r)
    ∗ (StableHlo.held (d.tc : Thread nD τ) others (afterW (V1 m) d) ∗ emp) ∗ Yk d ∗ ∃ Wd, owes (d : Thread nD τ) (0 : CellTallies nD τ sig ℕ) Wd) ⊢ _
  rw [V2_eq, StableHlo.held_sub_split (d.tc : Thread nD τ) arrs_sub (afterW (V1 m) d)]
  unfold Yk ride
  iintro ⟨HB, -, ⟨HR, -⟩, HY, HO⟩
  isplitr [HY HO]
  · isplitl [HB] <;> iassumption
  isplitl [HY] <;> iassumption

abbrev last (d : Dev nD) : sProp 𝕄 := iprop(StableHlo.held (d : Thread nD τ) (Pipeline.ucRefs τ sig) (V3 m (outs m) d) ∗ semVal (barCell d) 0)

abbrev parts (c : Dev nD) : List (Pipeline.Seg (pcfgs (F := F)) adm (pdats (V1 m)) 0 defs₀ 𝒱₀ (SiteBlocks.L NL) SiteBlocks.lv) :=
  [.host (seg0 m 𝒱₀ (SiteBlocks.L NL) SiteBlocks.lv (ride m) c), .region (regW m), .host (seg2 m (outs m) 𝒱₀ (SiteBlocks.L NL) SiteBlocks.lv (ride m))]

/-- What is read at the end. -/
abbrev ends_at (d : Dev nD) (s : MemSt nD τ sig (Elt F)) : Prop :=
  s.mem ((d : Thread nD τ).loc main_v50) = V3 m (outs m) d main_v50
    ∧ s.mem ((d : Thread nD τ).loc main_arg0) = m ((d : Thread nD τ).loc main_arg0)
    ∧ s.mem ((d : Thread nD τ).loc main_arg1) = m ((d : Thread nD τ).loc main_arg1)
    ∧ s.mem ((d : Thread nD τ).loc main_arg2) = m ((d : Thread nD τ).loc main_arg2)
    ∧ s.mem ((d : Thread nD τ).loc main_arg3) = m ((d : Thread nD τ).loc main_arg3)
    ∧ s.mem ((d : Thread nD τ).loc main_arg4) = m ((d : Thread nD τ).loc main_arg4)

theorem uc_mem (r : Ref sig .tc) (h : r.isScoped = false) : (Proc.devRef .tc r : DevRef τ sig) ∈ Pipeline.ucRefs τ sig :=
  Finset.mem_filter.mpr ⟨StableHlo.devRef_mem_tcRefs r, by rw [show (Proc.devRef .tc r : DevRef τ sig).isScoped = r.isScoped from rfl, h]; decide⟩

set_option backward.isDefEq.respectTransparency.types false in
/-- Every run ends: the arguments as they were, the result as the host's last operations make it, every counter at zero. -/
theorem run_main : θ_run defs (onTc (τ := τ) (main (F := F))) (s₀ m ρ)
    (fun r => (∀ d : Dev nD, ends_at m d r.2) ∧ r.2.sem = fun _ => 0) :=
  Pipeline.θ_run_regions_kit_dev_sems (pcfgs (F := F)) adm (pdats (V1 m)) 0 tcells_inj EP defs₀ 𝒱₀ (SiteBlocks.L NL) SiteBlocks.lv m ρ main (parts m)
    (fun c Q => by
      rewrite [main_chain c, Pipeline.Seg.run_eq_chain,
        show (parts m c).map Pipeline.Seg.prog = [StableHlo.seq (hostOps0 c), Prog.lift (.customCall (Pipeline.entry 0) ()), StableHlo.seq hostOps1] from rfl]
      dsimp (config := { failIfUnchanged := false }) only
      exact .rfl)
    (fun c => by simp only [Pipeline.Seg.pipes_host, Pipeline.Seg.pipes_region, Pipeline.Seg.pipes_nil]; decide)
    (O₀ := fun d => owed d tgs) (hL := SiteBlocks.hL NL) (G := kept (F := F)) (u₀ := u₀ (F := F))
    (hu₀ := by
      unfold u₀
      iintro Hu
      ihave H := (ownU_pair _ _) $$ Hu
      icases H with ⟨HP, HX⟩
      imodintro
      isplitl [HP]; · iexact HP
      iapply (Entails.of_eq (kept_all (F := F)).symm); iexact HX)
    (T₀ := first m (V1 m)) (Tₙ := last m)
    (hch := fun d => ⟨.rfl, enter m d, leave m d, by
      show iprop(StableHlo.held (d : Thread nD τ) (Pipeline.ucRefs τ sig) (V3 m (outs m) d) ∗ ride m 1 d) ⊢ _
      unfold ride
      iintro ⟨HB, HY, HO⟩
      isplitl [HB HY]
      · isplitl [HB] <;> iassumption
      iexact HO⟩)
    (hinit := begin m ρ (V1 m))
    (QY := fun d s => ends_at m d s ∧ s.sem (barCell d) = 0)
    (hfin := fun d s' => by
      unfold last StableHlo.held
      iintro ⟨⟨HB, Hb⟩, HSI⟩
      ihave Hr := (pointsTo_read_all (Pipeline.ucRefs τ sig) (fun b => ((d : Thread nD τ).1, b)) (V3 m (outs m) d) s') $$ [HB HSI]
      · isplitl [HB] <;> iassumption
      icases Hr with ⟨%h, HSI⟩
      icombine HSI Hb gives %hb
      imodintro
      isplitr
      · ipureintro
        exact ⟨⟨h _ (uc_mem main_v50 (by decide)),
          (h _ (uc_mem main_arg0 (by decide))).trans (V3_main_arg0 m (outs m) d), (h _ (uc_mem main_arg1 (by decide))).trans (V3_main_arg1 m (outs m) d),
          (h _ (uc_mem main_arg2 (by decide))).trans (V3_main_arg2 m (outs m) d), (h _ (uc_mem main_arg3 (by decide))).trans (V3_main_arg3 m (outs m) d),
          (h _ (uc_mem main_arg4 (by decide))).trans (V3_main_arg4 m (outs m) d)⟩, by simpa using hb⟩
      iexact HSI)
    (hQ := fun s h hs => ⟨fun d => (h d).1, sem_eq_zero hs fun d sm hsm => by
        obtain rfl := unscoped_bar sm hsm
        exact (h d).2⟩)

end Whole

end Cert.AR
-- ==== Proof.Value.lean ====
module

public import proofs.«01_k».proof.Proof.Proto
public import Idealize.ShloMosaic.Lib.MatmulPlain
public import Idealize.ShloMosaic.Lib.ValueLayout
public import Idealize.ShloMosaic.Lib.StackMember
public import Idealize.ShloMosaic.Lib.Layout

@[expose] public section

noncomputable section

namespace Cert.AR

open Idealize.ShloMosaic Idealize.ShloMosaic.ValueIdx
open Cert.KernelIdeal Cert.KernelIdeal.Gen
open scoped BigOperators

/-! ## The exchange's value over the extended reals: the sum of the partial products -/

/-- A chunk added to a chunk, entry by entry (the column's step). -/
theorem pay4_at (u v : V Ideal) (a : Fin 32) (b : Fin 1024) :
    k0_pay4 u v (ix3 (0 : Fin 1) a b) = (u (ix3 (0 : Fin 1) a b) : EReal) + v (ix3 (0 : Fin 1) a b) := by
  unfold k0_pay4
  rw [shapeCast_ab_1ab_apply]
  show (shapeCast S32x1024 u _ (ix2 a b) : EReal) + shapeCast S32x1024 v _ (ix2 a b) = _
  rw [shapeCast_1ab_ab_apply, shapeCast_1ab_ab_apply]

/-- A chunk added to a chunk, entry by entry (the halving's step). -/
theorem pay43_at (u v : V Ideal) (a : Fin 32) (b : Fin 1024) :
    k0_pay43 u v (ix3 (0 : Fin 1) a b) = (u (ix3 (0 : Fin 1) a b) : EReal) + v (ix3 (0 : Fin 1) a b) := by
  unfold k0_pay43
  rw [shapeCast_ab_1ab_apply]
  show (shapeCast S32x1024 u _ (ix2 a b) : EReal) + shapeCast S32x1024 v _ (ix2 a b) = _
  rw [shapeCast_1ab_ab_apply, shapeCast_1ab_ab_apply]

/-- The row of the product that row `a` of chunk `c` of group `r` is. -/
def rw3 (r : Fin 4) (c : Fin 8) (a : Fin 32) : Fin 1024 := ⟨256 * r.val + 32 * c.val + a.val, by omega⟩

variable (xb wb : Dev nD → S1024x1024.Idx → Elt Ideal .bf16)

/-- One entry of a partial product. -/
def part (d : Dev nD) (R : Fin 1024) (b : Fin 1024) : EReal :=
  ∑ k : Fin 1024, (xb d (ix2 R k) : EReal) * wb d (ix2 k b)

theorem pch_at (d : Dev nD) (r : Fin 4) (c : Fin 8) (a : Fin 32) (b : Fin 1024) :
    pch xb wb d r c (ix3 (0 : Fin 1) a b) = part xb wb d (rw3 r c a) b := by
  have e : pch xb wb d r c (ix3 (0 : Fin 1) a b) = k0_pay1 (rowsX r (xb d)) (allW (wb d)) (ix3 c a b) := by
    show k0_pay1 (rowsX r (xb d)) (allW (wb d)) (ix c a b) = _
    congr 1
    funext t; fin_cases t <;> rfl
  rw [e]
  unfold k0_pay1
  rw [shapeCast_self, shapeCast_self, shapeCast_self]
  rw [shapeCast_apply _ _ (ix3 c a b) (ix2 (⟨32 * c.val + a.val, by omega⟩ : Fin 256) b) (by
    rw [Shape.rowMajor_val_three, Shape.rowMajor_val_two]
    show (32 * c.val + a.val) * 1024 + b.val = (c.val * 32 + a.val) * 1024 + b.val
    omega)]
  show FloatOps.matmul (F := Ideal) (φ₁ := .bf16) (φ₂ := .bf16) (DotDims.plain 256 1024 1024) none (rowsX r (xb d)) (allW (wb d)) (constant S256x1024 .f32 0x00000000#32) (ix2 _ b) = _
  rw [Ideal.matmul_plain_apply]
  show Ideal.ofBits .f32 0x00000000#32 + _ = _
  rw [Ideal.ofBits_zero_f32, zero_add]
  unfold part
  refine Finset.sum_congr rfl fun k _ => ?_
  congr 1
  · show xb d _ = xb d _
    congr 1
    funext t; fin_cases t
    · exact Fin.ext (by show 256 * r.val + 1 * (32 * c.val + a.val) = 256 * r.val + 32 * c.val + a.val; omega)
    · exact Fin.ext (by show 0 + 1 * k.val = k.val; omega)
  · show wb d _ = wb d _
    congr 1
    funext t; fin_cases t
    · exact Fin.ext (by show 0 + 1 * k.val = k.val; omega)
    · exact Fin.ext (by show 0 + 1 * b.val = b.val; omega)

/-- The devices a column's sum has met, in order. -/
def colL (d : Dev nD) : List (Dev nD) := [zp (zp (zp d)), zp (zp d), zp d, d]
/-- The devices summed after `k` halving exchanges, in order. -/
def octL : ℕ → Dev nD → List (Dev nD)
  | 0, d => colL d
  | k + 1, d => octL k d ++ octL k (px d (2 ^ k))

theorem grp_px : ∀ k < 3, ∀ d : Dev nD, grpN (px d (2 ^ k)) 2 = grpN d 2 := by decide +kernel
theorem grp_col : ∀ d : Dev nD, grp0 (zp (zp (zp d))) = grpN d 2 ∧ grpN (zp (zp d)) 0 = grpN d 2 ∧ grpN (zp d) 1 = grpN d 2 := by decide +kernel
theorem oct_perm : ∀ i : Fin 32, (octL 3 (dv i)).Perm (List.finRange 32) := by decide +kernel
theorem row_dv : ∀ i : Fin 32, (grpN (dv i) 2).val * 8 + (cl i).val = i.val := by decide +kernel

theorem aS_at (d : Dev nD) (c : Fin 8) (a : Fin 32) (b : Fin 1024) :
    aS xb wb 3 d c (ix3 (0 : Fin 1) a b) = ((colL d).map fun e => part xb wb e (rw3 (grpN d 2) c a) b).sum := by
  obtain ⟨h0, h1, h2⟩ := grp_col d
  simp only [aS, pay4_at, pch_at, colL, List.map_cons, List.map_nil, List.sum_cons, List.sum_nil, h0, h1, h2]
  rw [add_zero, add_assoc, add_assoc]

theorem oL_at (a : Fin 32) (b : Fin 1024) (c : Fin 8) : ∀ k ≤ 3, ∀ d : Dev nD,
    oL xb wb k d c (ix3 (0 : Fin 1) a b) = ((octL k d).map fun e => part xb wb e (rw3 (grpN d 2) c a) b).sum := by
  intro k
  induction k with
  | zero => exact fun _ d => aS_at xb wb d c a b
  | succ k ih =>
    intro hk d
    show k0_pay43 (oL xb wb k d c) (oL xb wb k (px d (2 ^ k)) c) _ = _
    rw [pay43_at, ih (by omega), ih (by omega), grp_px k (by omega)]
    show _ = ((octL k d ++ octL k (px d (2 ^ k))).map _).sum
    rw [List.map_append, List.sum_append]

/-- Chunk `i` of the result: every device's partial product, summed. -/
theorem resV_at (i : Fin 32) (a : Fin 32) (b : Fin 1024) :
    resV xb wb i (ix3 (0 : Fin 1) a b) = ∑ d : Dev nD, part xb wb d (⟨32 * i.val + a.val, by omega⟩ : Fin 1024) b := by
  have hr : rw3 (grpN (dv i) 2) (cl i) a = (⟨32 * i.val + a.val, by omega⟩ : Fin 1024) := by
    have := row_dv i
    refine Fin.ext ?_
    show 256 * (grpN (dv i) 2).val + 32 * (cl i).val + a.val = 32 * i.val + a.val
    omega
  unfold resV
  rw [oL_at xb wb a b (cl i) 3 le_rfl, hr, ((oct_perm i).map _).sum_eq]
  exact (Fin.sum_univ_def _).symm

/-- The whole product's entry is the sum of the partial products of its 32 blocks. -/
theorem sum_blocks (X : (⟨2, ![1024, 32768]⟩ : Shape).Idx → EReal) (Wt : (⟨2, ![32768, 1024]⟩ : Shape).Idx → EReal)
    (hx : ∀ d : Dev nD, xb d = Layout.block ⟨2, ![1024, 1024]⟩ ⟨2, ![1024, 32768]⟩ 1 32 d X)
    (hw : ∀ d : Dev nD, wb d = Layout.block ⟨2, ![1024, 1024]⟩ ⟨2, ![32768, 1024]⟩ 0 32 d Wt) (R b : Fin 1024) :
    ∑ d : Dev nD, part xb wb d R b = ∑ k : Fin 32768, X (ix2 R k) * Wt (ix2 k b) := by
  rw [← (finProdFinEquiv (m := 32) (n := 1024)).sum_comp, Fintype.sum_prod_type]
  refine Finset.sum_congr rfl fun d _ => Finset.sum_congr rfl fun k _ => ?_
  rw [hx, hw]
  congr 1
  · show X _ = X _
    congr 1
    funext t; fin_cases t
    · rfl
    · exact Fin.ext (by show d.val * 1024 + k.val = k.val + 1024 * d.val; omega)
  · show Wt _ = Wt _
    congr 1
    funext t; fin_cases t
    · exact Fin.ext (by show d.val * 1024 + k.val = k.val + 1024 * d.val; omega)
    · rfl

end Cert.AR

end
-- ==== Proof.Host.lean ====
module

public import proofs.«01_k».proof.Proof.Launch
public import Idealize.ShloMosaic.Lib.StableHlo.RunClose

@[expose] public section

noncomputable section

namespace Cert.AR.Host

open Idealize.ShloMosaic Idealize.ShloMosaic.TcCoe Idealize.ShloMosaic.StableHlo
open Cert.KernelIdeal Cert.KernelIdeal.Gen

variable {F : FTy → Type} [FloatOps F]

/-! ## What the host computes before the call

A device forms its eight query heads from its columns of the query weights, and its two key and two value heads from the
columns of the whole weights that begin at 256 times its number; each of the two serves four query heads. -/

/-- The device's number, as the program computes it. -/
def num (d : Dev nD) : IVec S_ 32 :=
  Host.remui (Host.divui (constantI S_ 32 (Dev.word d)) (constantI S_ 32 1#32)) (constantI S_ 32 32#32)
/-- Where its columns begin. -/
def col (d : Dev nD) : IVec S_ 32 :=
  select (cmpi .slt (muli (num d) (constantI S_ 32 256#32)) (constantI S_ 32 0#32))
    (addi (muli (num d) (constantI S_ 32 256#32)) (constantI S_ 32 8192#32)) (muli (num d) (constantI S_ 32 256#32))
/-- Its columns of a whole weight matrix. -/
def cut (d : Dev nD) (w : S1024x8192.Idx → Elt F .bf16) : S1024x256.Idx → Elt F .bf16 :=
  Host.dynamicSlice S1024x256 w (fun k => ((![constantI S_ 32 0#32, col d] : Fin 2 → IVec S_ 32) k (Shape.Idx.first h_S_)).toInt) sliceFits_S1024x8192_S1024x256
/-- The rows of all batches. -/
def rows (x : S4x256x1024.Idx → Elt F .bf16) : S1024x1024.Idx → Elt F .bf16 := shapeCast S1024x1024 x shapeCasts_S4x256x1024_S1024x1024
/-- The query heads. -/
def heads (x : S4x256x1024.Idx → Elt F .bf16) (w : S1024x1024.Idx → Elt F .bf16) : S4x256x8x128.Idx → Elt F .bf16 :=
  shapeCast S4x256x8x128 (truncf .bf16 (Host.dotGeneral dot_S1024x1024_S1024x1024_S1024x1024_1_0_0_1_n_n none (φ₁ := .bf16) (φ₂ := .bf16) (rows x) w) bitsLt_bf16_f32 : FVec F S1024x1024 .bf16) shapeCasts_S1024x1024_S4x256x8x128
/-- The key (or value) heads, each four times. -/
def shared (d : Dev nD) (x : S4x256x1024.Idx → Elt F .bf16) (w : S1024x8192.Idx → Elt F .bf16) : S4x256x8x128.Idx → Elt F .bf16 :=
  shapeCast S4x256x8x128 (broadcastInDim S4x256x2x4x128 ![0, 1, 2, 4] bcast_S4x256x2x128_S4x256x2x4x128_0_1_2_4
    (shapeCast S4x256x2x128 (truncf .bf16 (Host.dotGeneral dot_S1024x1024_S1024x256_S1024x256_1_0_0_1_n_n none (φ₁ := .bf16) (φ₂ := .bf16) (rows x) (cut d w)) bitsLt_bf16_f32 : FVec F S1024x256 .bf16)
      shapeCasts_S1024x256_S4x256x2x128)) shapeCasts_S4x256x2x4x128_S4x256x8x128
/-- The scaled scores. -/
def score (q k : S4x256x8x128.Idx → Elt F .bf16) : S4x8x256x256.Idx → Elt F .f32 :=
  mulf (Host.dotGeneral dot_S4x256x8x128_S4x256x8x128_S4x8x256x256_3_3_1_1_02_02 none (φ₁ := .bf16) (φ₂ := .bf16) q k)
    (broadcastInDim S4x8x256x256 ![] bcast_S_S4x8x256x256 (constant S_ .f32 0x3DB504F3#32))
/-- The greatest score of each row. -/
def most (s : S4x8x256x256.Idx → Elt F .f32) : S4x8x256.Idx → Elt F .f32 :=
  maximumf (broadcastInDim S4x8x256 ![] bcast_S_S4x8x256 (constant S_ .f32 0xFF800000#32))
    (Host.reduce FloatOps.maximumf s (constant S_ .f32 0xFF800000#32) reducesTo_S4x8x256x256_S4x8x256_d3 h_S_)
/-- One number for each row, along the row. -/
def along (v : S4x8x256.Idx → Elt F .f32) : S4x8x256x256.Idx → Elt F .f32 :=
  broadcastInDim S4x8x256x256 ![0, 1, 2, 3] bcast_S4x8x256x1_S4x8x256x256_0_1_2_3 (broadcastInDim S4x8x256x1 ![0, 1, 2] bcast_S4x8x256_S4x8x256x1_0_1_2 v)
/-- The exponentials. -/
def expo (s : S4x8x256x256.Idx → Elt F .f32) : S4x8x256x256.Idx → Elt F .f32 := Host.exp (subf s (along (most s)) : FVec F S4x8x256x256 .f32)
/-- The weights. -/
def weigh (p : S4x8x256x256.Idx → Elt F .f32) : S4x8x256x256.Idx → Elt F .bf16 :=
  truncf .bf16 (Host.divf p (along (Host.reduceAdd p (constant S_ .f32 0x00000000#32) reducesTo_S4x8x256x256_S4x8x256_d3 h_S_)) : FVec F S4x8x256x256 .f32) bitsLt_bf16_f32
/-- The device's eight heads of the attention, by rows. -/
def mix (v : S4x256x8x128.Idx → Elt F .bf16) (w : S4x8x256x256.Idx → Elt F .bf16) : S1024x1024.Idx → Elt F .bf16 :=
  truncf .bf16 (shapeCast S1024x1024 (transpose S4x256x8x128 [0, 3, 1, 2] (Host.dotGeneral dot_S4x256x8x128_S4x8x256x256_S4x8x128x256_1_3_3_2_02_01 none (φ₁ := .bf16) (φ₂ := .bf16) v w)
    transposes_S4x8x128x256_S4x256x8x128_0_3_1_2) shapeCasts_S4x256x8x128_S1024x1024 : FVec F S1024x1024 .f32) bitsLt_bf16_f32

def attn (d : Dev nD) (x : S4x256x1024.Idx → Elt F .bf16) (wq : S1024x1024.Idx → Elt F .bf16) (wk wv : S1024x8192.Idx → Elt F .bf16) :
    S1024x1024.Idx → Elt F .bf16 :=
  mix (shared d x wv) (weigh (expo (score (heads x wq) (shared d x wk))))

set_option maxRecDepth 20000 in
set_option maxHeartbeats 2000000 in
theorem v47_eq (d : Dev nD) (W : Valuation τ sig (Elt F)) :
    after (hostOps0 d) W (main_v47 : DevRef τ sig)
      = attn d (W (main_arg0 : DevRef τ sig)) (W (main_arg1 : DevRef τ sig)) (W (main_arg2 : DevRef τ sig)) (W (main_arg3 : DevRef τ sig)) := by
  after_results_simp_entrywise
  rfl

theorem v50_eq (W : Valuation τ sig (Elt F)) :
    after hostOps1 W (main_v50 : DevRef τ sig)
      = shapeCast S4x256x1024 (extf .f32 (W (main_v48 : DevRef τ sig) : FVec F S32x32x1024 .bf16) bitsLt_bf16_f32 : FVec F S32x32x1024 .f32) shapeCasts_S32x32x1024_S4x256x1024 := by
  after_results_simp
  rfl

end Cert.AR.Host
-- ==== Proof.HostVal.lean ====
module

public import proofs.«01_k».proof.Proof.Host
public import Idealize.ShloMosaic.Lib.Pointwise
public import Idealize.ShloMosaic.Lib.DynamicIndex

@[expose] public section

noncomputable section

namespace Cert.AR.Host

open Idealize.ShloMosaic
open Cert.KernelIdeal Cert.KernelIdeal.Gen

theorem col_int : ∀ d : Dev nD, (col d (Shape.Idx.first h_S_)).toInt = 256 * (d : ℕ) := by decide +kernel

set_option maxRecDepth 16384

theorem cut_at (d : Dev nD) (w : S1024x8192.Idx → Elt Ideal .bf16) (k : Fin 1024) (c : Fin 256) :
    cut (F := Ideal) d w (ix2 k c) = w (ix2 k (⟨256 * d.val + c.val, by have := d.isLt; simp only [nD] at this; omega⟩ : Fin 8192)) := by
  have hd : d.val < 32 := d.isLt
  have h := col_int d
  unfold cut
  rw [Host.dynamicSlice_eq_extractStridedSlice S1024x256 w _ ![0, 256 * d.val] sliceFits_S1024x8192_S1024x256
    ⟨rfl, fun a => by fin_cases a <;> simp <;> omega⟩
    (fun a => by
      fin_cases a
      · rfl
      · exact h)]
  refine congrArg w (funext fun t => Fin.ext ?_)
  fin_cases t
  · exact Nat.zero_add _
  · rfl

theorem heads_at (x : S4x256x1024.Idx → Elt Ideal .bf16) (w : S1024x1024.Idx → Elt Ideal .bf16) (b : Fin 4) (i : Fin 256) (h : Fin 8) (e : Fin 128) :
    heads (F := Ideal) x w (ix4 b i h e) = ∑ k : Fin 1024, (x (ix3 b i k) : EReal) * w (ix2 k (⟨h.val * 128 + e.val, by omega⟩ : Fin 1024)) := by
  pointwise [heads, rows]

theorem shared_at (d : Dev nD) (x : S4x256x1024.Idx → Elt Ideal .bf16) (w : S1024x8192.Idx → Elt Ideal .bf16) (b : Fin 4) (i : Fin 256) (h : Fin 8) (e : Fin 128) :
    shared (F := Ideal) d x w (ix4 b i h e) = ∑ k : Fin 1024, (x (ix3 b i k) : EReal) * cut (F := Ideal) d w (ix2 k (⟨h.val / 4 * 128 + e.val, by omega⟩ : Fin 256)) := by
  pointwise [shared, rows]

theorem score_at (q k : S4x256x8x128.Idx → Elt Ideal .bf16) (b : Fin 4) (h : Fin 8) (i j : Fin 256) :
    score (F := Ideal) q k (ix4 b h i j) = (∑ e : Fin 128, (q (ix4 b i h e) : EReal) * k (ix4 b j h e)) * Ideal.ofBits .f32 0x3DB504F3#32 := by
  pointwise [score]

theorem most_at (s : S4x8x256x256.Idx → Elt Ideal .f32) (b : Fin 4) (h : Fin 8) (i : Fin 256) :
    most (F := Ideal) s (ix3 b h i) = Finset.univ.fold max (⊥ : EReal) (fun j : Fin 256 => (s (ix4 b h i j) : EReal)) := by
  pointwise [most]
  rw [show Ideal.ofBits .f32 0xFF800000#32 = (⊥ : EReal) from by simp [Ideal.ofBits, Ideal.ieee]]
  exact max_eq_right bot_le

theorem expo_at (s : S4x8x256x256.Idx → Elt Ideal .f32) (b : Fin 4) (h : Fin 8) (i j : Fin 256) :
    expo (F := Ideal) s (ix4 b h i j) = Ideal.exp (s (ix4 b h i j) - most (F := Ideal) s (ix3 b h i)) := by
  pointwise [expo, along]

theorem weigh_at (s : S4x8x256x256.Idx → Elt Ideal .f32) (b : Fin 4) (h : Fin 8) (i j : Fin 256) :
    weigh (F := Ideal) s (ix4 b h i j) = Ideal.div (s (ix4 b h i j)) (∑ j : Fin 256, (s (ix4 b h i j) : EReal)) := by
  pointwise [weigh, along]

theorem mix_at (v : S4x256x8x128.Idx → Elt Ideal .bf16) (w : S4x8x256x256.Idx → Elt Ideal .bf16) (R c : Fin 1024) :
    mix (F := Ideal) v w (ix2 R c) = ∑ j : Fin 256, (v (ix4 (⟨R.val / 256, by omega⟩ : Fin 4) j (⟨c.val / 128, by omega⟩ : Fin 8) (⟨c.val % 128, by omega⟩ : Fin 128)) : EReal)
      * w (ix4 (⟨R.val / 256, by omega⟩ : Fin 4) (⟨c.val / 128, by omega⟩ : Fin 8) (⟨R.val % 256, by omega⟩ : Fin 256) j) := by
  pointwise [mix]

end Cert.AR.Host
-- ==== Proof.Ref.lean ====
module

public import proofs.«01_k».proof.Proof.Gen.ReferenceIdeal.Run

@[expose] public section

noncomputable section

namespace Cert.AR.Ref

open Cert.ReferenceIdeal Cert.ReferenceIdeal.Gen
open Idealize.ShloMosaic Idealize.ShloMosaic.TcCoe Idealize.SL.Sem

variable {F : FTy → Type} [FloatOps F]

/-! ## The reference's value, part by part -/

/-- The query heads. -/
def heads (x : S4x256x1024.Idx → Elt F .bf16) (w : S1024x32768.Idx → Elt F .bf16) : S4x256x256x128.Idx → Elt F .f32 :=
  shapeCast S4x256x256x128 (Host.dotGeneral dot_S4x256x1024_S1024x32768_S4x256x32768_2_0_01_1_n_n none
    (extf .f32 (x : FVec F S4x256x1024 .bf16) bitsLt_bf16_f32) (extf .f32 (w : FVec F S1024x32768 .bf16) bitsLt_bf16_f32)) shapeCasts_S4x256x32768_S4x256x256x128
/-- The key (or value) heads, each four times. -/
def shared (x : S4x256x1024.Idx → Elt F .bf16) (w : S1024x8192.Idx → Elt F .bf16) : S4x256x256x128.Idx → Elt F .f32 :=
  shapeCast S4x256x256x128 (broadcastInDim S4x256x64x4x128 ![0, 1, 2, 4] bcast_S4x256x64x128_S4x256x64x4x128_0_1_2_4
    (shapeCast S4x256x64x128 (Host.dotGeneral dot_S4x256x1024_S1024x8192_S4x256x8192_2_0_01_1_n_n none
      (extf .f32 (x : FVec F S4x256x1024 .bf16) bitsLt_bf16_f32) (extf .f32 (w : FVec F S1024x8192 .bf16) bitsLt_bf16_f32)) shapeCasts_S4x256x8192_S4x256x64x128))
    shapeCasts_S4x256x64x4x128_S4x256x256x128
/-- The scaled scores. -/
def score (q k : S4x256x256x128.Idx → Elt F .f32) : S4x256x256x256.Idx → Elt F .f32 :=
  mulf (Host.dotGeneral dot_S4x256x256x128_S4x256x256x128_S4x256x256x256_3_3_1_1_02_02 none (φ₁ := .f32) (φ₂ := .f32) q k)
    (broadcastInDim S4x256x256x256 ![] bcast_S_S4x256x256x256 (constant S_ .f32 0x3DB504F3#32))
/-- The greatest score of each row. -/
def most (s : S4x256x256x256.Idx → Elt F .f32) : S4x256x256.Idx → Elt F .f32 :=
  Host.reduce FloatOps.maximumf s (constant S_ .f32 0xFF800000#32) reducesTo_S4x256x256x256_S4x256x256_d3 h_S_
/-- The exponentials. -/
def expo (s : S4x256x256x256.Idx → Elt F .f32) : S4x256x256x256.Idx → Elt F .f32 :=
  Host.exp (subf s (broadcastInDim S4x256x256x256 ![0, 1, 2, 3] bcast_S4x256x256x1_S4x256x256x256_0_1_2_3
    (broadcastInDim S4x256x256x1 ![0, 1, 2] bcast_S4x256x256_S4x256x256x1_0_1_2 (most s))) : FVec F S4x256x256x256 .f32)
/-- Their sums, as the result divides by them. -/
def total (p : S4x256x256x256.Idx → Elt F .f32) : S4x256x256x128.Idx → Elt F .f32 :=
  broadcastInDim S4x256x256x128 ![0, 1, 2, 3] bcast_S4x256x256x1_S4x256x256x128_0_1_2_3 (transpose S4x256x256x1 [0, 2, 1, 3]
    (broadcastInDim S4x256x256x1 ![0, 1, 2] bcast_S4x256x256_S4x256x256x1_0_1_2
      (Host.reduceAdd p (constant S_ .f32 0x00000000#32) reducesTo_S4x256x256x256_S4x256x256_d3 h_S_)) transposes_S4x256x256x1_S4x256x256x1_0_2_1_3)
/-- The attention, its heads side by side. -/
def mix (v : S4x256x256x128.Idx → Elt F .f32) (p : S4x256x256x256.Idx → Elt F .f32) : S4x256x32768.Idx → Elt F .f32 :=
  shapeCast S4x256x32768 (Host.divf (transpose S4x256x256x128 [0, 3, 1, 2]
    (Host.dotGeneral dot_S4x256x256x128_S4x256x256x256_S4x256x128x256_1_3_3_2_02_01 none (φ₁ := .f32) (φ₂ := .f32) v p)
    transposes_S4x256x128x256_S4x256x256x128_0_3_1_2) (total p) : FVec F S4x256x256x128 .f32) shapeCasts_S4x256x256x128_S4x256x32768

def attn (x : S4x256x1024.Idx → Elt F .bf16) (wq : S1024x32768.Idx → Elt F .bf16) (wk wv : S1024x8192.Idx → Elt F .bf16) : S4x256x32768.Idx → Elt F .f32 :=
  mix (shared x wv) (expo (score (heads x wq) (shared x wk)))

/-- What the reference returns of its five arrays. -/
def outR (x : S4x256x1024.Idx → Elt F .bf16) (wq : S1024x32768.Idx → Elt F .bf16) (wk wv : S1024x8192.Idx → Elt F .bf16) (wo : S32768x1024.Idx → Elt F .bf16) :
    S4x256x1024.Idx → Elt F .f32 :=
  Host.dotGeneral dot_S4x256x32768_S32768x1024_S4x256x1024_2_0_01_1_n_n none (φ₁ := .f32) (φ₂ := .f32) (attn x wq wk wv)
    (extf .f32 (wo : FVec F S32768x1024 .bf16) bitsLt_bf16_f32)

theorem res_eq (m : (ℓ : Loc nD τ sig) → Buf (Elt F) ℓ) (c : Dev nD) :
    Value.res_out0 m c = outR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.AR.Ref

end
-- ==== Proof.RefVal.lean ====
module

public import proofs.«01_k».proof.Proof.Ref
public import Idealize.ShloMosaic.Lib.Pointwise

@[expose] public section

noncomputable section

namespace Cert.AR.Ref

open Idealize.ShloMosaic
open Cert.ReferenceIdeal Cert.ReferenceIdeal.Gen

set_option maxRecDepth 16384

theorem heads_at (x : S4x256x1024.Idx → Elt Ideal .bf16) (w : S1024x32768.Idx → Elt Ideal .bf16) (b : Fin 4) (i h : Fin 256) (e : Fin 128) :
    heads (F := Ideal) x w (ix4 b i h e) = ∑ k : Fin 1024, (x (ix3 b i k) : EReal) * w (ix2 k (⟨h.val * 128 + e.val, by omega⟩ : Fin 32768)) := by
  pointwise [heads]

theorem shared_at (x : S4x256x1024.Idx → Elt Ideal .bf16) (w : S1024x8192.Idx → Elt Ideal .bf16) (b : Fin 4) (i h : Fin 256) (e : Fin 128) :
    shared (F := Ideal) x w (ix4 b i h e) = ∑ k : Fin 1024, (x (ix3 b i k) : EReal) * w (ix2 k (⟨h.val / 4 * 128 + e.val, by omega⟩ : Fin 8192)) := by
  pointwise [shared]

theorem score_at (q k : S4x256x256x128.Idx → Elt Ideal .f32) (b : Fin 4) (h i j : Fin 256) :
    score (F := Ideal) q k (ix4 b h i j) = (∑ e : Fin 128, (q (ix4 b i h e) : EReal) * k (ix4 b j h e)) * Ideal.ofBits .f32 0x3DB504F3#32 := by
  pointwise [score]

theorem most_at (s : S4x256x256x256.Idx → Elt Ideal .f32) (b : Fin 4) (h i : Fin 256) :
    most (F := Ideal) s (ix3 b h i) = Finset.univ.fold max (⊥ : EReal) (fun j : Fin 256 => (s (ix4 b h i j) : EReal)) := by
  pointwise [most]
  rw [show Ideal.ofBits .f32 0xFF800000#32 = (⊥ : EReal) from by simp [Ideal.ofBits, Ideal.ieee]]

theorem expo_at (s : S4x256x256x256.Idx → Elt Ideal .f32) (b : Fin 4) (h i j : Fin 256) :
    expo (F := Ideal) s (ix4 b h i j) = Ideal.exp (s (ix4 b h i j) - most (F := Ideal) s (ix3 b h i)) := by
  pointwise [expo]

theorem total_at (p : S4x256x256x256.Idx → Elt Ideal .f32) (b : Fin 4) (i h : Fin 256) (e : Fin 128) :
    total (F := Ideal) p (ix4 b i h e) = ∑ j : Fin 256, (p (ix4 b h i j) : EReal) := by
  pointwise [total]

theorem mix_at (v : S4x256x256x128.Idx → Elt Ideal .f32) (p : S4x256x256x256.Idx → Elt Ideal .f32) (b : Fin 4) (i : Fin 256) (c : Fin 32768) :
    mix (F := Ideal) v p (ix3 b i c) = Ideal.div (∑ j : Fin 256, (v (ix4 b j (⟨c.val / 128, by omega⟩ : Fin 256) (⟨c.val % 128, by omega⟩ : Fin 128)) : EReal)
      * p (ix4 b (⟨c.val / 128, by omega⟩ : Fin 256) i j)) (total (F := Ideal) p (ix4 b i (⟨c.val / 128, by omega⟩ : Fin 256) (⟨c.val % 128, by omega⟩ : Fin 128))) := by
  pointwise [mix]

theorem outR_at (x : S4x256x1024.Idx → Elt Ideal .bf16) (wq : S1024x32768.Idx → Elt Ideal .bf16) (wk wv : S1024x8192.Idx → Elt Ideal .bf16) (wo : S32768x1024.Idx → Elt Ideal .bf16)
    (b : Fin 4) (i : Fin 256) (n : Fin 1024) :
    outR (F := Ideal) x wq wk wv wo (ix3 b i n) = ∑ c : Fin 32768, (attn (F := Ideal) x wq wk wv (ix3 b i c) : EReal) * wo (ix2 c n) := by
  pointwise [outR]

end Cert.AR.Ref

end
-- ==== Proof.Soft.lean ====
module

public import Idealize.ShloMosaic.PureOps.Ideal
public import Idealize.ShloMosaic.PureOps.Ideal.Laws

@[expose] public section

noncomputable section

namespace Cert.AR.Soft

open Idealize.ShloMosaic

/-! ## Extended reals that are real numbers -/

/-- A real number among the extended reals. -/
def Real' (x : EReal) : Prop := ∃ r : ℝ, x = (r : EReal)

theorem Real'.mul {x y : EReal} (hx : Real' x) (hy : Real' y) : Real' (x * y) := by
  obtain ⟨r, rfl⟩ := hx
  obtain ⟨t, rfl⟩ := hy
  exact ⟨r * t, (EReal.coe_mul r t).symm⟩

theorem Real'.sum {ι : Type} (s : Finset ι) {f : ι → EReal} (h : ∀ i ∈ s, Real' (f i)) : Real' (∑ i ∈ s, f i) := by
  classical
  induction s using Finset.induction_on with
  | empty => exact ⟨0, by simp⟩
  | insert a s ha ih =>
    obtain ⟨r, hr⟩ := h a (Finset.mem_insert_self a s)
    obtain ⟨t, ht⟩ := ih fun i hi => h i (Finset.mem_insert_of_mem hi)
    exact ⟨r + t, by rw [Finset.sum_insert ha, hr, ht, EReal.coe_add]⟩

theorem real_of_abs {x : EReal} (h : max x (-x) < ⊤) : Real' x := by
  induction x using EReal.rec with
  | bot => simp at h
  | top => simp at h
  | coe r => exact ⟨r, rfl⟩

/-- The greatest of finitely many reals, of at least one, is real. -/
theorem real_most {ι : Type} (s : Finset ι) (hs : s.Nonempty) {f : ι → EReal} (h : ∀ i, Real' (f i)) : Real' (s.fold max ⊥ f) := by
  classical
  induction s using Finset.induction_on with
  | empty => exact absurd hs Finset.not_nonempty_empty
  | insert a s ha ih =>
    rw [Finset.fold_insert ha]
    rcases s.eq_empty_or_nonempty with rfl | hne
    · rw [Finset.fold_empty, max_eq_left bot_le]; exact h a
    · rcases max_choice (f a) (s.fold max ⊥ f) with e | e <;> rw [e]
      · exact h a
      · exact ih hne

/-- A factor that is real and not negative goes out of a sum. -/
theorem mul_sum {ι : Type} (s : Finset ι) (f : ι → EReal) {t : ℝ} (ht : 0 ≤ t) : (t : EReal) * ∑ i ∈ s, f i = ∑ i ∈ s, (t : EReal) * f i := by
  classical
  induction s using Finset.induction_on with
  | empty => simp
  | insert a s ha ih =>
    rw [Finset.sum_insert ha, Finset.sum_insert ha, EReal.left_distrib_of_nonneg_of_ne_top (EReal.coe_nonneg.mpr ht) (EReal.coe_ne_top t), ih]

/-- A sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Weights divided by their sum before the values are added, or the sum of the values divided after: for real scores these agree. -/
theorem divide {n : ℕ} [NeZero n] (s v : Fin n → EReal) (hs : ∀ j, Real' (s j)) (M : EReal) (hM : Real' M) :
    ∑ j, v j * Ideal.div (Ideal.exp (s j - M)) (∑ j, Ideal.exp (s j - M)) = Ideal.div (∑ j, v j * Ideal.exp (s j - M)) (∑ j, Ideal.exp (s j - M)) := by
  obtain ⟨μ, rfl⟩ := hM
  choose r hr using hs
  have hp : ∀ j, Ideal.exp (s j - μ) = ((Real.exp (r j - μ) : ℝ) : EReal) := fun j => by
    rw [hr j, ← EReal.coe_sub]; rfl
  have hl : ∑ j, Ideal.exp (s j - μ) = ((∑ j, Real.exp (r j - μ) : ℝ) : EReal) := by
    rw [coe_sum]
    exact Finset.sum_congr rfl fun j _ => hp j
  have hpos : 0 < ∑ j : Fin n, Real.exp (r j - μ) := Finset.sum_pos (fun j _ => Real.exp_pos _) ⟨0, Finset.mem_univ _⟩
  rw [hl]
  generalize (∑ j : Fin n, Real.exp (r j - μ)) = l at hpos
  have hne : (l : EReal) ≠ 0 := by exact_mod_cast hpos.ne'
  have hd : ∀ y : EReal, Ideal.div y (l : EReal) = ((l⁻¹ : ℝ) : EReal) * y := fun y => by
    unfold Ideal.div
    rw [if_neg hne, mul_comm, EReal.coe_inv]
  rw [hd, mul_sum _ _ (inv_nonneg.mpr hpos.le)]
  exact Finset.sum_congr rfl fun j _ => by rw [hd, mul_left_comm]

end Cert.AR.Soft
-- ==== Proof.Attn.lean ====
module

public import proofs.«01_k».proof.Proof.HostVal
public import proofs.«01_k».proof.Proof.RefVal
public import proofs.«01_k».proof.Proof.Soft
public import Idealize.ShloMosaic.Lib.Layout

@[expose] public section

noncomputable section

namespace Cert.AR

open Idealize.ShloMosaic
open Cert.KernelIdeal (nD)

/-! ## A device's heads are its part of the reference's -/

/-- The device's head `h` among all. -/
def hd (d : Dev nD) (h : Fin 8) : Fin 256 := ⟨8 * d.val + h.val, by have h1 : d.val < 32 := d.isLt; omega⟩
/-- The device's column `c` among all. -/
def cd (d : Dev nD) (c : Fin 1024) : Fin 32768 := ⟨1024 * d.val + c.val, by have h1 : d.val < 32 := d.isLt; omega⟩

theorem block_at {α : Type} (d : Dev nD) (X : (⟨2, ![1024, 32768]⟩ : Shape).Idx → α) (R c : Fin 1024) :
    (Layout.block ⟨2, ![1024, 1024]⟩ ⟨2, ![1024, 32768]⟩ 1 32 d X : (⟨2, ![1024, 1024]⟩ : Shape).Idx → α) (ix2 R c) = X (ix2 R (cd d c)) := by
  show X _ = X _
  congr 1
  funext t; fin_cases t
  · rfl
  · exact Fin.ext (by show d.val * 1024 + c.val = 1024 * d.val + c.val; omega)

section

variable (x : (⟨3, ![4, 256, 1024]⟩ : Shape).Idx → EReal) (wq : (⟨2, ![1024, 32768]⟩ : Shape).Idx → EReal)
variable (wk wv : (⟨2, ![1024, 8192]⟩ : Shape).Idx → EReal) (d : Dev nD)

/-- The device's block of the query weights. -/
abbrev wqd : (⟨2, ![1024, 1024]⟩ : Shape).Idx → EReal := Layout.block ⟨2, ![1024, 1024]⟩ ⟨2, ![1024, 32768]⟩ 1 32 d wq

theorem heads_eq (b : Fin 4) (i : Fin 256) (h : Fin 8) (e : Fin 128) :
    Host.heads (F := Ideal) x (wqd wq d) (ix4 b i h e) = Ref.heads (F := Ideal) x wq (ix4 b i (hd d h) e) := by
  rw [Host.heads_at, Ref.heads_at]
  refine Finset.sum_congr rfl fun k _ => congrArg (x (ix3 b i k) * ·) ?_
  refine (block_at d wq k _).trans (congrArg (fun n => wq (ix2 k n)) (Fin.ext ?_))
  show 1024 * d.val + (h.val * 128 + e.val) = (8 * d.val + h.val) * 128 + e.val
  omega

theorem shared_eq (w : (⟨2, ![1024, 8192]⟩ : Shape).Idx → EReal) (b : Fin 4) (i : Fin 256) (h : Fin 8) (e : Fin 128) :
    Host.shared (F := Ideal) d x w (ix4 b i h e) = Ref.shared (F := Ideal) x w (ix4 b i (hd d h) e) := by
  rw [Host.shared_at, Ref.shared_at]
  refine Finset.sum_congr rfl fun k _ => congrArg (x (ix3 b i k) * ·) ?_
  refine (Host.cut_at d w k _).trans (congrArg (fun n => w (ix2 k n)) (Fin.ext ?_))
  show 256 * d.val + (h.val / 4 * 128 + e.val) = (8 * d.val + h.val) / 4 * 128 + e.val
  omega

theorem score_eq (b : Fin 4) (h : Fin 8) (i j : Fin 256) :
    Host.score (F := Ideal) (Host.heads (F := Ideal) x (wqd wq d)) (Host.shared (F := Ideal) d x wk) (ix4 b h i j)
      = Ref.score (F := Ideal) (Ref.heads (F := Ideal) x wq) (Ref.shared (F := Ideal) x wk) (ix4 b (hd d h) i j) := by
  rw [Host.score_at, Ref.score_at]
  refine congrArg (· * Ideal.ofBits .f32 0x3DB504F3#32) (Finset.sum_congr rfl fun e _ => ?_)
  rw [heads_eq, shared_eq]

theorem scale_real : Soft.Real' (Ideal.ofBits .f32 0x3DB504F3#32) := by
  unfold Ideal.ofBits Ideal.ieee
  exact ⟨_, if_neg (by decide)⟩

theorem score_real (hx : ∀ i, Soft.Real' (x i)) (hq : ∀ i, Soft.Real' (wq i)) (hk : ∀ i, Soft.Real' (wk i)) (b : Fin 4) (h i j : Fin 256) :
    Soft.Real' (Ref.score (F := Ideal) (Ref.heads (F := Ideal) x wq) (Ref.shared (F := Ideal) x wk) (ix4 b h i j)) := by
  rw [Ref.score_at]
  refine Soft.Real'.mul (Soft.Real'.sum _ fun e _ => Soft.Real'.mul ?_ ?_) scale_real
  · rw [Ref.heads_at]
    exact Soft.Real'.sum _ fun k _ => (hx _).mul (hq _)
  · rw [Ref.shared_at]
    exact Soft.Real'.sum _ fun k _ => (hx _).mul (hk _)

/-- One entry of a device's attention. -/
theorem attn_eq (hx : ∀ i, Soft.Real' (x i)) (hq : ∀ i, Soft.Real' (wq i)) (hk : ∀ i, Soft.Real' (wk i)) (R c : Fin 1024) :
    Host.attn (F := Ideal) d x (wqd wq d) wk wv (ix2 R c)
      = Ref.attn (F := Ideal) x wq wk wv (ix3 (⟨R.val / 256, by omega⟩ : Fin 4) (⟨R.val % 256, by omega⟩ : Fin 256) (cd d c)) := by
  have hd : d.val < 32 := d.isLt
  have eh : (⟨(cd d c).val / 128, by omega⟩ : Fin 256) = Cert.AR.hd d (⟨c.val / 128, by omega⟩ : Fin 8) :=
    Fin.ext (by show (1024 * d.val + c.val) / 128 = 8 * d.val + c.val / 128; omega)
  have ee : (⟨(cd d c).val % 128, by omega⟩ : Fin 128) = (⟨c.val % 128, by omega⟩ : Fin 128) :=
    Fin.ext (by show (1024 * d.val + c.val) % 128 = c.val % 128; omega)
  unfold Host.attn Ref.attn
  rw [Host.mix_at, Ref.mix_at, Ref.total_at, eh, ee]
  generalize (⟨R.val / 256, by omega⟩ : Fin 4) = b
  generalize (⟨R.val % 256, by omega⟩ : Fin 256) = i
  generalize (⟨c.val / 128, by omega⟩ : Fin 8) = h
  generalize (⟨c.val % 128, by omega⟩ : Fin 128) = e
  have hp : ∀ j : Fin 256, Host.expo (F := Ideal) (Host.score (F := Ideal) (Host.heads (F := Ideal) x (wqd wq d)) (Host.shared (F := Ideal) d x wk)) (ix4 b h i j)
      = Ref.expo (F := Ideal) (Ref.score (F := Ideal) (Ref.heads (F := Ideal) x wq) (Ref.shared (F := Ideal) x wk)) (ix4 b (Cert.AR.hd d h) i j) := fun j => by
    rw [Host.expo_at, Ref.expo_at, Host.most_at, Ref.most_at]
    simp only [score_eq]
  simp only [Host.weigh_at, hp, shared_eq]
  simp only [Ref.expo_at]
  exact Soft.divide _ _ (fun j => score_real x wq wk hx hq hk _ _ _ _) _
    (by rw [Ref.most_at]; exact Soft.real_most _ ⟨0, Finset.mem_univ _⟩ fun j => score_real x wq wk hx hq hk _ _ _ _)

/-- The reference's attention as one matrix. -/
def whole : (⟨2, ![1024, 32768]⟩ : Shape).Idx → EReal := fun j =>
  Ref.attn (F := Ideal) x wq wk wv (ix3 (⟨(j 0 : Fin 1024).val / 256, by have : (j 0 : Fin 1024).val < 1024 := (j 0 : Fin 1024).isLt; omega⟩ : Fin 4)
    (⟨(j 0 : Fin 1024).val % 256, Nat.mod_lt _ (by decide)⟩ : Fin 256) (j 1 : Fin 32768))

theorem attn_block (hx : ∀ i, Soft.Real' (x i)) (hq : ∀ i, Soft.Real' (wq i)) (hk : ∀ i, Soft.Real' (wk i)) :
    Host.attn (F := Ideal) d x (wqd wq d) wk wv = Layout.block ⟨2, ![1024, 1024]⟩ ⟨2, ![1024, 32768]⟩ 1 32 d (whole x wq wk wv) := by
  funext j
  have hj : j = ix2 (j 0 : Fin 1024) (j 1 : Fin 1024) := by funext t; fin_cases t <;> rfl
  refine (congrArg (Host.attn (F := Ideal) d x (wqd wq d) wk wv) hj).trans
    (((attn_eq x wq wk wv d hx hq hk (j 0) (j 1)).trans (block_at d (whole x wq wk wv) (j 0) (j 1)).symm).trans (congrArg _ hj.symm))

end

end Cert.AR

end
-- ==== Proof.lean ====
/- The claim of Defs.lean: the three frames from the two runs (Proof/Launch.lean for the exchange at any float values,
   Proof/Ref.lean for the reference), and the equation of the two results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Launch
public import proofs.«01_k».proof.Proof.Value
public import proofs.«01_k».proof.Proof.Host
public import proofs.«01_k».proof.Proof.Attn
public import proofs.«01_k».proof.Proof.Ref
public import Idealize.ShloMosaic.Adequacy
public import Idealize.ShloMosaic.Init

@[expose] public section

noncomputable section

namespace Cert.Proof

open Idealize.ShloMosaic Idealize.ShloMosaic.TcCoe Idealize.SL.Sem

/-- The kernel at any floats: it ends, its arguments kept, every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (Cert.AR.run_main m ρ)

/-- The two texts' body tables are one, -/
theorem tables₀ {F : FTy → Type} [FloatOps F] : (Cert.Kernel.defs₀ (F := F)) = Cert.KernelIdeal.defs₀ := by
  unfold Cert.Kernel.defs₀ Cert.KernelIdeal.defs₀
  refine congrArg Defs.onTc (funext fun l => funext fun p => ?_)
  match l, p with
  | 0, (t, s) => rfl
  | ⟨_ + 1, h⟩, _ => exact absurd h (Nat.not_lt.2 (Nat.le_add_left _ _))

/-- and so are the tables with the pipeline's own bodies. -/
theorem tables {F : FTy → Type} [FloatOps F] : (Cert.Kernel.defs (F := F)) = Cert.KernelIdeal.defs :=
  congrArg (Pipeline.defs (Cert.KernelIdeal.pcfgs (F := F))) tables₀

set_option maxHeartbeats 4000000 in
/-- The kernel at the machine's floats: its text is the idealized one's. -/
theorem frame_kernel : Cert.quiescent_Kernel := fun m ρ _ =>
  (congrArg (fun D => θ_run D (onTc (τ := Cert.Kernel.τ) (Cert.Kernel.main (F := Bits))) ⟨m, fun _ => 0, ρ⟩ _) (tables (F := Bits))).mpr
    (frame_any (F := Bits) m ρ)

/-- The kernel over the extended reals. -/
theorem frame_ideal : Cert.quiescent_KernelIdeal := fun m ρ _ => frame_any (F := Ideal) m ρ

/-- The reference over the extended reals. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The two results -/

theorem top_word : Ideal.ofBits .f32 0x7F800000#32 = (⊤ : EReal) := by simp [Ideal.ofBits, Ideal.ieee]

/-- An entry that the precondition's comparison passes is a real number. -/
theorem passed {y : EReal} (h : Ideal.cmp .olt (max y (-y)) (Ideal.ofBits .f32 0x7F800000#32) = 1#1) : Cert.AR.Soft.Real' y := by
  refine Cert.AR.Soft.real_of_abs ?_
  rw [top_word] at h
  unfold Ideal.cmp at h
  by_contra hn
  simp [hn] at h

section Value

variable (m : (ℓ : Loc Cert.KernelIdeal.nD Cert.KernelIdeal.τ Cert.KernelIdeal.sig) → Buf (Elt Ideal) ℓ)
variable (x : (⟨3, ![4, 256, 1024]⟩ : Shape).Idx → EReal) (wq : (⟨2, ![1024, 32768]⟩ : Shape).Idx → EReal)
variable (wk wv : (⟨2, ![1024, 8192]⟩ : Shape).Idx → EReal) (wo : (⟨2, ![32768, 1024]⟩ : Shape).Idx → EReal)

/-- Each device's memory holds its part of the five arrays. -/
def Holds : Prop := ∀ c : Dev Cert.KernelIdeal.nD,
  m ((c.tc : Thread Cert.KernelIdeal.nD Cert.KernelIdeal.τ).loc Cert.KernelIdeal.main_arg0) = x
  ∧ m ((c.tc : Thread Cert.KernelIdeal.nD Cert.KernelIdeal.τ).loc Cert.KernelIdeal.main_arg1) = Layout.block ⟨2, ![1024, 1024]⟩ ⟨2, ![1024, 32768]⟩ 1 32 c wq
  ∧ m ((c.tc : Thread Cert.KernelIdeal.nD Cert.KernelIdeal.τ).loc Cert.KernelIdeal.main_arg2) = wk
  ∧ m ((c.tc : Thread Cert.KernelIdeal.nD Cert.KernelIdeal.τ).loc Cert.KernelIdeal.main_arg3) = wv
  ∧ m ((c.tc : Thread Cert.KernelIdeal.nD Cert.KernelIdeal.τ).loc Cert.KernelIdeal.main_arg4) = Layout.block ⟨2, ![1024, 1024]⟩ ⟨2, ![32768, 1024]⟩ 0 32 c wo

variable (hag : Holds m x wq wk wv wo)
include hag

theorem reals (hpre : Cert.Pre_KernelIdeal_finite_KernelIdeal m) :
    (∀ i, Cert.AR.Soft.Real' (x i)) ∧ (∀ i, Cert.AR.Soft.Real' (wq i)) ∧ (∀ i, Cert.AR.Soft.Real' (wk i)) := by
  refine ⟨fun i => ?_, fun i => ?_, fun i => ?_⟩
  · have h := congrFun (hpre 0).1 i
    rw [← (hag 0).1]
    exact passed h
  · have hn : (i 1 : Fin 32768).val < 32768 := (i 1 : Fin 32768).isLt
    have h := congrFun (hpre (⟨(i 1 : Fin 32768).val / 1024, by omega⟩ : Fin 32)).2.1
      (ix2 (i 0 : Fin 1024) (⟨(i 1 : Fin 32768).val % 1024, Nat.mod_lt _ (by decide)⟩ : Fin 1024))
    have e := congrFun (hag (⟨(i 1 : Fin 32768).val / 1024, by omega⟩ : Fin 32)).2.1
      (ix2 (i 0 : Fin 1024) (⟨(i 1 : Fin 32768).val % 1024, Nat.mod_lt _ (by decide)⟩ : Fin 1024))
    have e' := e.trans (Cert.AR.block_at _ wq _ _)
    have hi : i = ix2 (i 0 : Fin 1024) (Cert.AR.cd (⟨(i 1 : Fin 32768).val / 1024, by omega⟩ : Fin 32) (⟨(i 1 : Fin 32768).val % 1024, Nat.mod_lt _ (by decide)⟩ : Fin 1024)) := by
      funext t; fin_cases t
      · rfl
      · exact Fin.ext (by show (i 1 : Fin 32768).val = 1024 * ((i 1 : Fin 32768).val / 1024) + (i 1 : Fin 32768).val % 1024; omega)
    refine (congrArg (fun j => Cert.AR.Soft.Real' (wq j)) hi).mpr ?_
    exact (congrArg Cert.AR.Soft.Real' e').mp (passed h)
  · have h := congrFun (hpre 0).2.2 i
    rw [← (hag 0).2.2.1]
    exact passed h

theorem left_block (hpre : Cert.Pre_KernelIdeal_finite_KernelIdeal m) (d : Dev Cert.KernelIdeal.nD) :
    Cert.AR.xbW (Cert.KernelIdeal.Gen.V1 m) d = Layout.block ⟨2, ![1024, 1024]⟩ ⟨2, ![1024, 32768]⟩ 1 32 d (Cert.AR.whole x wq wk wv) := by
  obtain ⟨hx, hq, hk⟩ := reals m x wq wk wv wo hag hpre
  refine ((Cert.AR.Host.v47_eq d (Cert.KernelIdeal.Gen.V0 m d)).trans ?_).trans (Cert.AR.attn_block x wq wk wv d hx hq hk)
  show Cert.AR.Host.attn (F := Ideal) d (m ((d.tc : Thread Cert.KernelIdeal.nD Cert.KernelIdeal.τ).loc Cert.KernelIdeal.main_arg0)) (m ((d.tc : Thread Cert.KernelIdeal.nD Cert.KernelIdeal.τ).loc Cert.KernelIdeal.main_arg1))
    (m ((d.tc : Thread Cert.KernelIdeal.nD Cert.KernelIdeal.τ).loc Cert.KernelIdeal.main_arg2)) (m ((d.tc : Thread Cert.KernelIdeal.nD Cert.KernelIdeal.τ).loc Cert.KernelIdeal.main_arg3)) = _
  rw [(hag d).1, (hag d).2.1, (hag d).2.2.1, (hag d).2.2.2.1]

theorem right_block (d : Dev Cert.KernelIdeal.nD) :
    Cert.AR.wbW (Cert.KernelIdeal.Gen.V1 m) d = Layout.block ⟨2, ![1024, 1024]⟩ ⟨2, ![32768, 1024]⟩ 0 32 d wo :=
  (Cert.KernelIdeal.Gen.V1_of m d Cert.KernelIdeal.main_arg4 (by decide)).trans (hag d).2.2.2.2

/-- What a device ends with is what the reference returns. -/
theorem equation (hpre : Cert.Pre_KernelIdeal_finite_KernelIdeal m) (c : Dev Cert.KernelIdeal.nD) :
    Cert.KernelIdeal.Gen.V3 m (Cert.AR.outs m) c Cert.KernelIdeal.main_v50 = Cert.AR.Ref.outR (F := Ideal) x wq wk wv wo := by
  refine (Cert.AR.Host.v50_eq (F := Ideal) (Cert.KernelIdeal.Gen.V2 m (Cert.AR.outs m) c)).trans ?_
  rw [Cert.AR.V2_eq]
  funext j
  have hj : j = ix3 (j 0 : Fin 4) (j 1 : Fin 256) (j 2 : Fin 1024) := by funext t; fin_cases t <;> rfl
  generalize (j 0 : Fin 4) = b at hj
  generalize (j 1 : Fin 256) = i at hj
  generalize (j 2 : Fin 1024) = n at hj
  subst hj
  refine Eq.trans ?_ (Cert.AR.Ref.outR_at x wq wk wv wo b i n).symm
  have hb : b.val < 4 := b.isLt
  have hi : i.val < 256 := i.isLt
  have hr : (256 * b.val + i.val) / 32 < 32 := by omega
  refine (shapeCast_apply _ _ (ix3 b i n) (ix3 (⟨(256 * b.val + i.val) / 32, hr⟩ : Fin 32) (⟨(256 * b.val + i.val) % 32, Nat.mod_lt _ (by decide)⟩ : Fin 32) n) (by
    rw [Shape.rowMajor_val_three, Shape.rowMajor_val_three]
    show ((256 * b.val + i.val) / 32 * 32 + (256 * b.val + i.val) % 32) * 1024 + n.val = (b.val * 256 + i.val) * 1024 + n.val
    omega)).trans ?_
  have hw : Cert.AR.afterW (Cert.KernelIdeal.Gen.V1 m) c (Proc.devRef .tc Cert.KernelIdeal.main_v48) = Cert.AR.outW (Cert.KernelIdeal.Gen.V1 m) := by
    unfold Cert.AR.afterW
    exact Function.update_self _ _ _
  refine (congrFun hw (ix3 (⟨(256 * b.val + i.val) / 32, hr⟩ : Fin 32) (⟨(256 * b.val + i.val) % 32, Nat.mod_lt _ (by decide)⟩ : Fin 32) n)).trans ?_
  generalize hk : (⟨(256 * b.val + i.val) / 32, hr⟩ : Fin 32) = k
  generalize ha : (⟨(256 * b.val + i.val) % 32, Nat.mod_lt _ (by decide)⟩ : Fin 32) = a
  have hR : 32 * k.val + a.val = 256 * b.val + i.val := by
    rw [← hk, ← ha]
    show 32 * ((256 * b.val + i.val) / 32) + (256 * b.val + i.val) % 32 = _
    omega
  show Cert.AR.resV (Cert.AR.xbW (Cert.KernelIdeal.Gen.V1 m)) (Cert.AR.wbW (Cert.KernelIdeal.Gen.V1 m)) k (Cert.AR.ix 0 a n) = _
  have e : (Cert.AR.ix (0 : Fin 1) a n) = ix3 (0 : Fin 1) a n := by funext t; fin_cases t <;> rfl
  refine (congrArg (Cert.AR.resV (Cert.AR.xbW (Cert.KernelIdeal.Gen.V1 m)) (Cert.AR.wbW (Cert.KernelIdeal.Gen.V1 m)) k) e).trans ?_
  refine ((Cert.AR.resV_at _ _ k a n).trans (Cert.AR.sum_blocks _ _ (Cert.AR.whole x wq wk wv) wo
    (left_block m x wq wk wv wo hag hpre) (right_block m x wq wk wv wo hag) _ _)).trans ?_
  refine Finset.sum_congr rfl fun t _ => congrArg (· * wo (ix2 t n)) ?_
  show Cert.AR.Ref.attn (F := Ideal) x wq wk wv (Idealize.ShloMosaic.ix3 _ _ t) = _
  refine congrArg (Cert.AR.Ref.attn (F := Ideal) x wq wk wv) ?_
  funext q; fin_cases q
  · exact Fin.ext (by show (32 * k.val + a.val) / 256 = b.val; omega)
  · exact Fin.ext (by show (32 * k.val + a.val) % 256 = i.val; omega)
  · rfl

end Value

theorem algebraic : Cert.algebraic_KernelIdeal_ReferenceIdeal_pre_finite_KernelIdeal := fun m ρ m' ρ' hpre hag =>
  ⟨Cert.AR.Ref.outR (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)),
    (θ_run Cert.KernelIdeal.defs _ _).mono (fun _ h c => ⟨(h.1 c).1.trans (equation m _ _ _ _ _ hag hpre c), (h.1 c).2⟩)
      (Cert.AR.run_main (F := Ideal) m ρ),
    (θ_run Cert.ReferenceIdeal.defs _ _).mono (fun _ h => ⟨(h 0).1.trans (Cert.AR.Ref.res_eq (F := Ideal) m' 0), (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, fun m ρ _ => frame_ideal m ρ trivial, frame_ref, fun m ρ _ => frame_ref m ρ trivial, trivial, algebraic⟩

end Cert.Proof

end
